-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite3 [hPre_all_finite3 : Cert.Pre_all_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite3 [hPre_all_finite3 : Cert.Pre_all_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_all_finite6 [hPre_all_finite6 : Cert.Pre_all_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_all_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_all_finite6 [hPre_all_finite6 : Cert.Pre_all_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_all_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_all_finite3 [hKernel3Ideal : Cert.Kernel3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_all_finite3 [hReference3Ideal : Cert.Reference3Ideal.Facts] [hPre_all_finite3 : Cert.Pre_all_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_all_finite6 [hKernel6Ideal : Cert.Kernel6Ideal.Facts] [hPre_all_finite6 : Cert.Pre_all_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_all_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_all_finite6 [hReference6Ideal : Cert.Reference6Ideal.Facts] [hPre_all_finite6 : Cert.Pre_all_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_all_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)) (v2 : (c : Dev Cert.KernelIdeal.nD) → Buf (Elt Ideal) ((c.tc : Thread Cert.KernelIdeal.nD Cert.KernelIdeal.τ).loc Cert.KernelIdeal.main_v82_2)) (v3 : (c : Dev Cert.KernelIdeal.nD) → Buf (Elt Ideal) ((c.tc : Thread Cert.KernelIdeal.nD Cert.KernelIdeal.τ).loc Cert.KernelIdeal.main_v82_3)) (v4 : (c : Dev Cert.KernelIdeal.nD) → Buf (Elt Ideal) ((c.tc : Thread Cert.KernelIdeal.nD Cert.KernelIdeal.τ).loc Cert.KernelIdeal.main_v82_4)) (v5 : (c : Dev Cert.KernelIdeal.nD) → Buf (Elt Ideal) ((c.tc : Thread Cert.KernelIdeal.nD Cert.KernelIdeal.τ).loc Cert.KernelIdeal.main_v82_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_v82_2) = v2 c
          ∧ r.2.mem ((c.tc : Thread Cert.KernelIdeal.nD Cert.KernelIdeal.τ).loc Cert.KernelIdeal.main_v82_3) = v3 c
          ∧ r.2.mem ((c.tc : Thread Cert.KernelIdeal.nD Cert.KernelIdeal.τ).loc Cert.KernelIdeal.main_v82_4) = v4 c
          ∧ r.2.mem ((c.tc : Thread Cert.KernelIdeal.nD Cert.KernelIdeal.τ).loc Cert.KernelIdeal.main_v82_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_v285) = v1 c
          ∧ r.2.mem ((c.tc : Thread Cert.ReferenceIdeal.nD Cert.ReferenceIdeal.τ).loc Cert.ReferenceIdeal.main_v286) = v2 c
          ∧ r.2.mem ((c.tc : Thread Cert.ReferenceIdeal.nD Cert.ReferenceIdeal.τ).loc Cert.ReferenceIdeal.main_v148) = v3 c
          ∧ r.2.mem ((c.tc : Thread Cert.ReferenceIdeal.nD Cert.ReferenceIdeal.τ).loc Cert.ReferenceIdeal.main_v120) = v4 c
          ∧ r.2.mem ((c.tc : Thread Cert.ReferenceIdeal.nD Cert.ReferenceIdeal.τ).loc Cert.ReferenceIdeal.main_v117) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_all_finite3 [hKernel3Ideal : Cert.Kernel3Ideal.Facts] [hReference3Ideal : Cert.Reference3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_all_finite6 [hKernel6Ideal : Cert.Kernel6Ideal.Facts] [hReference6Ideal : Cert.Reference6Ideal.Facts] [hPre_all_finite6 : Cert.Pre_all_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_all_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_v25) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_all_finite : Cert.Pre_all_finite.Facts) (hPre_all_finite2 : Cert.Pre_all_finite2.Facts) (hPre_all_finite3 : Cert.Pre_all_finite3.Facts) (hPre_all_finite6 : Cert.Pre_all_finite6.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Kernel3Ideal_pre_all_finite3 (hKernel3Ideal := hKernel3Ideal) (hPre_all_finite3 := hPre_all_finite3)
    ∧ quiescent_Reference3Ideal (hReference3Ideal := hReference3Ideal)
    ∧ quiescent_Reference3Ideal_pre_all_finite3 (hReference3Ideal := hReference3Ideal) (hPre_all_finite3 := hPre_all_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_all_finite6 (hKernel6Ideal := hKernel6Ideal) (hPre_all_finite6 := hPre_all_finite6)
    ∧ quiescent_Reference6Ideal (hReference6Ideal := hReference6Ideal)
    ∧ quiescent_Reference6Ideal_pre_all_finite6 (hReference6Ideal := hReference6Ideal) (hPre_all_finite6 := hPre_all_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal_pre_all_finite3 (hKernel3Ideal := hKernel3Ideal) (hReference3Ideal := hReference3Ideal) (hPre_all_finite3 := hPre_all_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_all_finite6 (hKernel6Ideal := hKernel6Ideal) (hReference6Ideal := hReference6Ideal) (hPre_all_finite6 := hPre_all_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_all_finite.lean ====
abbrev S4224x1024 : Shape := ⟨2, ![4224, 1024]⟩
abbrev S31x512 : Shape := ⟨2, ![31, 512]⟩
abbrev S1x512 : Shape := ⟨2, ![1, 512]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S31x512 : S_.BroadcastsInDim S31x512 (![] : Fin 0 → Fin S31x512.rank)
  reducesTo_S31x512_S_d0_1 : S31x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_v14 : IVec S_ 1) (main_v15 : FVec F S1x512 .f32) (main_cst_5 : FVec F S_ .f32) : IVec S_ 1 :=
  let main_v16 : FVec F S1x512 .f32 := broadcastInDim S1x512 ![] bcast_S_S1x512 main_cst_5
  let main_v17 : IVec S1x512 1 := cmpf .olt main_v15 main_v16
  let main_c_6 : IVec S_ 1 := constantI S_ 1 1#1
  let main_v18 : IVec S_ 1 := (fun x v => Host.reduce IntOp.andi x v reducesTo_S1x512_S_d0_1 h_S_) main_v17 main_c_6
  let main_v19 : IVec S_ 1 := andi main_v14 main_v18
  let main_v20 : FVec F S1x512 .f32 := Host.absf main_arg4
  let main_cst_7 : FVec F S_ .f32 := constant S_ .f32 0x7F800000#32
  let main_v21 : FVec F S1x512 .f32 := broadcastInDim S1x512 ![] bcast_S_S1x512 main_cst_7
  let main_v22 : IVec S1x512 1 := cmpf .olt main_v20 main_v21
  let main_c_8 : IVec S_ 1 := constantI S_ 1 1#1
  let main_v23 : IVec S_ 1 := (fun x v => Host.reduce IntOp.andi x v reducesTo_S1x512_S_d0_1 h_S_) main_v22 main_c_8
  let main_v24 : IVec S_ 1 := andi main_v19 main_v23
  let main_v25 : FVec F S1x512 .f32 := Host.absf main_arg5
  let main_cst_9 : FVec F S_ .f32 := constant S_ .f32 0x7F800000#32
  let main_v26 : FVec F S1x512 .f32 := broadcastInDim S1x512 ![] bcast_S_S1x512 main_cst_9
  let main_v27 : IVec S1x512 1 := cmpf .olt main_v25 main_v26
  let main_c_10 : IVec S_ 1 := constantI S_ 1 1#1
  let main_v28 : IVec S_ 1 := (fun x v => Host.reduce IntOp.andi x v reducesTo_S1x512_S_d0_1 h_S_) main_v27 main_c_10
  let main_v29 : IVec S_ 1 := andi main_v24 main_v28
  main_v29

def fn {F : FTy → Type} [FloatOps F] (main_arg0 : FVec F S4224x1024 .f32) (main_arg1 : FVec F S4224x1024 .f32) (main_arg2 : FVec F S31x512 .f32) (main_arg3 : FVec F S1x512 .f32) (main_arg4 : FVec F S1x512 .f32) (main_arg5 : FVec F S1x512 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_c_0 : IVec S_ 1 := constantI S_ 1 1#1
  let main_v4 : IVec S_ 1 := andi main_c_0 main_v3
  let main_v5 : FVec F S4224x1024 .f32 := Host.absf main_arg1
  let main_cst_1 : FVec F S_ .f32 := constant S_ .f32 0x7F800000#32
  let main_v6 : FVec F S4224x1024 .f32 := broadcastInDim S4224x1024 ![] bcast_S_S4224x1024 main_cst_1
  let main_v7 : IVec S4224x1024 1 := cmpf .olt main_v5 main_v6
  let main_c_2 : IVec S_ 1 := constantI S_ 1 1#1
  let main_v8 : IVec S_ 1 := (fun x v => Host.reduce IntOp.andi x v reducesTo_S4224x1024_S_d0_1 h_S_) main_v7 main_c_2
  let main_v9 : IVec S_ 1 := andi main_v4 main_v8
  let main_v10 : FVec F S31x512 .f32 := Host.absf main_arg2
  let main_cst_3 : FVec F S_ .f32 := constant S_ .f32 0x7F800000#32
  let main_v11 : FVec F S31x512 .f32 := broadcastInDim S31x512 ![] bcast_S_S31x512 main_cst_3
  let main_v12 : IVec S31x512 1 := cmpf .olt main_v10 main_v11
  let main_c_4 : IVec S_ 1 := constantI S_ 1 1#1
  let main_v13 : IVec S_ 1 := (fun x v => Host.reduce IntOp.andi x v reducesTo_S31x512_S_d0_1 h_S_) main_v12 main_c_4
  let main_v14 : IVec S_ 1 := andi main_v9 main_v13
  let main_v15 : FVec F S1x512 .f32 := Host.absf main_arg3
  let main_cst_5 : FVec F S_ .f32 := constant S_ .f32 0x7F800000#32
  fn_part1 (F := F) main_arg4 main_arg5 main_v14 main_v15 main_cst_5
-- ==== Pre_all_finite2.lean ====
abbrev S4224x1024 : Shape := ⟨2, ![4224, 1024]⟩
abbrev S1x2816x1024 : Shape := ⟨3, ![1, 2816, 1024]⟩
abbrev S4224x2816 : Shape := ⟨2, ![4224, 2816]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bitsLt_bf16_f32 : FTy.bits .bf16 < FTy.bits .f32
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4224x2816 : S_.BroadcastsInDim S4224x2816 (![] : Fin 0 → Fin S4224x2816.rank)
  reducesTo_S4224x2816_S_d0_1 : S4224x2816.ReducesTo [0, 1] S_

variable [Facts]

def fn_part1 {F : FTy → Type} [FloatOps F] (main_arg3 : FVec F S4224x2816 .bf16) (main_v16 : IVec S_ 1) : IVec S_ 1 :=
  let main_v17 : FVec F S4224x2816 .f32 := (extf .f32 · bitsLt_bf16_f32) main_arg3
  let main_v18 : FVec F S4224x2816 .f32 := Host.absf main_v17
  let main_cst_5 : FVec F S_ .f32 := constant S_ .f32 0x7F800000#32
  let main_v19 : FVec F S4224x2816 .f32 := broadcastInDim S4224x2816 ![] bcast_S_S4224x2816 main_cst_5
  let main_v20 : IVec S4224x2816 1 := cmpf .olt main_v18 main_v19
  let main_c_6 : IVec S_ 1 := constantI S_ 1 1#1
  let main_v21 : IVec S_ 1 := (fun x v => Host.reduce IntOp.andi x v reducesTo_S4224x2816_S_d0_1 h_S_) main_v20 main_c_6
  let main_v22 : IVec S_ 1 := andi main_v16 main_v21
  main_v22

def fn {F : FTy → Type} [FloatOps F] (main_arg0 : FVec F S4224x1024 .f32) (main_arg1 : FVec F S1x2816x1024 .bf16) (main_arg2 : FVec F S4224x2816 .bf16) (main_arg3 : FVec F S4224x2816 .bf16) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_c_0 : IVec S_ 1 := constantI S_ 1 1#1
  let main_v4 : IVec S_ 1 := andi main_c_0 main_v3
  let main_v5 : FVec F S1x2816x1024 .f32 := (extf .f32 · bitsLt_bf16_f32) main_arg1
  let main_v6 : FVec F S1x2816x1024 .f32 := Host.absf main_v5
  let main_cst_1 : FVec F S_ .f32 := constant S_ .f32 0x7F800000#32
  let main_v7 : FVec F S1x2816x1024 .f32 := broadcastInDim S1x2816x1024 ![] bcast_S_S1x2816x1024 main_cst_1
  let main_v8 : IVec S1x2816x1024 1 := cmpf .olt main_v6 main_v7
  let main_c_2 : IVec S_ 1 := constantI S_ 1 1#1
  let main_v9 : IVec S_ 1 := (fun x v => Host.reduce IntOp.andi x v reducesTo_S1x2816x1024_S_d0_1_2 h_S_) main_v8 main_c_2
  let main_v10 : IVec S_ 1 := andi main_v4 main_v9
  let main_v11 : FVec F S4224x2816 .f32 := (extf .f32 · bitsLt_bf16_f32) main_arg2
  let main_v12 : FVec F S4224x2816 .f32 := Host.absf main_v11
  let main_cst_3 : FVec F S_ .f32 := constant S_ .f32 0x7F800000#32
  let main_v13 : FVec F S4224x2816 .f32 := broadcastInDim S4224x2816 ![] bcast_S_S4224x2816 main_cst_3
  let main_v14 : IVec S4224x2816 1 := cmpf .olt main_v12 main_v13
  let main_c_4 : IVec S_ 1 := constantI S_ 1 1#1
  let main_v15 : IVec S_ 1 := (fun x v => Host.reduce IntOp.andi x v reducesTo_S4224x2816_S_d0_1 h_S_) main_v14 main_c_4
  let main_v16 : IVec S_ 1 := andi main_v10 main_v15
  fn_part1 (F := F) main_arg3 main_v16
-- ==== Pre_all_finite3.lean ====
abbrev S4224x2816 : Shape := ⟨2, ![4224, 2816]⟩
abbrev S1x2816x1024 : Shape := ⟨3, ![1, 2816, 1024]⟩
abbrev S4224x1024 : Shape := ⟨2, ![4224, 1024]⟩
abbrev S1x1024 : Shape := ⟨2, ![1, 1024]⟩
abbrev S_ : Shape := ⟨0, ![]⟩

class Facts : Prop where
  bitsLt_bf16_f32 : FTy.bits .bf16 < FTy.bits .f32
  bcast_S_S4224x2816 : S_.BroadcastsInDim S4224x2816 (![] : Fin 0 → Fin S4224x2816.rank)
  reducesTo_S4224x2816_S_d0_1 : S4224x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4224x1024 : S_.BroadcastsInDim S4224x1024 (![] : Fin 0 → Fin S4224x1024.rank)
  reducesTo_S4224x1024_S_d0_1 : S4224x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v33 : IVec S_ 1) (main_v34 : FVec F S4224x1024 .f32) : IVec S_ 1 :=
  let main_cst_11 : FVec F S_ .f32 := constant S_ .f32 0x7F800000#32
  let main_v35 : FVec F S4224x1024 .f32 := broadcastInDim S4224x1024 ![] bcast_S_S4224x1024 main_cst_11
  let main_v36 : IVec S4224x1024 1 := cmpf .olt main_v34 main_v35
  let main_c_12 : IVec S_ 1 := constantI S_ 1 1#1
  let main_v37 : IVec S_ 1 := (fun x v => Host.reduce IntOp.andi x v reducesTo_S4224x1024_S_d0_1 h_S_) main_v36 main_c_12
  let main_v38 : IVec S_ 1 := andi main_v33 main_v37
  main_v38

def fn_part1 {F : FTy → Type} [FloatOps F] (main_arg3 : FVec F S1x2816x1024 .bf16) (main_arg4 : FVec F S4224x1024 .f32) (main_arg5 : FVec F S1x1024 .f32) (main_arg6 : FVec F S4224x1024 .f32) (main_v11 : IVec S_ 1) (main_v16 : IVec S_ 1) : IVec S_ 1 :=
  let main_v17 : IVec S_ 1 := andi main_v11 main_v16
  let main_v18 : FVec F S1x2816x1024 .f32 := (extf .f32 · bitsLt_bf16_f32) main_arg3
  let main_v19 : FVec F S1x2816x1024 .f32 := Host.absf main_v18
  let main_cst_5 : FVec F S_ .f32 := constant S_ .f32 0x7F800000#32
  let main_v20 : FVec F S1x2816x1024 .f32 := broadcastInDim S1x2816x1024 ![] bcast_S_S1x2816x1024 main_cst_5
  let main_v21 : IVec S1x2816x1024 1 := cmpf .olt main_v19 main_v20
  let main_c_6 : IVec S_ 1 := constantI S_ 1 1#1
  let main_v22 : IVec S_ 1 := (fun x v => Host.reduce IntOp.andi x v reducesTo_S1x2816x1024_S_d0_1_2 h_S_) main_v21 main_c_6
  let main_v23 : IVec S_ 1 := andi main_v17 main_v22
  let main_v24 : FVec F S4224x1024 .f32 := Host.absf main_arg4
  let main_cst_7 : FVec F S_ .f32 := constant S_ .f32 0x7F800000#32
  let main_v25 : FVec F S4224x1024 .f32 := broadcastInDim S4224x1024 ![] bcast_S_S4224x1024 main_cst_7
  let main_v26 : IVec S4224x1024 1 := cmpf .olt main_v24 main_v25
  let main_c_8 : IVec S_ 1 := constantI S_ 1 1#1
  let main_v27 : IVec S_ 1 := (fun x v => Host.reduce IntOp.andi x v reducesTo_S4224x1024_S_d0_1 h_S_) main_v26 main_c_8
  let main_v28 : IVec S_ 1 := andi main_v23 main_v27
  let main_v29 : FVec F S1x1024 .f32 := Host.absf main_arg5
  let main_cst_9 : FVec F S_ .f32 := constant S_ .f32 0x7F800000#32
  let main_v30 : FVec F S1x1024 .f32 := broadcastInDim S1x1024 ![] bcast_S_S1x1024 main_cst_9
  let main_v31 : IVec S1x1024 1 := cmpf .olt main_v29 main_v30
  let main_c_10 : IVec S_ 1 := constantI S_ 1 1#1
  let main_v32 : IVec S_ 1 := (fun x v => Host.reduce IntOp.andi x v reducesTo_S1x1024_S_d0_1 h_S_) main_v31 main_c_10
  let main_v33 : IVec S_ 1 := andi main_v28 main_v32
  let main_v34 : FVec F S4224x1024 .f32 := Host.absf main_arg6
  fn_part2 (F := F) main_v33 main_v34

def fn {F : FTy → Type} [FloatOps F] (main_arg0 : FVec F S4224x2816 .bf16) (main_arg1 : FVec F S4224x2816 .bf16) (main_arg2 : FVec F S1x2816x1024 .bf16) (main_arg3 : FVec F S1x2816x1024 .bf16) (main_arg4 : FVec F S4224x1024 .f32) (main_arg5 : FVec F S1x1024 .f32) (main_arg6 : FVec F S4224x1024 .f32) : IVec S_ 1 :=
  let main_v0 : FVec F S4224x2816 .f32 := (extf .f32 · bitsLt_bf16_f32) main_arg0
  let main_v1 : FVec F S4224x2816 .f32 := Host.absf main_v0
  let main_cst : FVec F S_ .f32 := constant S_ .f32 0x7F800000#32
  let main_v2 : FVec F S4224x2816 .f32 := broadcastInDim S4224x2816 ![] bcast_S_S4224x2816 main_cst
  let main_v3 : IVec S4224x2816 1 := cmpf .olt main_v1 main_v2
  let main_c : IVec S_ 1 := constantI S_ 1 1#1
  let main_v4 : IVec S_ 1 := (fun x v => Host.reduce IntOp.andi x v reducesTo_S4224x2816_S_d0_1 h_S_) main_v3 main_c
  let main_c_0 : IVec S_ 1 := constantI S_ 1 1#1
  let main_v5 : IVec S_ 1 := andi main_c_0 main_v4
  let main_v6 : FVec F S4224x2816 .f32 := (extf .f32 · bitsLt_bf16_f32) main_arg1
  let main_v7 : FVec F S4224x2816 .f32 := Host.absf main_v6
  let main_cst_1 : FVec F S_ .f32 := constant S_ .f32 0x7F800000#32
  let main_v8 : FVec F S4224x2816 .f32 := broadcastInDim S4224x2816 ![] bcast_S_S4224x2816 main_cst_1
  let main_v9 : IVec S4224x2816 1 := cmpf .olt main_v7 main_v8
  let main_c_2 : IVec S_ 1 := constantI S_ 1 1#1
  let main_v10 : IVec S_ 1 := (fun x v => Host.reduce IntOp.andi x v reducesTo_S4224x2816_S_d0_1 h_S_) main_v9 main_c_2
  let main_v11 : IVec S_ 1 := andi main_v5 main_v10
  let main_v12 : FVec F S1x2816x1024 .f32 := (extf .f32 · bitsLt_bf16_f32) main_arg2
  let main_v13 : FVec F S1x2816x1024 .f32 := Host.absf main_v12
  let main_cst_3 : FVec F S_ .f32 := constant S_ .f32 0x7F800000#32
  let main_v14 : FVec F S1x2816x1024 .f32 := broadcastInDim S1x2816x1024 ![] bcast_S_S1x2816x1024 main_cst_3
  let main_v15 : IVec S1x2816x1024 1 := cmpf .olt main_v13 main_v14
  let main_c_4 : IVec S_ 1 := constantI S_ 1 1#1
  let main_v16 : IVec S_ 1 := (fun x v => Host.reduce IntOp.andi x v reducesTo_S1x2816x1024_S_d0_1_2 h_S_) main_v15 main_c_4
  fn_part1 (F := F) main_arg3 main_arg4 main_arg5 main_arg6 main_v11 main_v16
-- ==== Pre_all_finite6.lean ====
abbrev S4224x2560 : Shape := ⟨2, ![4224, 2560]⟩
abbrev S1x1024x2560 : Shape := ⟨3, ![1, 1024, 2560]⟩
abbrev S4224x1024 : Shape := ⟨2, ![4224, 1024]⟩
abbrev S1x1024 : Shape := ⟨2, ![1, 1024]⟩
abbrev S_ : Shape := ⟨0, ![]⟩

class Facts : Prop where
  bitsLt_bf16_f32 : FTy.bits .bf16 < FTy.bits .f32
  bcast_S_S4224x2560 : S_.BroadcastsInDim S4224x2560 (![] : Fin 0 → Fin S4224x2560.rank)
  reducesTo_S4224x2560_S_d0_1 : S4224x2560.ReducesTo [0, 1] S_
  h_S_ : 0 < S_.numel
  bcast_S_S1x1024x2560 : S_.BroadcastsInDim S1x1024x2560 (![] : Fin 0 → Fin S1x1024x2560.rank)
  reducesTo_S1x1024x2560_S_d0_1_2 : S1x1024x2560.ReducesTo [0, 1, 2] S_
  bcast_S_S4224x1024 : S_.BroadcastsInDim S4224x1024 (![] : Fin 0 → Fin S4224x1024.rank)
  reducesTo_S4224x1024_S_d0_1 : S4224x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg3 : FVec F S1x1024 .f32) (main_arg4 : FVec F S4224x1024 .f32) (main_v16 : IVec S_ 1) : IVec S_ 1 :=
  let main_v17 : FVec F S1x1024 .f32 := Host.absf main_arg3
  let main_cst_5 : FVec F S_ .f32 := constant S_ .f32 0x7F800000#32
  let main_v18 : FVec F S1x1024 .f32 := broadcastInDim S1x1024 ![] bcast_S_S1x1024 main_cst_5
  let main_v19 : IVec S1x1024 1 := cmpf .olt main_v17 main_v18
  let main_c_6 : IVec S_ 1 := constantI S_ 1 1#1
  let main_v20 : IVec S_ 1 := (fun x v => Host.reduce IntOp.andi x v reducesTo_S1x1024_S_d0_1 h_S_) main_v19 main_c_6
  let main_v21 : IVec S_ 1 := andi main_v16 main_v20
  let main_v22 : FVec F S4224x1024 .f32 := Host.absf main_arg4
  let main_cst_7 : FVec F S_ .f32 := constant S_ .f32 0x7F800000#32
  let main_v23 : FVec F S4224x1024 .f32 := broadcastInDim S4224x1024 ![] bcast_S_S4224x1024 main_cst_7
  let main_v24 : IVec S4224x1024 1 := cmpf .olt main_v22 main_v23
  let main_c_8 : IVec S_ 1 := constantI S_ 1 1#1
  let main_v25 : IVec S_ 1 := (fun x v => Host.reduce IntOp.andi x v reducesTo_S4224x1024_S_d0_1 h_S_) main_v24 main_c_8
  let main_v26 : IVec S_ 1 := andi main_v21 main_v25
  main_v26

def fn {F : FTy → Type} [FloatOps F] (main_arg0 : FVec F S4224x2560 .bf16) (main_arg1 : FVec F S1x1024x2560 .bf16) (main_arg2 : FVec F S4224x1024 .f32) (main_arg3 : FVec F S1x1024 .f32) (main_arg4 : FVec F S4224x1024 .f32) : IVec S_ 1 :=
  let main_v0 : FVec F S4224x2560 .f32 := (extf .f32 · bitsLt_bf16_f32) main_arg0
  let main_v1 : FVec F S4224x2560 .f32 := Host.absf main_v0
  let main_cst : FVec F S_ .f32 := constant S_ .f32 0x7F800000#32
  let main_v2 : FVec F S4224x2560 .f32 := broadcastInDim S4224x2560 ![] bcast_S_S4224x2560 main_cst
  let main_v3 : IVec S4224x2560 1 := cmpf .olt main_v1 main_v2
  let main_c : IVec S_ 1 := constantI S_ 1 1#1
  let main_v4 : IVec S_ 1 := (fun x v => Host.reduce IntOp.andi x v reducesTo_S4224x2560_S_d0_1 h_S_) main_v3 main_c
  let main_c_0 : IVec S_ 1 := constantI S_ 1 1#1
  let main_v5 : IVec S_ 1 := andi main_c_0 main_v4
  let main_v6 : FVec F S1x1024x2560 .f32 := (extf .f32 · bitsLt_bf16_f32) main_arg1
  let main_v7 : FVec F S1x1024x2560 .f32 := Host.absf main_v6
  let main_cst_1 : FVec F S_ .f32 := constant S_ .f32 0x7F800000#32
  let main_v8 : FVec F S1x1024x2560 .f32 := broadcastInDim S1x1024x2560 ![] bcast_S_S1x1024x2560 main_cst_1
  let main_v9 : IVec S1x1024x2560 1 := cmpf .olt main_v7 main_v8
  let main_c_2 : IVec S_ 1 := constantI S_ 1 1#1
  let main_v10 : IVec S_ 1 := (fun x v => Host.reduce IntOp.andi x v reducesTo_S1x1024x2560_S_d0_1_2 h_S_) main_v9 main_c_2
  let main_v11 : IVec S_ 1 := andi main_v5 main_v10
  let main_v12 : FVec F S4224x1024 .f32 := Host.absf main_arg2
  let main_cst_3 : FVec F S_ .f32 := constant S_ .f32 0x7F800000#32
  let main_v13 : FVec F S4224x1024 .f32 := broadcastInDim S4224x1024 ![] bcast_S_S4224x1024 main_cst_3
  let main_v14 : IVec S4224x1024 1 := cmpf .olt main_v12 main_v13
  let main_c_4 : IVec S_ 1 := constantI S_ 1 1#1
  let main_v15 : IVec S_ 1 := (fun x v => Host.reduce IntOp.andi x v reducesTo_S4224x1024_S_d0_1 h_S_) main_v14 main_c_4
  let main_v16 : IVec S_ 1 := andi main_v11 main_v15
  fn_part1 (F := F) main_arg3 main_arg4 main_v16
-- ==== Kernel.lean ====
abbrev S4224x1024 : Shape := ⟨2, ![4224, 1024]⟩
abbrev S31x512 : Shape := ⟨2, ![31, 512]⟩
abbrev S1x512 : Shape := ⟨2, ![1, 512]⟩
abbrev S4224x512 : Shape := ⟨2, ![4224, 512]⟩
abbrev S_ : Shape := ⟨0, ![]⟩
abbrev S30x512 : Shape := ⟨2, ![30, 512]⟩
abbrev S4254x512 : Shape := ⟨2, ![4254, 512]⟩
abbrev S1x4224x512 : Shape := ⟨3, ![1, 4224, 512]⟩
abbrev S16x4224x512 : Shape := ⟨3, ![16, 4224, 512]⟩
abbrev S15x4224x512 : Shape := ⟨3, ![15, 4224, 512]⟩
abbrev S31x4224x512 : Shape := ⟨3, ![31, 4224, 512]⟩
abbrev S31x1x512 : Shape := ⟨3, ![31, 1, 512]⟩
abbrev S32x512 : Shape := ⟨2, ![32, 512]⟩
abbrev S384x1024 : Shape := ⟨2, ![384, 1024]⟩
abbrev S32x1024 : Shape := ⟨2, ![32, 1024]⟩
abbrev S384x512 : Shape := ⟨2, ![384, 512]⟩
abbrev S416x512 : Shape := ⟨2, ![416, 512]⟩
abbrev S7x408x512 : Shape := ⟨3, ![7, 408, 512]⟩
abbrev S408x512 : Shape := ⟨2, ![408, 512]⟩
abbrev S1x408x512 : Shape := ⟨3, ![1, 408, 512]⟩
abbrev S32 : Shape := ⟨1, ![32]⟩
abbrev S32x1 : Shape := ⟨2, ![32, 1]⟩
abbrev S512 : Shape := ⟨1, ![512]⟩
abbrev S1x384x512 : Shape := ⟨3, ![1, 384, 512]⟩
abbrev S1x32x512 : Shape := ⟨3, ![1, 32, 512]⟩

abbrev nBuf : Space → Nat
  | .hbm => 98
  | .vmem => 27
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S4224x512, .f32⟩
  | .hbm, ⟨7, _⟩ => ⟨S4224x512, .f32⟩
  | .hbm, ⟨8, _⟩ => ⟨S4224x512, .f32⟩
  | .hbm, ⟨9, _⟩ => ⟨S4224x512, .f32⟩
  | .hbm, ⟨10, _⟩ => ⟨S_, .f32⟩
  | .hbm, ⟨11, _⟩ => ⟨S4224x512, .f32⟩
  | .hbm, ⟨12, _⟩ => ⟨S4224x512, .f32⟩
  | .hbm, ⟨13, _⟩ => ⟨S_, .f32⟩
  | .hbm, ⟨14, _⟩ => ⟨S4224x512, .f32⟩
  | .hbm, ⟨15, _⟩ => ⟨S4224x512, .f32⟩
  | .hbm, ⟨16, _⟩ => ⟨S4224x512, .f32⟩
  | .hbm, ⟨17, _⟩ => ⟨S_, .f32⟩
  | .hbm, ⟨18, _⟩ => ⟨S30x512, .f32⟩
  | .hbm, ⟨19, _⟩ => ⟨S4254x512, .f32⟩
  | .hbm, ⟨20, _⟩ => ⟨S4224x512, .f32⟩
  | .hbm, ⟨21, _⟩ => ⟨S4224x512, .f32⟩
  | .hbm, ⟨22, _⟩ => ⟨S4224x512, .f32⟩
  | .hbm, ⟨23, _⟩ => ⟨S4224x512, .f32⟩
  | .hbm, ⟨24, _⟩ => ⟨S4224x512, .f32⟩
  | .hbm, ⟨25, _⟩ => ⟨S4224x512, .f32⟩
  | .hbm, ⟨26, _⟩ => ⟨S4224x512, .f32⟩
  | .hbm, ⟨27, _⟩ => ⟨S4224x512, .f32⟩
  | .hbm, ⟨28, _⟩ => ⟨S4224x512, .f32⟩
  | .hbm, ⟨29, _⟩ => ⟨S4224x512, .f32⟩
  | .hbm, ⟨30, _⟩ => ⟨S4224x512, .f32⟩
  | .hbm, ⟨31, _⟩ => ⟨S4224x512, .f32⟩
  | .hbm, ⟨32, _⟩ => ⟨S4224x512, .f32⟩
  | .hbm, ⟨33, _⟩ => ⟨S4224x512, .f32⟩
  | .hbm, ⟨34, _⟩ => ⟨S4224x512, .f32⟩
  | .hbm, ⟨35, _⟩ => ⟨S4224x512, .f32⟩
  | .hbm, ⟨36, _⟩ => ⟨S4224x512, .f32⟩
  | .hbm, ⟨37, _⟩ => ⟨S4224x512, .f32⟩
  | .hbm, ⟨38, _⟩ => ⟨S4224x512, .f32⟩
  | .hbm, ⟨39, _⟩ => ⟨S4224x512, .f32⟩
  | .hbm, ⟨40, _⟩ => ⟨S4224x512, .f32⟩
  | .hbm, ⟨41, _⟩ => ⟨S4224x512, .f32⟩
  | .hbm, ⟨42, _⟩ => ⟨S4224x512, .f32⟩
  | .hbm, ⟨43, _⟩ => ⟨S4224x512, .f32⟩
  | .hbm, ⟨44, _⟩ => ⟨S4224x512, .f32⟩
  | .hbm, ⟨45, _⟩ => ⟨S4224x512, .f32⟩
  | .hbm, ⟨46, _⟩ => ⟨S4224x512, .f32⟩
  | .hbm, ⟨47, _⟩ => ⟨S4224x512, .f32⟩
  | .hbm, ⟨48, _⟩ => ⟨S4224x512, .f32⟩
  | .hbm, ⟨49, _⟩ => ⟨S4224x512, .f32⟩
  | .hbm, ⟨50, _⟩ => ⟨S4224x512, .f32⟩
  | .hbm, ⟨51, _⟩ => ⟨S1x4224x512, .f32⟩
  | .hbm, ⟨52, _⟩ => ⟨S1x4224x512, .f32⟩
  | .hbm, ⟨53, _⟩ => ⟨S1x4224x512, .f32⟩
  | .hbm, ⟨54, _⟩ => ⟨S1x4224x512, .f32⟩
  | .hbm, ⟨55, _⟩ => ⟨S1x4224x512, .f32⟩
  | .hbm, ⟨56, _⟩ => ⟨S1x4224x512, .f32⟩
  | .hbm, ⟨57, _⟩ => ⟨S1x4224x512, .f32⟩
  | .hbm, ⟨58, _⟩ => ⟨S1x4224x512, .f32⟩
  | .hbm, ⟨59, _⟩ => ⟨S1x4224x512, .f32⟩
  | .hbm, ⟨60, _⟩ => ⟨S1x4224x512, .f32⟩
  | .hbm, ⟨61, _⟩ => ⟨S1x4224x512, .f32⟩
  | .hbm, ⟨62, _⟩ => ⟨S1x4224x512, .f32⟩
  | .hbm, ⟨63, _⟩ => ⟨S1x4224x512, .f32⟩
  | .hbm, ⟨64, _⟩ => ⟨S1x4224x512, .f32⟩
  | .hbm, ⟨65, _⟩ => ⟨S1x4224x512, .f32⟩
  | .hbm, ⟨66, _⟩ => ⟨S1x4224x512, .f32⟩
  | .hbm, ⟨67, _⟩ => ⟨S1x4224x512, .f32⟩
  | .hbm, ⟨68, _⟩ => ⟨S1x4224x512, .f32⟩
  | .hbm, ⟨69, _⟩ => ⟨S1x4224x512, .f32⟩
  | .hbm, ⟨70, _⟩ => ⟨S1x4224x512, .f32⟩
  | .hbm, ⟨71, _⟩ => ⟨S1x4224x512, .f32⟩
  | .hbm, ⟨72, _⟩ => ⟨S1x4224x512, .f32⟩
  | .hbm, ⟨73, _⟩ => ⟨S1x4224x512, .f32⟩
  | .hbm, ⟨74, _⟩ => ⟨S1x4224x512, .f32⟩
  | .hbm, ⟨75, _⟩ => ⟨S1x4224x512, .f32⟩
  | .hbm, ⟨76, _⟩ => ⟨S1x4224x512, .f32⟩
  | .hbm, ⟨77, _⟩ => ⟨S1x4224x512, .f32⟩
  | .hbm, ⟨78, _⟩ => ⟨S1x4224x512, .f32⟩
  | .hbm, ⟨79, _⟩ => ⟨S1x4224x512, .f32⟩
  | .hbm, ⟨80, _⟩ => ⟨S1x4224x512, .f32⟩
  | .hbm, ⟨81, _⟩ => ⟨S1x4224x512, .f32⟩
  | .hbm, ⟨82, _⟩ => ⟨S16x4224x512, .f32⟩
  | .hbm, ⟨83, _⟩ => ⟨S15x4224x512, .f32⟩
  | .hbm, ⟨84, _⟩ => ⟨S31x4224x512, .f32⟩
  | .hbm, ⟨85, _⟩ => ⟨S31x1x512, .f32⟩
  | .hbm, ⟨86, _⟩ => ⟨S31x4224x512, .f32⟩
  | .hbm, ⟨87, _⟩ => ⟨S31x4224x512, .f32⟩
  | .hbm, ⟨88, _⟩ => ⟨S_, .f32⟩
  | .hbm, ⟨89, _⟩ => ⟨S4224x512, .f32⟩
  | .hbm, ⟨90, _⟩ => ⟨S4224x512, .f32⟩
  | .hbm, ⟨91, _⟩ => ⟨S4224x512, .f32⟩
  | .hbm, ⟨92, _⟩ => ⟨S4224x512, .bf16⟩
  | .hbm, ⟨93, _⟩ => ⟨S4224x512, .bf16⟩
  | .hbm, ⟨94, _⟩ => ⟨S32x512, .f32⟩
  | .hbm, ⟨95, _⟩ => ⟨S1x512, .f32⟩
  | .hbm, ⟨96, _⟩ => ⟨S1x512, .f32⟩
  | .hbm, ⟨97, _⟩ => ⟨S1x512, .f32⟩
  | .local _ .vmem, ⟨0, _⟩ => ⟨S384x1024, .f32⟩
  | .local _ .vmem, ⟨1, _⟩ => ⟨S384x1024, .f32⟩
  | .local _ .vmem, ⟨2, _⟩ => ⟨S32x1024, .f32⟩
  | .local _ .vmem, ⟨3, _⟩ => ⟨S32x1024, .f32⟩
  | .local _ .vmem, ⟨4, _⟩ => ⟨S384x512, .f32⟩
  | .local _ .vmem, ⟨5, _⟩ => ⟨S384x512, .f32⟩
  | .local _ .vmem, ⟨6, _⟩ => ⟨S32x512, .f32⟩
  | .local _ .vmem, ⟨7, _⟩ => ⟨S32x512, .f32⟩
  | .local _ .vmem, ⟨8, _⟩ => ⟨S384x512, .f32⟩
  | .local _ .vmem, ⟨9, _⟩ => ⟨S384x512, .f32⟩
  | .local _ .vmem, ⟨10, _⟩ => ⟨S32x512, .f32⟩
  | .local _ .vmem, ⟨11, _⟩ => ⟨S32x512, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S384x512, .bf16⟩
  | .local _ .vmem, ⟨16, _⟩ => ⟨S384x512, .bf16⟩
  | .local _ .vmem, ⟨17, _⟩ => ⟨S384x512, .bf16⟩
  | .local _ .vmem, ⟨18, _⟩ => ⟨S384x512, .bf16⟩
  | .local _ .vmem, ⟨19, _⟩ => ⟨S32x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S416x512, .f32⟩
  | .local _ .vmem, ⟨24, _⟩ => ⟨S7x408x512, .f32⟩
  | .local _ .vmem, ⟨25, _⟩ => ⟨S416x512, .f32⟩
  | .local _ .vmem, ⟨26, _⟩ => ⟨S7x408x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_2 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82_0 : Ref sig .tc := ⟨.hbm, 92, rfl⟩
abbrev main_v82_1 : Ref sig .tc := ⟨.hbm, 93, rfl⟩
abbrev main_v82_2 : Ref sig .tc := ⟨.hbm, 94, rfl⟩
abbrev main_v82_3 : Ref sig .tc := ⟨.hbm, 95, rfl⟩
abbrev main_v82_4 : Ref sig .tc := ⟨.hbm, 96, rfl⟩
abbrev main_v82_5 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.muli arg0 c12_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c12_i32 : BitVec 32 := 12#32
  let v1 : BitVec 32 := Scalar.muli v0 c12_i32
  let c131_i32 : BitVec 32 := 131#32
  let v2 : BitVec 32 := Scalar.minsi v1 c131_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c12_i32 : BitVec 32 := 12#32
  let v1 : BitVec 32 := Scalar.muli v0 c12_i32
  let c131_i32 : BitVec 32 := 131#32
  let v2 : BitVec 32 := Scalar.minsi v1 c131_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4224x1024 : Shape := ⟨2, ![4224, 1024]⟩
abbrev S31x512 : Shape := ⟨2, ![31, 512]⟩
abbrev S1x512 : Shape := ⟨2, ![1, 512]⟩
abbrev S4224x512 : Shape := ⟨2, ![4224, 512]⟩
abbrev S_ : Shape := ⟨0, ![]⟩
abbrev S30x512 : Shape := ⟨2, ![30, 512]⟩
abbrev S4254x512 : Shape := ⟨2, ![4254, 512]⟩
abbrev S1x4224x512 : Shape := ⟨3, ![1, 4224, 512]⟩
abbrev S16x4224x512 : Shape := ⟨3, ![16, 4224, 512]⟩
abbrev S15x4224x512 : Shape := ⟨3, ![15, 4224, 512]⟩
abbrev S31x4224x512 : Shape := ⟨3, ![31, 4224, 512]⟩
abbrev S31x1x512 : Shape := ⟨3, ![31, 1, 512]⟩
abbrev S4224 : Shape := ⟨1, ![4224]⟩
abbrev S4224x1 : Shape := ⟨2, ![4224, 1]⟩
abbrev S512 : Shape := ⟨1, ![512]⟩
abbrev S32x512 : Shape := ⟨2, ![32, 512]⟩

abbrev nBuf : Space → Nat
  | .hbm => 366
  | .vmem => 0
  | .smem => 0
  | _ => 0

abbrev hbmTy0_0 (i : Nat) : BufTy := match i % 128 with
  | 0 => ⟨S4224x1024, .f32⟩
  | 1 => ⟨S4224x1024, .f32⟩
  | 2 => ⟨S31x512, .f32⟩
  | 3 => ⟨S1x512, .f32⟩
  | 4 => ⟨S1x512, .f32⟩
  | 5 => ⟨S1x512, .f32⟩
  | 6 => ⟨S4224x512, .f32⟩
  | 7 => ⟨S4224x512, .f32⟩
  | 8 => ⟨S4224x512, .f32⟩
  | 9 => ⟨S4224x512, .f32⟩
  | 10 => ⟨S_, .f32⟩
  | 11 => ⟨S4224x512, .f32⟩
  | 12 => ⟨S4224x512, .f32⟩
  | 13 => ⟨S_, .f32⟩
  | 14 => ⟨S4224x512, .f32⟩
  | 15 => ⟨S4224x512, .f32⟩
  | 16 => ⟨S_, .f32⟩
  | 17 => ⟨S4224x512, .f32⟩
  | 18 => ⟨S4224x512, .f32⟩
  | 19 => ⟨S4224x512, .f32⟩
  | 20 => ⟨S4224x512, .f32⟩
  | 21 => ⟨S_, .f32⟩
  | 22 => ⟨S30x512, .f32⟩
  | 23 => ⟨S4254x512, .f32⟩
  | 24 => ⟨S_, .f32⟩
  | 25 => ⟨S30x512, .f32⟩
  | 26 => ⟨S4224x512, .f32⟩
  | 27 => ⟨S4224x512, .f32⟩
  | 28 => ⟨S4224x512, .f32⟩
  | 29 => ⟨S4224x512, .f32⟩
  | 30 => ⟨S4224x512, .f32⟩
  | 31 => ⟨S4224x512, .f32⟩
  | 32 => ⟨S4224x512, .f32⟩
  | 33 => ⟨S4224x512, .f32⟩
  | 34 => ⟨S4224x512, .f32⟩
  | 35 => ⟨S4224x512, .f32⟩
  | 36 => ⟨S4224x512, .f32⟩
  | 37 => ⟨S4224x512, .f32⟩
  | 38 => ⟨S4224x512, .f32⟩
  | 39 => ⟨S4224x512, .f32⟩
  | 40 => ⟨S4224x512, .f32⟩
  | 41 => ⟨S4224x512, .f32⟩
  | 42 => ⟨S4224x512, .f32⟩
  | 43 => ⟨S4224x512, .f32⟩
  | 44 => ⟨S4224x512, .f32⟩
  | 45 => ⟨S4224x512, .f32⟩
  | 46 => ⟨S4224x512, .f32⟩
  | 47 => ⟨S4224x512, .f32⟩
  | 48 => ⟨S4224x512, .f32⟩
  | 49 => ⟨S4224x512, .f32⟩
  | 50 => ⟨S4224x512, .f32⟩
  | 51 => ⟨S4224x512, .f32⟩
  | 52 => ⟨S4224x512, .f32⟩
  | 53 => ⟨S4224x512, .f32⟩
  | 54 => ⟨S4224x512, .f32⟩
  | 55 => ⟨S4224x512, .f32⟩
  | 56 => ⟨S4224x512, .f32⟩
  | 57 => ⟨S1x4224x512, .f32⟩
  | 58 => ⟨S1x4224x512, .f32⟩
  | 59 => ⟨S1x4224x512, .f32⟩
  | 60 => ⟨S1x4224x512, .f32⟩
  | 61 => ⟨S1x4224x512, .f32⟩
  | 62 => ⟨S1x4224x512, .f32⟩
  | 63 => ⟨S1x4224x512, .f32⟩
  | 64 => ⟨S1x4224x512, .f32⟩
  | 65 => ⟨S1x4224x512, .f32⟩
  | 66 => ⟨S1x4224x512, .f32⟩
  | 67 => ⟨S1x4224x512, .f32⟩
  | 68 => ⟨S1x4224x512, .f32⟩
  | 69 => ⟨S1x4224x512, .f32⟩
  | 70 => ⟨S1x4224x512, .f32⟩
  | 71 => ⟨S1x4224x512, .f32⟩
  | 72 => ⟨S1x4224x512, .f32⟩
  | 73 => ⟨S1x4224x512, .f32⟩
  | 74 => ⟨S1x4224x512, .f32⟩
  | 75 => ⟨S1x4224x512, .f32⟩
  | 76 => ⟨S1x4224x512, .f32⟩
  | 77 => ⟨S1x4224x512, .f32⟩
  | 78 => ⟨S1x4224x512, .f32⟩
  | 79 => ⟨S1x4224x512, .f32⟩
  | 80 => ⟨S1x4224x512, .f32⟩
  | 81 => ⟨S1x4224x512, .f32⟩
  | 82 => ⟨S1x4224x512, .f32⟩
  | 83 => ⟨S1x4224x512, .f32⟩
  | 84 => ⟨S1x4224x512, .f32⟩
  | 85 => ⟨S1x4224x512, .f32⟩
  | 86 => ⟨S1x4224x512, .f32⟩
  | 87 => ⟨S1x4224x512, .f32⟩
  | 88 => ⟨S16x4224x512, .f32⟩
  | 89 => ⟨S15x4224x512, .f32⟩
  | 90 => ⟨S31x4224x512, .f32⟩
  | 91 => ⟨S31x1x512, .f32⟩
  | 92 => ⟨S31x4224x512, .f32⟩
  | 93 => ⟨S31x4224x512, .f32⟩
  | 94 => ⟨S_, .f32⟩
  | 95 => ⟨S4224x512, .f32⟩
  | 96 => ⟨S4224x512, .f32⟩
  | 97 => ⟨S4224x512, .f32⟩
  | 98 => ⟨S_, .f32⟩
  | 99 => ⟨S4224, .f32⟩
  | 100 => ⟨S4224x1, .f32⟩
  | 101 => ⟨S_, .f32⟩
  | 102 => ⟨S4224x1, .f32⟩
  | 103 => ⟨S4224x1, .f32⟩
  | 104 => ⟨S4224x512, .f32⟩
  | 105 => ⟨S4224x512, .f32⟩
  | 106 => ⟨S4224x512, .f32⟩
  | 107 => ⟨S_, .f32⟩
  | 108 => ⟨S4224x512, .f32⟩
  | 109 => ⟨S4224x512, .f32⟩
  | 110 => ⟨S_, .f32⟩
  | 111 => ⟨S4224, .f32⟩
  | 112 => ⟨S4224x1, .f32⟩
  | 113 => ⟨S_, .f32⟩
  | 114 => ⟨S4224x1, .f32⟩
  | 115 => ⟨S4224x1, .f32⟩
  | 116 => ⟨S4224x512, .f32⟩
  | 117 => ⟨S4224x512, .f32⟩
  | 118 => ⟨S_, .f32⟩
  | 119 => ⟨S4224x1, .f32⟩
  | 120 => ⟨S4224x1, .f32⟩
  | 121 => ⟨S4224x1, .f32⟩
  | 122 => ⟨S4224x1, .f32⟩
  | 123 => ⟨S_, .f32⟩
  | 124 => ⟨S4224x1, .f32⟩
  | 125 => ⟨S4224x1, .f32⟩
  | 126 => ⟨S4224x512, .f32⟩
  | 127 => ⟨S4224x512, .f32⟩
  | _ => ⟨S4224x1024, .f32⟩

abbrev hbmTy0_1 (i : Nat) : BufTy := match i % 128 with
  | 0 => ⟨S4224x512, .f32⟩
  | 1 => ⟨S4224x512, .f32⟩
  | 2 => ⟨S4224x512, .f32⟩
  | 3 => ⟨S4224x512, .f32⟩
  | 4 => ⟨S4224x512, .f32⟩
  | 5 => ⟨S4224x512, .f32⟩
  | 6 => ⟨S_, .f32⟩
  | 7 => ⟨S4224x512, .f32⟩
  | 8 => ⟨S4224x512, .f32⟩
  | 9 => ⟨S_, .f32⟩
  | 10 => ⟨S4224x512, .f32⟩
  | 11 => ⟨S4224x512, .f32⟩
  | 12 => ⟨S_, .f32⟩
  | 13 => ⟨S4224x512, .f32⟩
  | 14 => ⟨S4224x512, .f32⟩
  | 15 => ⟨S4224x512, .f32⟩
  | 16 => ⟨S4224x512, .f32⟩
  | 17 => ⟨S4224x512, .f32⟩
  | 18 => ⟨S4224x512, .f32⟩
  | 19 => ⟨S4224x512, .f32⟩
  | 20 => ⟨S4224x512, .f32⟩
  | 21 => ⟨S4224x512, .f32⟩
  | 22 => ⟨S_, .f32⟩
  | 23 => ⟨S512, .f32⟩
  | 24 => ⟨S1x512, .f32⟩
  | 25 => ⟨S4224x512, .f32⟩
  | 26 => ⟨S_, .f32⟩
  | 27 => ⟨S512, .f32⟩
  | 28 => ⟨S1x512, .f32⟩
  | 29 => ⟨S4224x512, .f32⟩
  | 30 => ⟨S4224x512, .f32⟩
  | 31 => ⟨S4224x512, .f32⟩
  | 32 => ⟨S_, .f32⟩
  | 33 => ⟨S4224, .f32⟩
  | 34 => ⟨S4224x1, .f32⟩
  | 35 => ⟨S4224x512, .f32⟩
  | 36 => ⟨S4224x512, .f32⟩
  | 37 => ⟨S4224x1, .f32⟩
  | 38 => ⟨S4224x512, .f32⟩
  | 39 => ⟨S_, .f32⟩
  | 40 => ⟨S4224, .f32⟩
  | 41 => ⟨S4224x1, .f32⟩
  | 42 => ⟨S_, .f32⟩
  | 43 => ⟨S4224x1, .f32⟩
  | 44 => ⟨S4224x1, .f32⟩
  | 45 => ⟨S_, .f32⟩
  | 46 => ⟨S4224, .f32⟩
  | 47 => ⟨S4224x512, .f32⟩
  | 48 => ⟨S4224x512, .f32⟩
  | 49 => ⟨S4224x512, .f32⟩
  | 50 => ⟨S_, .f32⟩
  | 51 => ⟨S4224, .f32⟩
  | 52 => ⟨S4224x1, .f32⟩
  | 53 => ⟨S4224x512, .f32⟩
  | 54 => ⟨S4224x1, .f32⟩
  | 55 => ⟨S_, .f32⟩
  | 56 => ⟨S4224x1, .f32⟩
  | 57 => ⟨S4224x1, .f32⟩
  | 58 => ⟨S_, .f32⟩
  | 59 => ⟨S4224, .f32⟩
  | 60 => ⟨S4224x512, .f32⟩
  | 61 => ⟨S4224x512, .f32⟩
  | 62 => ⟨S_, .f32⟩
  | 63 => ⟨S512, .f32⟩
  | 64 => ⟨S1x512, .f32⟩
  | 65 => ⟨S31x4224x512, .f32⟩
  | 66 => ⟨S31x4224x512, .f32⟩
  | 67 => ⟨S31x4224x512, .f32⟩
  | 68 => ⟨S31x4224x512, .f32⟩
  | 69 => ⟨S_, .f32⟩
  | 70 => ⟨S31x512, .f32⟩
  | 71 => ⟨S31x1x512, .f32⟩
  | 72 => ⟨S_, .f32⟩
  | 73 => ⟨S31x512, .f32⟩
  | 74 => ⟨S1x4224x512, .f32⟩
  | 75 => ⟨S4224x512, .f32⟩
  | 76 => ⟨S1x4224x512, .f32⟩
  | 77 => ⟨S4224x512, .f32⟩
  | 78 => ⟨S1x4224x512, .f32⟩
  | 79 => ⟨S4224x512, .f32⟩
  | 80 => ⟨S1x4224x512, .f32⟩
  | 81 => ⟨S4224x512, .f32⟩
  | 82 => ⟨S1x4224x512, .f32⟩
  | 83 => ⟨S4224x512, .f32⟩
  | 84 => ⟨S1x4224x512, .f32⟩
  | 85 => ⟨S4224x512, .f32⟩
  | 86 => ⟨S1x4224x512, .f32⟩
  | 87 => ⟨S4224x512, .f32⟩
  | 88 => ⟨S1x4224x512, .f32⟩
  | 89 => ⟨S4224x512, .f32⟩
  | 90 => ⟨S1x4224x512, .f32⟩
  | 91 => ⟨S4224x512, .f32⟩
  | 92 => ⟨S1x4224x512, .f32⟩
  | 93 => ⟨S4224x512, .f32⟩
  | 94 => ⟨S1x4224x512, .f32⟩
  | 95 => ⟨S4224x512, .f32⟩
  | 96 => ⟨S1x4224x512, .f32⟩
  | 97 => ⟨S4224x512, .f32⟩
  | 98 => ⟨S1x4224x512, .f32⟩
  | 99 => ⟨S4224x512, .f32⟩
  | 100 => ⟨S1x4224x512, .f32⟩
  | 101 => ⟨S4224x512, .f32⟩
  | 102 => ⟨S1x4224x512, .f32⟩
  | 103 => ⟨S4224x512, .f32⟩
  | 104 => ⟨S1x4224x512, .f32⟩
  | 105 => ⟨S4224x512, .f32⟩
  | 106 => ⟨S1x4224x512, .f32⟩
  | 107 => ⟨S4224x512, .f32⟩
  | 108 => ⟨S1x4224x512, .f32⟩
  | 109 => ⟨S4224x512, .f32⟩
  | 110 => ⟨S1x4224x512, .f32⟩
  | 111 => ⟨S4224x512, .f32⟩
  | 112 => ⟨S1x4224x512, .f32⟩
  | 113 => ⟨S4224x512, .f32⟩
  | 114 => ⟨S1x4224x512, .f32⟩
  | 115 => ⟨S4224x512, .f32⟩
  | 116 => ⟨S1x4224x512, .f32⟩
  | 117 => ⟨S4224x512, .f32⟩
  | 118 => ⟨S1x4224x512, .f32⟩
  | 119 => ⟨S4224x512, .f32⟩
  | 120 => ⟨S1x4224x512, .f32⟩
  | 121 => ⟨S4224x512, .f32⟩
  | 122 => ⟨S1x4224x512, .f32⟩
  | 123 => ⟨S4224x512, .f32⟩
  | 124 => ⟨S1x4224x512, .f32⟩
  | 125 => ⟨S4224x512, .f32⟩
  | 126 => ⟨S1x4224x512, .f32⟩
  | 127 => ⟨S4224x512, .f32⟩
  | _ => ⟨S4224x1024, .f32⟩

abbrev hbmTy0_2 (i : Nat) : BufTy := match i % 128 with
  | 0 => ⟨S1x4224x512, .f32⟩
  | 1 => ⟨S4224x512, .f32⟩
  | 2 => ⟨S1x4224x512, .f32⟩
  | 3 => ⟨S4224x512, .f32⟩
  | 4 => ⟨S1x4224x512, .f32⟩
  | 5 => ⟨S4224x512, .f32⟩
  | 6 => ⟨S1x4224x512, .f32⟩
  | 7 => ⟨S4224x512, .f32⟩
  | 8 => ⟨S_, .f32⟩
  | 9 => ⟨S4254x512, .f32⟩
  | 10 => ⟨S_, .f32⟩
  | 11 => ⟨S4254x512, .f32⟩
  | 12 => ⟨S4254x512, .f32⟩
  | 13 => ⟨S_, .f32⟩
  | 14 => ⟨S4254x512, .f32⟩
  | 15 => ⟨S4254x512, .f32⟩
  | 16 => ⟨S_, .f32⟩
  | 17 => ⟨S4254x512, .f32⟩
  | 18 => ⟨S4254x512, .f32⟩
  | 19 => ⟨S_, .f32⟩
  | 20 => ⟨S4254x512, .f32⟩
  | 21 => ⟨S4254x512, .f32⟩
  | 22 => ⟨S_, .f32⟩
  | 23 => ⟨S4254x512, .f32⟩
  | 24 => ⟨S4254x512, .f32⟩
  | 25 => ⟨S_, .f32⟩
  | 26 => ⟨S4254x512, .f32⟩
  | 27 => ⟨S4254x512, .f32⟩
  | 28 => ⟨S_, .f32⟩
  | 29 => ⟨S4254x512, .f32⟩
  | 30 => ⟨S4254x512, .f32⟩
  | 31 => ⟨S_, .f32⟩
  | 32 => ⟨S4254x512, .f32⟩
  | 33 => ⟨S4254x512, .f32⟩
  | 34 => ⟨S_, .f32⟩
  | 35 => ⟨S4254x512, .f32⟩
  | 36 => ⟨S4254x512, .f32⟩
  | 37 => ⟨S_, .f32⟩
  | 38 => ⟨S4254x512, .f32⟩
  | 39 => ⟨S4254x512, .f32⟩
  | 40 => ⟨S_, .f32⟩
  | 41 => ⟨S4254x512, .f32⟩
  | 42 => ⟨S4254x512, .f32⟩
  | 43 => ⟨S_, .f32⟩
  | 44 => ⟨S4254x512, .f32⟩
  | 45 => ⟨S4254x512, .f32⟩
  | 46 => ⟨S_, .f32⟩
  | 47 => ⟨S4254x512, .f32⟩
  | 48 => ⟨S4254x512, .f32⟩
  | 49 => ⟨S_, .f32⟩
  | 50 => ⟨S4254x512, .f32⟩
  | 51 => ⟨S4254x512, .f32⟩
  | 52 => ⟨S_, .f32⟩
  | 53 => ⟨S4254x512, .f32⟩
  | 54 => ⟨S4254x512, .f32⟩
  | 55 => ⟨S_, .f32⟩
  | 56 => ⟨S4254x512, .f32⟩
  | 57 => ⟨S4254x512, .f32⟩
  | 58 => ⟨S_, .f32⟩
  | 59 => ⟨S4254x512, .f32⟩
  | 60 => ⟨S4254x512, .f32⟩
  | 61 => ⟨S_, .f32⟩
  | 62 => ⟨S4254x512, .f32⟩
  | 63 => ⟨S4254x512, .f32⟩
  | 64 => ⟨S_, .f32⟩
  | 65 => ⟨S4254x512, .f32⟩
  | 66 => ⟨S4254x512, .f32⟩
  | 67 => ⟨S_, .f32⟩
  | 68 => ⟨S4254x512, .f32⟩
  | 69 => ⟨S4254x512, .f32⟩
  | 70 => ⟨S_, .f32⟩
  | 71 => ⟨S4254x512, .f32⟩
  | 72 => ⟨S4254x512, .f32⟩
  | 73 => ⟨S_, .f32⟩
  | 74 => ⟨S4254x512, .f32⟩
  | 75 => ⟨S4254x512, .f32⟩
  | 76 => ⟨S_, .f32⟩
  | 77 => ⟨S4254x512, .f32⟩
  | 78 => ⟨S4254x512, .f32⟩
  | 79 => ⟨S_, .f32⟩
  | 80 => ⟨S4254x512, .f32⟩
  | 81 => ⟨S4254x512, .f32⟩
  | 82 => ⟨S_, .f32⟩
  | 83 => ⟨S4254x512, .f32⟩
  | 84 => ⟨S4254x512, .f32⟩
  | 85 => ⟨S_, .f32⟩
  | 86 => ⟨S4254x512, .f32⟩
  | 87 => ⟨S4254x512, .f32⟩
  | 88 => ⟨S_, .f32⟩
  | 89 => ⟨S4254x512, .f32⟩
  | 90 => ⟨S4254x512, .f32⟩
  | 91 => ⟨S_, .f32⟩
  | 92 => ⟨S4254x512, .f32⟩
  | 93 => ⟨S4254x512, .f32⟩
  | 94 => ⟨S_, .f32⟩
  | 95 => ⟨S4254x512, .f32⟩
  | 96 => ⟨S4254x512, .f32⟩
  | 97 => ⟨S_, .f32⟩
  | 98 => ⟨S4254x512, .f32⟩
  | 99 => ⟨S4254x512, .f32⟩
  | 100 => ⟨S30x512, .f32⟩
  | 101 => ⟨S4224x512, .f32⟩
  | 102 => ⟨S4224x512, .f32⟩
  | 103 => ⟨S4224x512, .f32⟩
  | 104 => ⟨S4224x512, .f32⟩
  | 105 => ⟨S4224x512, .bf16⟩
  | 106 => ⟨S4224x512, .bf16⟩
  | 107 => ⟨S_, .i32⟩
  | 108 => ⟨S_, .f32⟩
  | 109 => ⟨S32x512, .f32⟩
  | _ => ⟨S4224x1024, .f32⟩

abbrev hbmTy (i : Nat) : BufTy := match i / 128 with
  | 0 => hbmTy0_0 i
  | 1 => hbmTy0_1 i
  | 2 => hbmTy0_2 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_4 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_5 : Ref sig .tc := ⟨.hbm, 98, rfl⟩
abbrev main_v86 : Ref sig .tc := ⟨.hbm, 99, rfl⟩
abbrev main_v87 : Ref sig .tc := ⟨.hbm, 100, rfl⟩
abbrev main_cst_6 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_7 : Ref sig .tc := ⟨.hbm, 107, rfl⟩
abbrev main_v93 : Ref sig .tc := ⟨.hbm, 108, rfl⟩
abbrev main_v94 : Ref sig .tc := ⟨.hbm, 109, rfl⟩
abbrev main_cst_8 : Ref sig .tc := ⟨.hbm, 110, rfl⟩
abbrev main_v95 : Ref sig .tc := ⟨.hbm, 111, rfl⟩
abbrev main_v96 : Ref sig .tc := ⟨.hbm, 112, rfl⟩
abbrev main_cst_9 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_11 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_call0_v0 : Ref sig .tc := ⟨.hbm, 132, rfl⟩
abbrev main_call0_v1 : Ref sig .tc := ⟨.hbm, 133, rfl⟩
abbrev main_call0_cst : Ref sig .tc := ⟨.hbm, 134, rfl⟩
abbrev main_call0_v2 : Ref sig .tc := ⟨.hbm, 135, rfl⟩
abbrev main_call0_v3 : Ref sig .tc := ⟨.hbm, 136, rfl⟩
abbrev main_call0_cst_0 : Ref sig .tc := ⟨.hbm, 137, rfl⟩
abbrev main_call0_v4 : Ref sig .tc := ⟨.hbm, 138, rfl⟩
abbrev main_v113_2 : Ref sig .tc := ⟨.hbm, 139, rfl⟩
abbrev main_call0_cst_1 : Ref sig .tc := ⟨.hbm, 140, rfl⟩
abbrev main_call0_v6 : Ref sig .tc := ⟨.hbm, 141, rfl⟩
abbrev main_call0_v7 : Ref sig .tc := ⟨.hbm, 142, rfl⟩
abbrev main_v113_1 : Ref sig .tc := ⟨.hbm, 143, rfl⟩
abbrev main_v113_0 : Ref sig .tc := ⟨.hbm, 144, rfl⟩
abbrev main_v114 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_v115 : Ref sig .tc := ⟨.hbm, 149, rfl⟩
abbrev main_cst_12 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_13 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_14 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_15 : Ref sig .tc := ⟨.hbm, 167, rfl⟩
abbrev main_v130 : Ref sig .tc := ⟨.hbm, 168, rfl⟩
abbrev main_v131 : Ref sig .tc := ⟨.hbm, 169, rfl⟩
abbrev main_cst_16 : Ref sig .tc := ⟨.hbm, 170, rfl⟩
abbrev main_v132 : Ref sig .tc := ⟨.hbm, 171, rfl⟩
abbrev main_v133 : Ref sig .tc := ⟨.hbm, 172, rfl⟩
abbrev main_cst_17 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_18 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_19 : Ref sig .tc := ⟨.hbm, 183, rfl⟩
abbrev main_v142 : Ref sig .tc := ⟨.hbm, 184, rfl⟩
abbrev main_v143 : Ref sig .tc := ⟨.hbm, 185, rfl⟩
abbrev main_cst_20 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_21 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_22 : Ref sig .tc := ⟨.hbm, 197, rfl⟩
abbrev main_v153 : Ref sig .tc := ⟨.hbm, 198, rfl⟩
abbrev main_v154 : Ref sig .tc := ⟨.hbm, 199, rfl⟩
abbrev main_cst_23 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_cst_24 : Ref sig .tc := ⟨.hbm, 264, rfl⟩
abbrev main_v218 : Ref sig .tc := ⟨.hbm, 265, rfl⟩
abbrev main_cst_25 : Ref sig .tc := ⟨.hbm, 266, rfl⟩
abbrev main_v219 : Ref sig .tc := ⟨.hbm, 267, rfl⟩
abbrev main_v220 : Ref sig .tc := ⟨.hbm, 268, rfl⟩
abbrev main_cst_26 : Ref sig .tc := ⟨.hbm, 269, rfl⟩
abbrev main_v221 : Ref sig .tc := ⟨.hbm, 270, rfl⟩
abbrev main_v222 : Ref sig .tc := ⟨.hbm, 271, rfl⟩
abbrev main_cst_27 : Ref sig .tc := ⟨.hbm, 272, rfl⟩
abbrev main_v223 : Ref sig .tc := ⟨.hbm, 273, rfl⟩
abbrev main_v224 : Ref sig .tc := ⟨.hbm, 274, rfl⟩
abbrev main_cst_28 : Ref sig .tc := ⟨.hbm, 275, rfl⟩
abbrev main_v225 : Ref sig .tc := ⟨.hbm, 276, rfl⟩
abbrev main_v226 : Ref sig .tc := ⟨.hbm, 277, rfl⟩
abbrev main_cst_29 : Ref sig .tc := ⟨.hbm, 278, rfl⟩
abbrev main_v227 : Ref sig .tc := ⟨.hbm, 279, rfl⟩
abbrev main_v228 : Ref sig .tc := ⟨.hbm, 280, rfl⟩
abbrev main_cst_30 : Ref sig .tc := ⟨.hbm, 281, rfl⟩
abbrev main_v229 : Ref sig .tc := ⟨.hbm, 282, rfl⟩
abbrev main_v230 : Ref sig .tc := ⟨.hbm, 283, rfl⟩
abbrev main_cst_31 : Ref sig .tc := ⟨.hbm, 284, rfl⟩
abbrev main_v231 : Ref sig .tc := ⟨.hbm, 285, rfl⟩
abbrev main_v232 : Ref sig .tc := ⟨.hbm, 286, rfl⟩
abbrev main_cst_32 : Ref sig .tc := ⟨.hbm, 287, rfl⟩
abbrev main_v233 : Ref sig .tc := ⟨.hbm, 288, rfl⟩
abbrev main_v234 : Ref sig .tc := ⟨.hbm, 289, rfl⟩
abbrev main_cst_33 : Ref sig .tc := ⟨.hbm, 290, rfl⟩
abbrev main_v235 : Ref sig .tc := ⟨.hbm, 291, rfl⟩
abbrev main_v236 : Ref sig .tc := ⟨.hbm, 292, rfl⟩
abbrev main_cst_34 : Ref sig .tc := ⟨.hbm, 293, rfl⟩
abbrev main_v237 : Ref sig .tc := ⟨.hbm, 294, rfl⟩
abbrev main_v238 : Ref sig .tc := ⟨.hbm, 295, rfl⟩
abbrev main_cst_35 : Ref sig .tc := ⟨.hbm, 296, rfl⟩
abbrev main_v239 : Ref sig .tc := ⟨.hbm, 297, rfl⟩
abbrev main_v240 : Ref sig .tc := ⟨.hbm, 298, rfl⟩
abbrev main_cst_36 : Ref sig .tc := ⟨.hbm, 299, rfl⟩
abbrev main_v241 : Ref sig .tc := ⟨.hbm, 300, rfl⟩
abbrev main_v242 : Ref sig .tc := ⟨.hbm, 301, rfl⟩
abbrev main_cst_37 : Ref sig .tc := ⟨.hbm, 302, rfl⟩
abbrev main_v243 : Ref sig .tc := ⟨.hbm, 303, rfl⟩
abbrev main_v244 : Ref sig .tc := ⟨.hbm, 304, rfl⟩
abbrev main_cst_38 : Ref sig .tc := ⟨.hbm, 305, rfl⟩
abbrev main_v245 : Ref sig .tc := ⟨.hbm, 306, rfl⟩
abbrev main_v246 : Ref sig .tc := ⟨.hbm, 307, rfl⟩
abbrev main_cst_39 : Ref sig .tc := ⟨.hbm, 308, rfl⟩
abbrev main_v247 : Ref sig .tc := ⟨.hbm, 309, rfl⟩
abbrev main_v248 : Ref sig .tc := ⟨.hbm, 310, rfl⟩
abbrev main_cst_40 : Ref sig .tc := ⟨.hbm, 311, rfl⟩
abbrev main_v249 : Ref sig .tc := ⟨.hbm, 312, rfl⟩
abbrev main_v250 : Ref sig .tc := ⟨.hbm, 313, rfl⟩
abbrev main_cst_41 : Ref sig .tc := ⟨.hbm, 314, rfl⟩
abbrev main_v251 : Ref sig .tc := ⟨.hbm, 315, rfl⟩
abbrev main_v252 : Ref sig .tc := ⟨.hbm, 316, rfl⟩
abbrev main_cst_42 : Ref sig .tc := ⟨.hbm, 317, rfl⟩
abbrev main_v253 : Ref sig .tc := ⟨.hbm, 318, rfl⟩
abbrev main_v254 : Ref sig .tc := ⟨.hbm, 319, rfl⟩
abbrev main_cst_43 : Ref sig .tc := ⟨.hbm, 320, rfl⟩
abbrev main_v255 : Ref sig .tc := ⟨.hbm, 321, rfl⟩
abbrev main_v256 : Ref sig .tc := ⟨.hbm, 322, rfl⟩
abbrev main_cst_44 : Ref sig .tc := ⟨.hbm, 323, rfl⟩
abbrev main_v257 : Ref sig .tc := ⟨.hbm, 324, rfl⟩
abbrev main_v258 : Ref sig .tc := ⟨.hbm, 325, rfl⟩
abbrev main_cst_45 : Ref sig .tc := ⟨.hbm, 326, rfl⟩
abbrev main_v259 : Ref sig .tc := ⟨.hbm, 327, rfl⟩
abbrev main_v260 : Ref sig .tc := ⟨.hbm, 328, rfl⟩
abbrev main_cst_46 : Ref sig .tc := ⟨.hbm, 329, rfl⟩
abbrev main_v261 : Ref sig .tc := ⟨.hbm, 330, rfl⟩
abbrev main_v262 : Ref sig .tc := ⟨.hbm, 331, rfl⟩
abbrev main_cst_47 : Ref sig .tc := ⟨.hbm, 332, rfl⟩
abbrev main_v263 : Ref sig .tc := ⟨.hbm, 333, rfl⟩
abbrev main_v264 : Ref sig .tc := ⟨.hbm, 334, rfl⟩
abbrev main_cst_48 : Ref sig .tc := ⟨.hbm, 335, rfl⟩
abbrev main_v265 : Ref sig .tc := ⟨.hbm, 336, rfl⟩
abbrev main_v266 : Ref sig .tc := ⟨.hbm, 337, rfl⟩
abbrev main_cst_49 : Ref sig .tc := ⟨.hbm, 338, rfl⟩
abbrev main_v267 : Ref sig .tc := ⟨.hbm, 339, rfl⟩
abbrev main_v268 : Ref sig .tc := ⟨.hbm, 340, rfl⟩
abbrev main_cst_50 : Ref sig .tc := ⟨.hbm, 341, rfl⟩
abbrev main_v269 : Ref sig .tc := ⟨.hbm, 342, rfl⟩
abbrev main_v270 : Ref sig .tc := ⟨.hbm, 343, rfl⟩
abbrev main_cst_51 : Ref sig .tc := ⟨.hbm, 344, rfl⟩
abbrev main_v271 : Ref sig .tc := ⟨.hbm, 345, rfl⟩
abbrev main_v272 : Ref sig .tc := ⟨.hbm, 346, rfl⟩
abbrev main_cst_52 : Ref sig .tc := ⟨.hbm, 347, rfl⟩
abbrev main_v273 : Ref sig .tc := ⟨.hbm, 348, rfl⟩
abbrev main_v274 : Ref sig .tc := ⟨.hbm, 349, rfl⟩
abbrev main_cst_53 : Ref sig .tc := ⟨.hbm, 350, rfl⟩
abbrev main_v275 : Ref sig .tc := ⟨.hbm, 351, rfl⟩
abbrev main_v276 : Ref sig .tc := ⟨.hbm, 352, rfl⟩
abbrev main_cst_54 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_c : Ref sig .tc := ⟨.hbm, 363, rfl⟩
abbrev main_call2_v0 : Ref sig .tc := ⟨.hbm, 364, rfl⟩
abbrev main_v286 : Ref sig .tc := ⟨.hbm, 365, rfl⟩

abbrev nD : Nat := 1
abbrev τ : Topo := Topo.v7x

variable {F : FTy → Type} [FloatOps F]
-- ==== Kernel2.lean ====
abbrev S4224x1024 : Shape := ⟨2, ![4224, 1024]⟩
abbrev S1x2816x1024 : Shape := ⟨3, ![1, 2816, 1024]⟩
abbrev S4224x2816 : Shape := ⟨2, ![4224, 2816]⟩
abbrev S352x1024 : Shape := ⟨2, ![352, 1024]⟩
abbrev S352x2816 : Shape := ⟨2, ![352, 2816]⟩
abbrev S1x1408x1024 : Shape := ⟨3, ![1, 1408, 1024]⟩
abbrev S1408x1024 : Shape := ⟨2, ![1408, 1024]⟩
abbrev S352x1408 : Shape := ⟨2, ![352, 1408]⟩

abbrev nBuf : Space → Nat
  | .hbm => 6
  | .vmem => 11
  | .smem => 0
  | _ => 0

abbrev bufTy : (tb : Table) → Fin (tcTables nBuf tb) → BufTy
  | .hbm, ⟨0, _⟩ => ⟨S4224x1024, .f32⟩
  | .hbm, ⟨1, _⟩ => ⟨S1x2816x1024, .bf16⟩
  | .hbm, ⟨2, _⟩ => ⟨S4224x2816, .bf16⟩
  | .hbm, ⟨3, _⟩ => ⟨S4224x2816, .bf16⟩
  | .hbm, ⟨4, _⟩ => ⟨S4224x2816, .bf16⟩
  | .hbm, ⟨5, _⟩ => ⟨S4224x2816, .bf16⟩
  | .local _ .vmem, ⟨0, _⟩ => ⟨S352x1024, .f32⟩
  | .local _ .vmem, ⟨1, _⟩ => ⟨S352x1024, .f32⟩
  | .local _ .vmem, ⟨2, _⟩ => ⟨S1x2816x1024, .bf16⟩
  | .local _ .vmem, ⟨3, _⟩ => ⟨S352x2816, .bf16⟩
  | .local _ .vmem, ⟨4, _⟩ => ⟨S352x2816, .bf16⟩
  | .local _ .vmem, ⟨5, _⟩ => ⟨S352x2816, .bf16⟩
  | .local _ .vmem, ⟨6, _⟩ => ⟨S352x2816, .bf16⟩
  | .local _ .vmem, ⟨7, _⟩ => ⟨S352x2816, .bf16⟩
  | .local _ .vmem, ⟨8, _⟩ => ⟨S352x2816, .bf16⟩
  | .local _ .vmem, ⟨9, _⟩ => ⟨S352x2816, .bf16⟩
  | .local _ .vmem, ⟨10, _⟩ => ⟨S352x2816, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4224x1024 : Shape := ⟨2, ![4224, 1024]⟩
abbrev S1x2816x1024 : Shape := ⟨3, ![1, 2816, 1024]⟩
abbrev S4224x2816 : Shape := ⟨2, ![4224, 2816]⟩
abbrev S_ : Shape := ⟨0, ![]⟩
abbrev S2816x1024 : Shape := ⟨2, ![2816, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x2816x1024, .bf16⟩
  | .hbm, ⟨2, _⟩ => ⟨S4224x2816, .bf16⟩
  | .hbm, ⟨3, _⟩ => ⟨S4224x2816, .bf16⟩
  | .hbm, ⟨4, _⟩ => ⟨S4224x2816, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S_, .f32⟩
  | .hbm, ⟨9, _⟩ => ⟨S4224x2816, .f32⟩
  | .hbm, ⟨10, _⟩ => ⟨S4224x2816, .f32⟩
  | .hbm, ⟨11, _⟩ => ⟨S_, .f32⟩
  | .hbm, ⟨12, _⟩ => ⟨S4224x2816, .f32⟩
  | .hbm, ⟨13, _⟩ => ⟨S4224x2816, .f32⟩
  | .hbm, ⟨14, _⟩ => ⟨S_, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S2816x1024, .bf16⟩
  | .hbm, ⟨21, _⟩ => ⟨S2816x1024, .f32⟩
  | .hbm, ⟨22, _⟩ => ⟨S4224x1024, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S4224x2816, .f32⟩
  | .hbm, ⟨29, _⟩ => ⟨S4224x2816, .f32⟩
  | .hbm, ⟨30, _⟩ => ⟨S4224x2816, .bf16⟩
  | .hbm, ⟨31, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S4224x2816 : Shape := ⟨2, ![4224, 2816]⟩
abbrev S1x2816x1024 : Shape := ⟨3, ![1, 2816, 1024]⟩
abbrev S4224x1024 : Shape := ⟨2, ![4224, 1024]⟩
abbrev S1x1024 : Shape := ⟨2, ![1, 1024]⟩
abbrev S352x2816 : Shape := ⟨2, ![352, 2816]⟩
abbrev S352x1024 : Shape := ⟨2, ![352, 1024]⟩
abbrev S1x2816x512 : Shape := ⟨3, ![1, 2816, 512]⟩
abbrev S2816x512 : Shape := ⟨2, ![2816, 512]⟩
abbrev S352x512 : Shape := ⟨2, ![352, 512]⟩
abbrev S352 : Shape := ⟨1, ![352]⟩
abbrev S352x1 : Shape := ⟨2, ![352, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S1x2816x1024, .bf16⟩
  | .hbm, ⟨3, _⟩ => ⟨S1x2816x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S1x1024, .f32⟩
  | .local _ .vmem, ⟨0, _⟩ => ⟨S352x2816, .bf16⟩
  | .local _ .vmem, ⟨1, _⟩ => ⟨S352x2816, .bf16⟩
  | .local _ .vmem, ⟨2, _⟩ => ⟨S352x2816, .bf16⟩
  | .local _ .vmem, ⟨3, _⟩ => ⟨S352x2816, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S352x1024, .f32⟩
  | .local _ .vmem, ⟨7, _⟩ => ⟨S352x1024, .f32⟩
  | .local _ .vmem, ⟨8, _⟩ => ⟨S1x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S1x1024, .f32⟩
  | .local _ .vmem, ⟨14, _⟩ => ⟨S352x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4224x2816 : Shape := ⟨2, ![4224, 2816]⟩
abbrev S1x2816x1024 : Shape := ⟨3, ![1, 2816, 1024]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S2816x1024 : Shape := ⟨2, ![2816, 1024]⟩
abbrev S1024x2816 : Shape := ⟨2, ![1024, 2816]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S1x2816x1024, .bf16⟩
  | .hbm, ⟨3, _⟩ => ⟨S1x2816x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S2816x1024, .bf16⟩
  | .hbm, ⟨27, _⟩ => ⟨S2816x1024, .f32⟩
  | .hbm, ⟨28, _⟩ => ⟨S1024x2816, .f32⟩
  | .hbm, ⟨29, _⟩ => ⟨S4224x2816, .f32⟩
  | .hbm, ⟨30, _⟩ => ⟨S2816x1024, .bf16⟩
  | .hbm, ⟨31, _⟩ => ⟨S2816x1024, .f32⟩
  | .hbm, ⟨32, _⟩ => ⟨S1024x2816, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S_, .f32⟩
  | .hbm, ⟨47, _⟩ => ⟨S4224, .f32⟩
  | .hbm, ⟨48, _⟩ => ⟨S4224x1, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1, .f32⟩
  | .hbm, ⟨53, _⟩ => ⟨S_, .f32⟩
  | .hbm, ⟨54, _⟩ => ⟨S4224x1, .f32⟩
  | .hbm, ⟨55, _⟩ => ⟨S4224x1, .f32⟩
  | .hbm, ⟨56, _⟩ => ⟨S_, .f32⟩
  | .hbm, ⟨57, _⟩ => ⟨S4224, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S4224x1024, .f32⟩
  | .hbm, ⟨62, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel4.lean ====
abbrev S4224x2816 : Shape := ⟨2, ![4224, 2816]⟩
abbrev S4224x1024 : Shape := ⟨2, ![4224, 1024]⟩
abbrev S2816x1024 : Shape := ⟨2, ![2816, 1024]⟩
abbrev S1056x1408 : Shape := ⟨2, ![1056, 1408]⟩
abbrev S1056x1024 : Shape := ⟨2, ![1056, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .f32⟩
  | .local _ .vmem, ⟨0, _⟩ => ⟨S1056x1408, .bf16⟩
  | .local _ .vmem, ⟨1, _⟩ => ⟨S1056x1408, .bf16⟩
  | .local _ .vmem, ⟨2, _⟩ => ⟨S1056x1024, .bf16⟩
  | .local _ .vmem, ⟨3, _⟩ => ⟨S1056x1024, .bf16⟩
  | .local _ .vmem, ⟨4, _⟩ => ⟨S1408x1024, .f32⟩
  | .local _ .vmem, ⟨5, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S_, .f32⟩
  | .hbm, ⟨3, _⟩ => ⟨S2816x1024, .f32⟩
  | .hbm, ⟨4, _⟩ => ⟨S4224x1024, .f32⟩
  | .hbm, ⟨5, _⟩ => ⟨S1024x2816, .f32⟩
  | .hbm, ⟨6, _⟩ => ⟨S4224x2816, .f32⟩
  | .hbm, ⟨7, _⟩ => ⟨S4224x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4224x2816 : Shape := ⟨2, ![4224, 2816]⟩
abbrev S4224x1024 : Shape := ⟨2, ![4224, 1024]⟩
abbrev S2816x1024 : Shape := ⟨2, ![2816, 1024]⟩
abbrev S1056x1408 : Shape := ⟨2, ![1056, 1408]⟩
abbrev S1056x1024 : Shape := ⟨2, ![1056, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S2816x1024, .f32⟩
  | .local _ .vmem, ⟨0, _⟩ => ⟨S1056x1408, .bf16⟩
  | .local _ .vmem, ⟨1, _⟩ => ⟨S1056x1408, .bf16⟩
  | .local _ .vmem, ⟨2, _⟩ => ⟨S1056x1024, .f32⟩
  | .local _ .vmem, ⟨3, _⟩ => ⟨S1056x1024, .f32⟩
  | .local _ .vmem, ⟨4, _⟩ => ⟨S1408x1024, .f32⟩
  | .local _ .vmem, ⟨5, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S_, .f32⟩
  | .hbm, ⟨3, _⟩ => ⟨S2816x1024, .f32⟩
  | .hbm, ⟨4, _⟩ => ⟨S4224x2816, .f32⟩
  | .hbm, ⟨5, _⟩ => ⟨S4224x1024, .f32⟩
  | .hbm, ⟨6, _⟩ => ⟨S1024x2816, .f32⟩
  | .hbm, ⟨7, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4224x2560 : Shape := ⟨2, ![4224, 2560]⟩
abbrev S1x1024x2560 : Shape := ⟨3, ![1, 1024, 2560]⟩
abbrev S4224x1024 : Shape := ⟨2, ![4224, 1024]⟩
abbrev S1x1024 : Shape := ⟨2, ![1, 1024]⟩
abbrev S352x2560 : Shape := ⟨2, ![352, 2560]⟩
abbrev S352x1024 : Shape := ⟨2, ![352, 1024]⟩
abbrev S1x512x2560 : Shape := ⟨3, ![1, 512, 2560]⟩
abbrev S512x2560 : Shape := ⟨2, ![512, 2560]⟩
abbrev S352x512 : Shape := ⟨2, ![352, 512]⟩
abbrev S352 : Shape := ⟨1, ![352]⟩
abbrev S352x1 : Shape := ⟨2, ![352, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4224x2560, .bf16⟩
  | .hbm, ⟨1, _⟩ => ⟨S1x1024x2560, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S1x1024, .f32⟩
  | .local _ .vmem, ⟨0, _⟩ => ⟨S352x2560, .bf16⟩
  | .local _ .vmem, ⟨1, _⟩ => ⟨S352x2560, .bf16⟩
  | .local _ .vmem, ⟨2, _⟩ => ⟨S1x1024x2560, .bf16⟩
  | .local _ .vmem, ⟨3, _⟩ => ⟨S352x1024, .f32⟩
  | .local _ .vmem, ⟨4, _⟩ => ⟨S352x1024, .f32⟩
  | .local _ .vmem, ⟨5, _⟩ => ⟨S1x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S1x1024, .f32⟩
  | .local _ .vmem, ⟨11, _⟩ => ⟨S352x1024, .f32⟩
  | _, _ => ⟨S4224x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4224x2560 : Shape := ⟨2, ![4224, 2560]⟩
abbrev S1x1024x2560 : Shape := ⟨3, ![1, 1024, 2560]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024x2560 : Shape := ⟨2, ![1024, 2560]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4224x2560, .bf16⟩
  | .hbm, ⟨1, _⟩ => ⟨S1x1024x2560, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S1024x2560, .bf16⟩
  | .hbm, ⟨25, _⟩ => ⟨S1024x2560, .f32⟩
  | .hbm, ⟨26, _⟩ => ⟨S4224x2560, .f32⟩
  | .hbm, ⟨27, _⟩ => ⟨S4224x2560, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1, .f32⟩
  | .hbm, ⟨43, _⟩ => ⟨S_, .f32⟩
  | .hbm, ⟨44, _⟩ => ⟨S4224x1, .f32⟩
  | .hbm, ⟨45, _⟩ => ⟨S4224x1, .f32⟩
  | .hbm, ⟨46, _⟩ => ⟨S_, .f32⟩
  | .hbm, ⟨47, _⟩ => ⟨S4224, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | _, _ => ⟨S4224x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S4224x1024 : Shape := ⟨2, ![4224, 1024]⟩
abbrev S4224x2560 : Shape := ⟨2, ![4224, 2560]⟩
abbrev S4x1024x640 : Shape := ⟨3, ![4, 1024, 640]⟩
abbrev S1056x1024 : Shape := ⟨2, ![1056, 1024]⟩
abbrev S1056x640 : Shape := ⟨2, ![1056, 640]⟩
abbrev S1x1024x640 : Shape := ⟨3, ![1, 1024, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x2560, .bf16⟩
  | .hbm, ⟨2, _⟩ => ⟨S4x1024x640, .f32⟩
  | .local _ .vmem, ⟨0, _⟩ => ⟨S1056x1024, .bf16⟩
  | .local _ .vmem, ⟨1, _⟩ => ⟨S1056x1024, .bf16⟩
  | .local _ .vmem, ⟨2, _⟩ => ⟨S1056x640, .bf16⟩
  | .local _ .vmem, ⟨3, _⟩ => ⟨S1056x640, .bf16⟩
  | .local _ .vmem, ⟨4, _⟩ => ⟨S1x1024x640, .f32⟩
  | .local _ .vmem, ⟨5, _⟩ => ⟨S1x1024x640, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x1024 : Shape := ⟨2, ![4224, 1024]⟩
abbrev S4224x2560 : Shape := ⟨2, ![4224, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2560, .bf16⟩
  | .hbm, ⟨2, _⟩ => ⟨S_, .f32⟩
  | .hbm, ⟨3, _⟩ => ⟨S1024x2560, .f32⟩
  | .hbm, ⟨4, _⟩ => ⟨S4224x1024, .f32⟩
  | .hbm, ⟨5, _⟩ => ⟨S4224x2560, .f32⟩
  | .hbm, ⟨6, _⟩ => ⟨S4224x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4224x1024 : Shape := ⟨2, ![4224, 1024]⟩
abbrev S1x1024x1024 : Shape := ⟨3, ![1, 1024, 1024]⟩
abbrev S1056x1024 : Shape := ⟨2, ![1056, 1024]⟩
abbrev S1x512x1024 : Shape := ⟨3, ![1, 512, 1024]⟩
abbrev S512x1024 : Shape := ⟨2, ![512, 1024]⟩
abbrev S1056x512 : Shape := ⟨2, ![1056, 512]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1x1024x1024, .bf16⟩
  | .hbm, ⟨2, _⟩ => ⟨S4224x1024, .f32⟩
  | .local _ .vmem, ⟨0, _⟩ => ⟨S1056x1024, .f32⟩
  | .local _ .vmem, ⟨1, _⟩ => ⟨S1056x1024, .f32⟩
  | .local _ .vmem, ⟨2, _⟩ => ⟨S1x1024x1024, .bf16⟩
  | .local _ .vmem, ⟨3, _⟩ => ⟨S1056x1024, .f32⟩
  | .local _ .vmem, ⟨4, _⟩ => ⟨S1056x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4224x1024 : Shape := ⟨2, ![4224, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024x1024, .bf16⟩
  | .hbm, ⟨2, _⟩ => ⟨S_, .f32⟩
  | .hbm, ⟨3, _⟩ => ⟨S4224x1024, .f32⟩
  | .hbm, ⟨4, _⟩ => ⟨S1024x1024, .bf16⟩
  | .hbm, ⟨5, _⟩ => ⟨S1024x1024, .f32⟩
  | .hbm, ⟨6, _⟩ => ⟨S4224x1024, .f32⟩
  | .hbm, ⟨7, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4224x512 : Shape := ⟨2, ![4224, 512]⟩
abbrev S4224x1024 : Shape := ⟨2, ![4224, 1024]⟩
abbrev S1024x1024 : Shape := ⟨2, ![1024, 1024]⟩
abbrev S1056x512 : Shape := ⟨2, ![1056, 512]⟩
abbrev S1056x1024 : Shape := ⟨2, ![1056, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x1024, .f32⟩
  | .hbm, ⟨3, _⟩ => ⟨S1024x1024, .f32⟩
  | .local _ .vmem, ⟨0, _⟩ => ⟨S1056x512, .bf16⟩
  | .local _ .vmem, ⟨1, _⟩ => ⟨S1056x512, .bf16⟩
  | .local _ .vmem, ⟨2, _⟩ => ⟨S1056x512, .bf16⟩
  | .local _ .vmem, ⟨3, _⟩ => ⟨S1056x512, .bf16⟩
  | .local _ .vmem, ⟨4, _⟩ => ⟨S1056x1024, .f32⟩
  | .local _ .vmem, ⟨5, _⟩ => ⟨S1056x1024, .f32⟩
  | .local _ .vmem, ⟨6, _⟩ => ⟨S512x1024, .f32⟩
  | .local _ .vmem, ⟨7, _⟩ => ⟨S512x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4224x512 : Shape := ⟨2, ![4224, 512]⟩
abbrev S4224x1024 : Shape := ⟨2, ![4224, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x1024, .f32⟩
  | .hbm, ⟨3, _⟩ => ⟨S_, .f32⟩
  | .hbm, ⟨4, _⟩ => ⟨S1024x1024, .f32⟩
  | .hbm, ⟨5, _⟩ => ⟨S4224x1024, .bf16⟩
  | .hbm, ⟨6, _⟩ => ⟨S4224x1024, .f32⟩
  | .hbm, ⟨7, _⟩ => ⟨S4224x1024, .f32⟩
  | .hbm, ⟨8, _⟩ => ⟨S1024x1024, .f32⟩
  | .hbm, ⟨9, _⟩ => ⟨S1024x1024, .f32⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S4224x1024 : Shape := ⟨2, ![4224, 1024]⟩
abbrev S1x1024 : Shape := ⟨2, ![1, 1024]⟩
abbrev S1x2816x1024 : Shape := ⟨3, ![1, 2816, 1024]⟩
abbrev S4224x2816 : Shape := ⟨2, ![4224, 2816]⟩
abbrev S352x1024 : Shape := ⟨2, ![352, 1024]⟩
abbrev S352x2816 : Shape := ⟨2, ![352, 2816]⟩
abbrev S352 : Shape := ⟨1, ![352]⟩
abbrev S352x1 : Shape := ⟨2, ![352, 1]⟩
abbrev S1x1408x1024 : Shape := ⟨3, ![1, 1408, 1024]⟩
abbrev S1408x1024 : Shape := ⟨2, ![1408, 1024]⟩
abbrev S352x1408 : Shape := ⟨2, ![352, 1408]⟩

abbrev nBuf : Space → Nat
  | .hbm => 8
  | .vmem => 13
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1x2816x1024, .bf16⟩
  | .hbm, ⟨3, _⟩ => ⟨S1x2816x1024, .bf16⟩
  | .hbm, ⟨4, _⟩ => ⟨S4224x1024, .bf16⟩
  | .hbm, ⟨5, _⟩ => ⟨S4224x2816, .bf16⟩
  | .hbm, ⟨6, _⟩ => ⟨S4224x2816, .bf16⟩
  | .hbm, ⟨7, _⟩ => ⟨S4224x2816, .bf16⟩
  | .local _ .vmem, ⟨0, _⟩ => ⟨S352x1024, .f32⟩
  | .local _ .vmem, ⟨1, _⟩ => ⟨S352x1024, .f32⟩
  | .local _ .vmem, ⟨2, _⟩ => ⟨S1x1024, .f32⟩
  | .local _ .vmem, ⟨3, _⟩ => ⟨S1x2816x1024, .bf16⟩
  | .local _ .vmem, ⟨4, _⟩ => ⟨S1x2816x1024, .bf16⟩
  | .local _ .vmem, ⟨5, _⟩ => ⟨S352x1024, .bf16⟩
  | .local _ .vmem, ⟨6, _⟩ => ⟨S352x1024, .bf16⟩
  | .local _ .vmem, ⟨7, _⟩ => ⟨S352x2816, .bf16⟩
  | .local _ .vmem, ⟨8, _⟩ => ⟨S352x2816, .bf16⟩
  | .local _ .vmem, ⟨9, _⟩ => ⟨S352x2816, .bf16⟩
  | .local _ .vmem, ⟨10, _⟩ => ⟨S352x2816, .bf16⟩
  | .local _ .vmem, ⟨11, _⟩ => ⟨S352x2816, .bf16⟩
  | .local _ .vmem, ⟨12, _⟩ => ⟨S352x2816, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4224x1024 : Shape := ⟨2, ![4224, 1024]⟩
abbrev S1x1024 : Shape := ⟨2, ![1, 1024]⟩
abbrev S1x2816x1024 : Shape := ⟨3, ![1, 2816, 1024]⟩
abbrev S_ : Shape := ⟨0, ![]⟩
abbrev S4224 : Shape := ⟨1, ![4224]⟩
abbrev S4224x1 : Shape := ⟨2, ![4224, 1]⟩
abbrev S2816x1024 : Shape := ⟨2, ![2816, 1024]⟩
abbrev S1024x2816 : Shape := ⟨2, ![1024, 2816]⟩
abbrev S4224x2816 : Shape := ⟨2, ![4224, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1x2816x1024, .bf16⟩
  | .hbm, ⟨3, _⟩ => ⟨S1x2816x1024, .bf16⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S2816x1024, .bf16⟩
  | .hbm, ⟨20, _⟩ => ⟨S2816x1024, .f32⟩
  | .hbm, ⟨21, _⟩ => ⟨S1024x2816, .f32⟩
  | .hbm, ⟨22, _⟩ => ⟨S4224x2816, .f32⟩
  | .hbm, ⟨23, _⟩ => ⟨S2816x1024, .bf16⟩
  | .hbm, ⟨24, _⟩ => ⟨S2816x1024, .f32⟩
  | .hbm, ⟨25, _⟩ => ⟨S1024x2816, .f32⟩
  | .hbm, ⟨26, _⟩ => ⟨S4224x2816, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S_, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x1024, .bf16⟩
  | .hbm, ⟨38, _⟩ => ⟨S4224x2816, .bf16⟩
  | .hbm, ⟨39, _⟩ => ⟨S4224x2816, .bf16⟩
  | .hbm, ⟨40, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel11.lean ====
abbrev S4224x2816 : Shape := ⟨2, ![4224, 2816]⟩
abbrev S1x2816x1024 : Shape := ⟨3, ![1, 2816, 1024]⟩
abbrev S4224x1024 : Shape := ⟨2, ![4224, 1024]⟩
abbrev S352x2816 : Shape := ⟨2, ![352, 2816]⟩
abbrev S352x1024 : Shape := ⟨2, ![352, 1024]⟩
abbrev S1x2816x512 : Shape := ⟨3, ![1, 2816, 512]⟩
abbrev S2816x512 : Shape := ⟨2, ![2816, 512]⟩
abbrev S352x512 : Shape := ⟨2, ![352, 512]⟩

abbrev nBuf : Space → Nat
  | .hbm => 4
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S1x2816x1024, .bf16⟩
  | .hbm, ⟨2, _⟩ => ⟨S4224x1024, .f32⟩
  | .hbm, ⟨3, _⟩ => ⟨S4224x1024, .f32⟩
  | .local _ .vmem, ⟨0, _⟩ => ⟨S352x2816, .bf16⟩
  | .local _ .vmem, ⟨1, _⟩ => ⟨S352x2816, .bf16⟩
  | .local _ .vmem, ⟨2, _⟩ => ⟨S1x2816x1024, .bf16⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4224x2816 : Shape := ⟨2, ![4224, 2816]⟩
abbrev S1x2816x1024 : Shape := ⟨3, ![1, 2816, 1024]⟩
abbrev S4224x1024 : Shape := ⟨2, ![4224, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S1x2816x1024, .bf16⟩
  | .hbm, ⟨2, _⟩ => ⟨S4224x1024, .f32⟩
  | .hbm, ⟨3, _⟩ => ⟨S4224x2816, .f32⟩
  | .hbm, ⟨4, _⟩ => ⟨S2816x1024, .bf16⟩
  | .hbm, ⟨5, _⟩ => ⟨S2816x1024, .f32⟩
  | .hbm, ⟨6, _⟩ => ⟨S4224x1024, .f32⟩
  | .hbm, ⟨7, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4224x1024 : Shape := ⟨2, ![4224, 1024]⟩
abbrev S1x1024 : Shape := ⟨2, ![1, 1024]⟩
abbrev S1x1024x2560 : Shape := ⟨3, ![1, 1024, 2560]⟩
abbrev S4224x1536 : Shape := ⟨2, ![4224, 1536]⟩
abbrev S352x1024 : Shape := ⟨2, ![352, 1024]⟩
abbrev S352x1536 : Shape := ⟨2, ![352, 1536]⟩
abbrev S352 : Shape := ⟨1, ![352]⟩
abbrev S352x1 : Shape := ⟨2, ![352, 1]⟩
abbrev S1x1024x512 : Shape := ⟨3, ![1, 1024, 512]⟩
abbrev S1024x512 : Shape := ⟨2, ![1024, 512]⟩
abbrev S352x512 : Shape := ⟨2, ![352, 512]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1x1024x2560, .bf16⟩
  | .hbm, ⟨3, _⟩ => ⟨S4224x1024, .bf16⟩
  | .hbm, ⟨4, _⟩ => ⟨S4224x1536, .bf16⟩
  | .hbm, ⟨5, _⟩ => ⟨S4224x1024, .f32⟩
  | .local _ .vmem, ⟨0, _⟩ => ⟨S352x1024, .f32⟩
  | .local _ .vmem, ⟨1, _⟩ => ⟨S352x1024, .f32⟩
  | .local _ .vmem, ⟨2, _⟩ => ⟨S1x1024, .f32⟩
  | .local _ .vmem, ⟨3, _⟩ => ⟨S1x1024x2560, .bf16⟩
  | .local _ .vmem, ⟨4, _⟩ => ⟨S352x1024, .bf16⟩
  | .local _ .vmem, ⟨5, _⟩ => ⟨S352x1024, .bf16⟩
  | .local _ .vmem, ⟨6, _⟩ => ⟨S352x1536, .bf16⟩
  | .local _ .vmem, ⟨7, _⟩ => ⟨S352x1536, .bf16⟩
  | .local _ .vmem, ⟨8, _⟩ => ⟨S352x1024, .f32⟩
  | .local _ .vmem, ⟨9, _⟩ => ⟨S352x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4224x1024 : Shape := ⟨2, ![4224, 1024]⟩
abbrev S1x1024 : Shape := ⟨2, ![1, 1024]⟩
abbrev S1x1024x2560 : Shape := ⟨3, ![1, 1024, 2560]⟩
abbrev S_ : Shape := ⟨0, ![]⟩
abbrev S4224 : Shape := ⟨1, ![4224]⟩
abbrev S4224x1 : Shape := ⟨2, ![4224, 1]⟩
abbrev S1024x2560 : Shape := ⟨2, ![1024, 2560]⟩
abbrev S4224x2560 : Shape := ⟨2, ![4224, 2560]⟩
abbrev S4224x1536 : Shape := ⟨2, ![4224, 1536]⟩

abbrev nBuf : Space → Nat
  | .hbm => 25
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1x1024x2560, .bf16⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S1024x2560, .bf16⟩
  | .hbm, ⟨19, _⟩ => ⟨S1024x2560, .f32⟩
  | .hbm, ⟨20, _⟩ => ⟨S4224x2560, .f32⟩
  | .hbm, ⟨21, _⟩ => ⟨S4224x1024, .bf16⟩
  | .hbm, ⟨22, _⟩ => ⟨S4224x1536, .f32⟩
  | .hbm, ⟨23, _⟩ => ⟨S4224x1536, .bf16⟩
  | .hbm, ⟨24, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel13.lean ====
abbrev S4224x512 : Shape := ⟨2, ![4224, 512]⟩
abbrev S1x1024x1024 : Shape := ⟨3, ![1, 1024, 1024]⟩
abbrev S4224x1024 : Shape := ⟨2, ![4224, 1024]⟩
abbrev S1056x512 : Shape := ⟨2, ![1056, 512]⟩
abbrev S1056x1024 : Shape := ⟨2, ![1056, 1024]⟩
abbrev S1x512x512 : Shape := ⟨3, ![1, 512, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S1x1024x1024, .bf16⟩
  | .hbm, ⟨3, _⟩ => ⟨S4224x1024, .f32⟩
  | .hbm, ⟨4, _⟩ => ⟨S4224x1024, .f32⟩
  | .local _ .vmem, ⟨0, _⟩ => ⟨S1056x512, .bf16⟩
  | .local _ .vmem, ⟨1, _⟩ => ⟨S1056x512, .bf16⟩
  | .local _ .vmem, ⟨2, _⟩ => ⟨S1056x512, .bf16⟩
  | .local _ .vmem, ⟨3, _⟩ => ⟨S1056x512, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | .local _ .vmem, ⟨9, _⟩ => ⟨S1056x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4224x512 : Shape := ⟨2, ![4224, 512]⟩
abbrev S1x1024x1024 : Shape := ⟨3, ![1, 1024, 1024]⟩
abbrev S4224x1024 : Shape := ⟨2, ![4224, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S1x1024x1024, .bf16⟩
  | .hbm, ⟨3, _⟩ => ⟨S4224x1024, .f32⟩
  | .hbm, ⟨4, _⟩ => ⟨S4224x1024, .bf16⟩
  | .hbm, ⟨5, _⟩ => ⟨S4224x1024, .f32⟩
  | .hbm, ⟨6, _⟩ => ⟨S1024x1024, .bf16⟩
  | .hbm, ⟨7, _⟩ => ⟨S1024x1024, .f32⟩
  | .hbm, ⟨8, _⟩ => ⟨S4224x1024, .f32⟩
  | .hbm, ⟨9, _⟩ => ⟨S4224x1024, .f32⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S2x1024x640 : Shape := ⟨3, ![2, 1024, 640]⟩
abbrev S1x512x640 : Shape := ⟨3, ![1, 512, 640]⟩
abbrev S512x640 : Shape := ⟨2, ![512, 640]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .local _ .vmem, ⟨0, _⟩ => ⟨S1x512x640, .f32⟩
  | .local _ .vmem, ⟨1, _⟩ => ⟨S1x512x640, .f32⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x512x640, .f32⟩
  | .local _ .vmem, ⟨7, _⟩ => ⟨S1x512x640, .f32⟩
  | .local _ .vmem, ⟨8, _⟩ => ⟨S1x512x640, .f32⟩
  | .local _ .vmem, ⟨9, _⟩ => ⟨S1x512x640, .f32⟩
  | .local _ .vmem, ⟨10, _⟩ => ⟨S1x512x640, .f32⟩
  | .local _ .vmem, ⟨11, _⟩ => ⟨S1x512x640, .f32⟩
  | .local _ .vmem, ⟨12, _⟩ => ⟨S1x512x640, .f32⟩
  | .local _ .vmem, ⟨13, _⟩ => ⟨S1x512x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S2x1024x640 : Shape := ⟨3, ![2, 1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S_, .f32⟩
  | .hbm, ⟨5, _⟩ => ⟨S2x1024x640, .f32⟩
  | .hbm, ⟨6, _⟩ => ⟨S2x1024x640, .f32⟩
  | .hbm, ⟨7, _⟩ => ⟨S_, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S_, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S_, .f32⟩
  | .hbm, ⟨23, _⟩ => ⟨S2x1024x640, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x704x1024 : Shape := ⟨3, ![2, 704, 1024]⟩
abbrev S1x704x1024 : Shape := ⟨3, ![1, 704, 1024]⟩
abbrev S704x1024 : Shape := ⟨2, ![704, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x704x1024, .f32⟩
  | .local _ .vmem, ⟨1, _⟩ => ⟨S1x704x1024, .f32⟩
  | .local _ .vmem, ⟨2, _⟩ => ⟨S1x704x1024, .f32⟩
  | .local _ .vmem, ⟨3, _⟩ => ⟨S1x704x1024, .f32⟩
  | .local _ .vmem, ⟨4, _⟩ => ⟨S1x704x1024, .f32⟩
  | .local _ .vmem, ⟨5, _⟩ => ⟨S1x704x1024, .f32⟩
  | .local _ .vmem, ⟨6, _⟩ => ⟨S1x704x1024, .f32⟩
  | .local _ .vmem, ⟨7, _⟩ => ⟨S1x704x1024, .f32⟩
  | .local _ .vmem, ⟨8, _⟩ => ⟨S1x704x1024, .f32⟩
  | .local _ .vmem, ⟨9, _⟩ => ⟨S1x704x1024, .f32⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Finite.lean ====
/- What "every entry is finite" gives: entries that are real numbers, and the operations of the extended reals on them. -/
module

public import Idealize.ShloMosaic.Lib.ReduceAll
public import Idealize.ShloMosaic.Lib.IdealHost

@[expose] public section

noncomputable section

namespace Cert.Finite

open Idealize.ShloMosaic

/-- Every entry of the array is a real number. -/
def AllReal {ι : Type} (x : ι → EReal) : Prop := ∀ i, ∃ r : ℝ, x i = r

theorem real_of_abs_lt {a : EReal} (h : max a (-a) < ⊤) : ∃ r : ℝ, a = r := by
  induction a with
  | bot => simp at h
  | top => simp at h
  | coe r => exact ⟨r, rfl⟩

theorem inf_word : Ideal.ofBits .f32 0x7F800000#32 = ⊤ := by simp [Ideal.ofBits, Ideal.ieee]

/-- The printed form of `jnp.all(jnp.abs(x) < jnp.inf)`: where it is one, every entry of `x` is a real number. -/
theorem allReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel) (j)
    (e : Host.reduce IntOp.andi (cmpf (F := Ideal) (φ := .f32) .olt (Host.absf x)
      (broadcastInDim s ![] hb (constant ⟨0, ![]⟩ .f32 0x7F800000#32))) (constantI ⟨0, ![]⟩ 1 1#1) hr hu j = 1#1) : AllReal x := by
  intro i
  have h := Host.reduce_andi_all _ _ _ _ j e i
  change BitVec.ofBool (decide (max (x i) (-x i) < Ideal.ofBits .f32 0x7F800000#32)) = 1#1 at h
  rw [inf_word] at h
  refine real_of_abs_lt ?_
  by_contra hn
  simp [hn] at h

/-- The same of an array that is first widened to single precision. -/
theorem allReal_of_all_extf {s : Shape} {φ : FTy} {axes : List (Fin s.rank)} (x : FVec Ideal s φ) (hl : FTy.bits φ < FTy.bits .f32)
    (hb : (⟨0, ![]⟩ : Shape).BroadcastsInDim s ![]) (hr : s.ReducesTo axes ⟨0, ![]⟩) (hu : 0 < (⟨0, ![]⟩ : Shape).numel) (j)
    (e : Host.reduce IntOp.andi (cmpf (F := Ideal) (φ := .f32) .olt (Host.absf (extf .f32 x hl))
      (broadcastInDim s ![] hb (constant ⟨0, ![]⟩ .f32 0x7F800000#32))) (constantI ⟨0, ![]⟩ 1 1#1) hr hu j = 1#1) : AllReal x :=
  allReal_of_all (extf .f32 x hl) hb hr hu j e

/-- A conjunction of two such bits is one exactly when both are. -/
theorem and_one {x y : BitVec 1} (h : IntOp.andi x y = 1#1) : x = 1#1 ∧ y = 1#1 := by
  revert x y; decide

theorem coe_sum {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

theorem real_sum {ι : Type} [Fintype ι] {f : ι → EReal} (h : ∀ i, ∃ r : ℝ, f i = r) : ∃ r : ℝ, ∑ i, f i = r := by
  choose r hr using h
  exact ⟨∑ i, r i, by rw [← coe_sum]; exact Finset.sum_congr rfl fun i _ => hr i⟩

theorem real_mul {a b : EReal} : (∃ r : ℝ, a = r) → (∃ r : ℝ, b = r) → ∃ r : ℝ, a * b = r := by
  rintro ⟨r, rfl⟩ ⟨q, rfl⟩
  exact ⟨r * q, (EReal.coe_mul r q).symm⟩

theorem real_add {a b : EReal} : (∃ r : ℝ, a = r) → (∃ r : ℝ, b = r) → ∃ r : ℝ, a + b = r := by
  rintro ⟨r, rfl⟩ ⟨q, rfl⟩
  exact ⟨r + q, (EReal.coe_add r q).symm⟩

/-- The logistic function of a real number. -/
def sg (x : ℝ) : ℝ := 1 / (1 + Real.exp (-x))

theorem sigmoid_coe (x : ℝ) : Ideal.div 1 (1 + Ideal.exp (-(x : EReal))) = (sg x : EReal) := by
  have h : (1 : EReal) + Ideal.exp (-(x : EReal)) = ((1 + Real.exp (-x) : ℝ) : EReal) := by
    rw [← EReal.coe_neg, Ideal.exp_coe, EReal.coe_add, EReal.coe_one]
  rw [h, Ideal.div_coe (by positivity), one_mul, sg]

/-- The gradient of `silu` times an incoming product, in the two ways the programs write it. -/
theorem silu_gradient {d u g : EReal} (hd : ∃ r : ℝ, d = r) (hu : ∃ r : ℝ, u = r) (hg : ∃ r : ℝ, g = r) :
    d * u * (Ideal.div 1 (1 + Ideal.exp (0 - g)) * (1 + g * (1 - Ideal.div 1 (1 + Ideal.exp (0 - g)))))
      = d * u * Ideal.div 1 (1 + Ideal.exp (-g))
        + g * (d * u) * (Ideal.div 1 (1 + Ideal.exp (-g)) * (1 - Ideal.div 1 (1 + Ideal.exp (-g)))) := by
  obtain ⟨d, rfl⟩ := hd
  obtain ⟨u, rfl⟩ := hu
  obtain ⟨g, rfl⟩ := hg
  rw [zero_sub, sigmoid_coe]
  norm_cast
  ring

end Cert.Finite

end
-- ==== Proof.Norm.lean ====
/- The gradient of a normalisation by the root of the mean square, over rows of 1024 real numbers. -/
module

public import proofs.«01_k».proof.Proof.Finite

@[expose] public section

noncomputable section

namespace Cert.Finite

open Idealize.ShloMosaic

theorem width_word : Ideal.ofBits .f32 1149239296#32 = ((1024 : ℝ) : EReal) := by
  simp [Ideal.ofBits, Ideal.ieee, ← EReal.coe_mul]; norm_num

theorem neg_half_word : Ideal.ofBits .f32 3204448256#32 = ((-(1 / 2) : ℝ) : EReal) := by
  simp [Ideal.ofBits, Ideal.ieee, ← EReal.coe_mul]; norm_num

/-- The small number the mean square is raised by. -/
theorem eps_word : ∃ e : ℝ, 0 < e ∧ Ideal.ofBits .f32 897988541#32 = (e : EReal) := by
  refine ⟨8796093 / 2 ^ 43, by norm_num, ?_⟩
  simp [Ideal.ofBits, Ideal.ieee, ← EReal.coe_mul]; norm_num

/-- The reciprocal root of the raised mean square, of real entries: its square is the reciprocal. -/
theorem rsqrt_mean {n : ℕ} (x : Fin n → ℝ) :
    ∃ q ρ : ℝ, 0 < q ∧ ρ * ρ * q = 1
      ∧ Ideal.div (∑ k, (x k : EReal) * x k) (Ideal.ofBits .f32 1149239296#32) + Ideal.ofBits .f32 897988541#32 = (q : EReal)
      ∧ Ideal.rsqrt (q : EReal) = (ρ : EReal) := by
  obtain ⟨e, he, hw⟩ := eps_word
  have hs : 0 ≤ ∑ k, x k * x k := Finset.sum_nonneg fun k _ => mul_self_nonneg _
  have hq : 0 < (∑ k, x k * x k) * (1 / 1024) + e := by positivity
  refine ⟨_, (Real.sqrt ((∑ k, x k * x k) * (1 / 1024) + e))⁻¹, hq, ?_, ?_, ?_⟩
  · rw [← mul_inv, Real.mul_self_sqrt hq.le, inv_mul_cancel₀ hq.ne']
  · rw [hw, width_word, Ideal.div_coe (by norm_num), EReal.coe_add, EReal.coe_mul, ← coe_sum]
    simp only [EReal.coe_mul]
  · rw [Ideal.rsqrt_coe, if_neg hq.le.not_gt, if_neg hq.ne']

/-- The gradient of the normalisation added to `h`, by the derivative of the reciprocal root, which reaches the row twice: of the row `x`,
the incoming gradient `d` and the gain `g`, at the entry `j`. -/
def normBack {n : ℕ} (x d g : Fin n → EReal) (h : EReal) (j : Fin n) : EReal :=
  h + d j * g j
            * Ideal.rsqrt (Ideal.div (∑ k, x k * x k) (Ideal.ofBits .f32 1149239296#32) + Ideal.ofBits .f32 897988541#32)
          + x j * ∑ _ : Fin 1, Ideal.div ((∑ k, x k * (d k * g k)) * (Ideal.ofBits .f32 3204448256#32
              * Ideal.div (Ideal.rsqrt (Ideal.div (∑ k, x k * x k) (Ideal.ofBits .f32 1149239296#32) + Ideal.ofBits .f32 897988541#32))
                  (Ideal.div (∑ k, x k * x k) (Ideal.ofBits .f32 1149239296#32) + Ideal.ofBits .f32 897988541#32)))
              (Ideal.ofBits .f32 1149239296#32)
        + (∑ _ : Fin 1, Ideal.div ((∑ k, x k * (d k * g k)) * (Ideal.ofBits .f32 3204448256#32
              * Ideal.div (Ideal.rsqrt (Ideal.div (∑ k, x k * x k) (Ideal.ofBits .f32 1149239296#32) + Ideal.ofBits .f32 897988541#32))
                  (Ideal.div (∑ k, x k * x k) (Ideal.ofBits .f32 1149239296#32) + Ideal.ofBits .f32 897988541#32)))
              (Ideal.ofBits .f32 1149239296#32)) * x j

/-- The gradient of the normalisation added to `h`, through the mean of the products with the normalised row. -/
theorem norm_gradient {n : ℕ} {x d g : Fin n → EReal} {h : EReal} (hx : ∀ k, ∃ r : ℝ, x k = r) (hd : ∀ k, ∃ r : ℝ, d k = r)
    (hg : ∀ k, ∃ r : ℝ, g k = r) (hh : ∃ r : ℝ, h = r) (j : Fin n) :
    h + Ideal.rsqrt (Ideal.div (∑ k, x k * x k) (Ideal.ofBits .f32 1149239296#32) + Ideal.ofBits .f32 897988541#32)
        * (d j * g j
          - x j * Ideal.rsqrt (Ideal.div (∑ k, x k * x k) (Ideal.ofBits .f32 1149239296#32) + Ideal.ofBits .f32 897988541#32)
            * Ideal.div (∑ k, d k * g k
                * (x k * Ideal.rsqrt (Ideal.div (∑ k, x k * x k) (Ideal.ofBits .f32 1149239296#32) + Ideal.ofBits .f32 897988541#32)))
              (Ideal.ofBits .f32 1149239296#32))
      = normBack x d g h j := by
  choose x' hx using hx
  choose d' hd using hd
  choose g' hg using hg
  obtain ⟨h', rfl⟩ := hh
  obtain ⟨q, ρ, hq, hρ, e, eρ⟩ := rsqrt_mean x'
  simp only [normBack, hx, hd, hg, e, eρ]
  simp only [neg_half_word, width_word, Ideal.div_coe hq.ne', Ideal.div_coe (show (1024 : ℝ) ≠ 0 by norm_num),
    Finset.univ_unique, Finset.sum_singleton, ← EReal.coe_mul, coe_sum, ← EReal.coe_sub, ← EReal.coe_add]
  rw [show (∑ k, d' k * g' k * (x' k * ρ)) = (∑ k, x' k * (d' k * g' k)) * ρ by
    rw [Finset.sum_mul]; exact Finset.sum_congr rfl fun k _ => by ring]
  norm_cast
  have h1 : 1 / q = ρ * ρ := by field_simp; linarith
  rw [h1]
  ring

theorem real_div_width {a : EReal} (h : ∃ r : ℝ, a = r) : ∃ r : ℝ, Ideal.div a (Ideal.ofBits .f32 1149239296#32) = r := by
  obtain ⟨r, rfl⟩ := h
  exact ⟨r * (1 / 1024), by rw [width_word, Ideal.div_coe (by norm_num), EReal.coe_mul]⟩

end Cert.Finite

end
-- ==== Proof.Conv.lean ====
/- The convolution's backward call, block by block: what it keeps in its scratch arrays, as formulas of the rows it loads. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

variable (m : (ℓ : Loc nD τ sig) → Buf (Elt Ideal) ℓ)

/-- The mean of a row of 512. -/
def mean (x : Fin 512 → EReal) : EReal := Ideal.div (∑ k, x k) (Ideal.ofBits .f32 1140850688#32)

/-- The reciprocal root of a row's variance. -/
def rstd (y : Fin 512 → EReal) : EReal :=
  Ideal.rsqrt (Ideal.div (∑ k, (y k - mean y) * (y k - mean y)) (Ideal.ofBits .f32 1140850688#32) + Ideal.ofBits .f32 897988541#32)

/-- The normalised row. -/
def yhat (y : Fin 512 → EReal) (j : Fin 512) : EReal := (y j - mean y) * rstd y

/-- The normalised row with the gain and the offset. -/
def lnRow (y g b : Fin 512 → EReal) (j : Fin 512) : EReal := yhat y j * g j + b j

/-- The logistic function, as the call writes it. -/
def logi (x : EReal) : EReal := Ideal.div 1 (1 + Ideal.exp (0 - x))

/-- The gradient in front of the activation. -/
def dln (y d g b : Fin 512 → EReal) (j : Fin 512) : EReal :=
  d j * (logi (lnRow y g b j) * (1 + lnRow y g b j * (1 - logi (lnRow y g b j))))

/-- The gradient in front of the layer norm, as the call writes it. -/
def lnBack (y d g b : Fin 512 → EReal) (j : Fin 512) : EReal :=
  rstd y * (dln y d g b j * g j - mean (fun k => dln y d g b k * g k) - yhat y j * mean (fun k => dln y d g b k * g k * yhat y k))

/-- The same on a chunk of 32 rows. -/
def lnChunk (Y D : FVec Ideal S32x512 .f32) (G B : FVec Ideal S1x512 .f32) : FVec Ideal S32x512 .f32 :=
  fun z => lnBack (fun k => Y (ix2 (z 0) k)) (fun k => D (ix2 (z 0) k)) (fun k => G (ix2 0 k)) (fun k => B (ix2 0 k)) (z 1)

theorem dy_chunk_384 (n : ℕ) (hn : n < 11) (Y D : FVec Ideal S32x512 .f32) (G B : FVec Ideal S1x512 .f32) :
    k0_pay161 (F := Ideal) (Scalar.cmpi CmpIPredicate.eq (BitVec.ofNat 32 n) 10#32) (k0_pay157 Y) (k0_pay158 Y) (k0_pay159 Y G) (k0_pay160 B) D G = lnChunk Y (fun z => if n = 10 then 0 else D z) G B := by
  have row : ∀ (a : Fin 32) (b : Fin 512), (k0_pay161 (F := Ideal) (Scalar.cmpi CmpIPredicate.eq (BitVec.ofNat 32 n) 10#32) (k0_pay157 Y) (k0_pay158 Y) (k0_pay159 Y G) (k0_pay160 B) D G) (ix2 a b)
      = lnBack (fun k => Y (ix2 a k)) (fun k => if n = 10 then 0 else D (ix2 a k)) (fun k => G (ix2 0 k)) (fun k => B (ix2 0 k)) b := by
    intro a b
    by_cases h : n = 10
    · subst h
      pointwise [k0_pay156, k0_pay157, k0_pay158, k0_pay159, k0_pay160, k0_pay161, lnBack, dln, lnRow, yhat, rstd, mean, logi, if_true]
    · have hb : Scalar.cmpi CmpIPredicate.eq (BitVec.ofNat 32 n) 10#32 = 0#1 := by
        interval_cases n <;> first | rfl | exact absurd rfl h
      rw [hb]
      simp only [h, if_false]
      pointwise [k0_pay156, k0_pay157, k0_pay158, k0_pay159, k0_pay160, k0_pay161, lnBack, dln, lnRow, yhat, rstd, mean, logi]
  funext z
  exact (congrArg _ (eq_ix2 z)).trans (row (z 0) (z 1))

theorem dy_chunk_352 (Y D : FVec Ideal S32x512 .f32) (G B : FVec Ideal S1x512 .f32) :
    k0_pay152 (F := Ideal) (k0_pay145 (k0_pay144 Y)) (k0_pay146 (k0_pay143 Y) (k0_pay144 Y)) (k0_pay149 (k0_pay143 Y) (k0_pay144 Y) G B D G) (k0_pay150 (k0_pay143 Y) (k0_pay144 Y) G B D G) (FloatOps.ofBits FTy.f32 1140850688#32) = lnChunk Y D G B := by
  have row : ∀ (a : Fin 32) (b : Fin 512), (k0_pay152 (F := Ideal) (k0_pay145 (k0_pay144 Y)) (k0_pay146 (k0_pay143 Y) (k0_pay144 Y)) (k0_pay149 (k0_pay143 Y) (k0_pay144 Y) G B D G) (k0_pay150 (k0_pay143 Y) (k0_pay144 Y) G B D G) (FloatOps.ofBits FTy.f32 1140850688#32)) (ix2 a b)
      = lnBack (fun k => Y (ix2 a k)) (fun k => D (ix2 a k)) (fun k => G (ix2 0 k)) (fun k => B (ix2 0 k)) b := by
    intro a b
    pointwise [k0_pay143, k0_pay144, k0_pay145, k0_pay146, k0_pay147, k0_pay148, k0_pay149, k0_pay150, k0_pay151, k0_pay152, lnBack, dln, lnRow, yhat, rstd, mean, logi]
  funext z
  exact (congrArg _ (eq_ix2 z)).trans (row (z 0) (z 1))

theorem dy_chunk_320 (Y D : FVec Ideal S32x512 .f32) (G B : FVec Ideal S1x512 .f32) :
    k0_pay139 (F := Ideal) (k0_pay134 Y) (k0_pay135 Y) D (k0_pay136 Y G B) G = lnChunk Y D G B := by
  have row : ∀ (a : Fin 32) (b : Fin 512), (k0_pay139 (F := Ideal) (k0_pay134 Y) (k0_pay135 Y) D (k0_pay136 Y G B) G) (ix2 a b)
      = lnBack (fun k => Y (ix2 a k)) (fun k => D (ix2 a k)) (fun k => G (ix2 0 k)) (fun k => B (ix2 0 k)) b := by
    intro a b
    pointwise [k0_pay133, k0_pay134, k0_pay135, k0_pay136, k0_pay137, k0_pay138, k0_pay139, lnBack, dln, lnRow, yhat, rstd, mean, logi]
  funext z
  exact (congrArg _ (eq_ix2 z)).trans (row (z 0) (z 1))

theorem dy_chunk_288 (Y D : FVec Ideal S32x512 .f32) (G B : FVec Ideal S1x512 .f32) :
    k0_pay129 (F := Ideal) (k0_pay123 Y) (k0_pay124 Y) (k0_pay125 Y G B) k0_pay126 D G = lnChunk Y D G B := by
  have row : ∀ (a : Fin 32) (b : Fin 512), (k0_pay129 (F := Ideal) (k0_pay123 Y) (k0_pay124 Y) (k0_pay125 Y G B) k0_pay126 D G) (ix2 a b)
      = lnBack (fun k => Y (ix2 a k)) (fun k => D (ix2 a k)) (fun k => G (ix2 0 k)) (fun k => B (ix2 0 k)) b := by
    intro a b
    pointwise [k0_pay122, k0_pay123, k0_pay124, k0_pay125, k0_pay126, k0_pay127, k0_pay128, k0_pay129, lnBack, dln, lnRow, yhat, rstd, mean, logi]
  funext z
  exact (congrArg _ (eq_ix2 z)).trans (row (z 0) (z 1))

theorem dy_chunk_256 (Y D : FVec Ideal S32x512 .f32) (G B : FVec Ideal S1x512 .f32) :
    k0_pay118 (F := Ideal) (k0_pay111 (k0_pay109 Y) k0_pay110) (k0_pay112 (k0_pay108 Y) (k0_pay109 Y) k0_pay110) (k0_pay115 (k0_pay108 Y) (k0_pay109 Y) k0_pay110 G B D G) (k0_pay116 (k0_pay108 Y) (k0_pay109 Y) k0_pay110 G B D G) = lnChunk Y D G B := by
  have row : ∀ (a : Fin 32) (b : Fin 512), (k0_pay118 (F := Ideal) (k0_pay111 (k0_pay109 Y) k0_pay110) (k0_pay112 (k0_pay108 Y) (k0_pay109 Y) k0_pay110) (k0_pay115 (k0_pay108 Y) (k0_pay109 Y) k0_pay110 G B D G) (k0_pay116 (k0_pay108 Y) (k0_pay109 Y) k0_pay110 G B D G)) (ix2 a b)
      = lnBack (fun k => Y (ix2 a k)) (fun k => D (ix2 a k)) (fun k => G (ix2 0 k)) (fun k => B (ix2 0 k)) b := by
    intro a b
    pointwise [k0_pay108, k0_pay109, k0_pay110, k0_pay111, k0_pay112, k0_pay113, k0_pay114, k0_pay115, k0_pay116, k0_pay117, k0_pay118, lnBack, dln, lnRow, yhat, rstd, mean, logi]
  funext z
  exact (congrArg _ (eq_ix2 z)).trans (row (z 0) (z 1))

theorem dy_chunk_224 (Y D : FVec Ideal S32x512 .f32) (G B : FVec Ideal S1x512 .f32) :
    k0_pay104 (F := Ideal) (k0_pay100 Y) (k0_pay101 Y) (k0_pay102 Y G B D) G = lnChunk Y D G B := by
  have row : ∀ (a : Fin 32) (b : Fin 512), (k0_pay104 (F := Ideal) (k0_pay100 Y) (k0_pay101 Y) (k0_pay102 Y G B D) G) (ix2 a b)
      = lnBack (fun k => Y (ix2 a k)) (fun k => D (ix2 a k)) (fun k => G (ix2 0 k)) (fun k => B (ix2 0 k)) b := by
    intro a b
    pointwise [k0_pay99, k0_pay100, k0_pay101, k0_pay102, k0_pay103, k0_pay104, lnBack, dln, lnRow, yhat, rstd, mean, logi]
  funext z
  exact (congrArg _ (eq_ix2 z)).trans (row (z 0) (z 1))

theorem dy_chunk_192 (Y D : FVec Ideal S32x512 .f32) (G B : FVec Ideal S1x512 .f32) :
    k0_pay94 (F := Ideal) (k0_pay88 Y) (k0_pay89 Y) (k0_pay90 Y G B) (k0_pay91 Y G B) (FloatOps.ofBits FTy.f32 1065353216#32) D G = lnChunk Y D G B := by
  have row : ∀ (a : Fin 32) (b : Fin 512), (k0_pay94 (F := Ideal) (k0_pay88 Y) (k0_pay89 Y) (k0_pay90 Y G B) (k0_pay91 Y G B) (FloatOps.ofBits FTy.f32 1065353216#32) D G) (ix2 a b)
      = lnBack (fun k => Y (ix2 a k)) (fun k => D (ix2 a k)) (fun k => G (ix2 0 k)) (fun k => B (ix2 0 k)) b := by
    intro a b
    pointwise [k0_pay87, k0_pay88, k0_pay89, k0_pay90, k0_pay91, k0_pay92, k0_pay93, k0_pay94, lnBack, dln, lnRow, yhat, rstd, mean, logi]
  funext z
  exact (congrArg _ (eq_ix2 z)).trans (row (z 0) (z 1))

theorem dy_chunk_160 (Y D : FVec Ideal S32x512 .f32) (G B : FVec Ideal S1x512 .f32) :
    k0_pay83 (F := Ideal) (k0_pay80 (k0_pay74 Y) (k0_pay75 Y) k0_pay76 G B D G) (k0_pay81 (k0_pay75 Y) k0_pay76) = lnChunk Y D G B := by
  have row : ∀ (a : Fin 32) (b : Fin 512), (k0_pay83 (F := Ideal) (k0_pay80 (k0_pay74 Y) (k0_pay75 Y) k0_pay76 G B D G) (k0_pay81 (k0_pay75 Y) k0_pay76)) (ix2 a b)
      = lnBack (fun k => Y (ix2 a k)) (fun k => D (ix2 a k)) (fun k => G (ix2 0 k)) (fun k => B (ix2 0 k)) b := by
    intro a b
    pointwise [k0_pay74, k0_pay75, k0_pay76, k0_pay77, k0_pay78, k0_pay79, k0_pay80, k0_pay81, k0_pay82, k0_pay83, lnBack, dln, lnRow, yhat, rstd, mean, logi]
  funext z
  exact (congrArg _ (eq_ix2 z)).trans (row (z 0) (z 1))

theorem dy_chunk_128 (Y D : FVec Ideal S32x512 .f32) (G B : FVec Ideal S1x512 .f32) :
    k0_pay70 (F := Ideal) (k0_pay65 Y) (k0_pay66 Y) (k0_pay68 Y G B D G) = lnChunk Y D G B := by
  have row : ∀ (a : Fin 32) (b : Fin 512), (k0_pay70 (F := Ideal) (k0_pay65 Y) (k0_pay66 Y) (k0_pay68 Y G B D G)) (ix2 a b)
      = lnBack (fun k => Y (ix2 a k)) (fun k => D (ix2 a k)) (fun k => G (ix2 0 k)) (fun k => B (ix2 0 k)) b := by
    intro a b
    pointwise [k0_pay64, k0_pay65, k0_pay66, k0_pay67, k0_pay68, k0_pay69, k0_pay70, lnBack, dln, lnRow, yhat, rstd, mean, logi]
  funext z
  exact (congrArg _ (eq_ix2 z)).trans (row (z 0) (z 1))

theorem dy_chunk_96 (Y D : FVec Ideal S32x512 .f32) (G B : FVec Ideal S1x512 .f32) :
    k0_pay60 (F := Ideal) (k0_pay54 Y) (k0_pay55 Y) (k0_pay56 Y G B) (k0_pay57 Y G B) (FloatOps.ofBits FTy.f32 1065353216#32) D G = lnChunk Y D G B := by
  have row : ∀ (a : Fin 32) (b : Fin 512), (k0_pay60 (F := Ideal) (k0_pay54 Y) (k0_pay55 Y) (k0_pay56 Y G B) (k0_pay57 Y G B) (FloatOps.ofBits FTy.f32 1065353216#32) D G) (ix2 a b)
      = lnBack (fun k => Y (ix2 a k)) (fun k => D (ix2 a k)) (fun k => G (ix2 0 k)) (fun k => B (ix2 0 k)) b := by
    intro a b
    pointwise [k0_pay53, k0_pay54, k0_pay55, k0_pay56, k0_pay57, k0_pay58, k0_pay59, k0_pay60, lnBack, dln, lnRow, yhat, rstd, mean, logi]
  funext z
  exact (congrArg _ (eq_ix2 z)).trans (row (z 0) (z 1))

theorem dy_chunk_64 (Y D : FVec Ideal S32x512 .f32) (G B : FVec Ideal S1x512 .f32) :
    k0_pay49 (F := Ideal) (k0_pay48 (k0_pay43 Y) (k0_pay44 Y) (k0_pay45 Y) G B D G) = lnChunk Y D G B := by
  have row : ∀ (a : Fin 32) (b : Fin 512), (k0_pay49 (F := Ideal) (k0_pay48 (k0_pay43 Y) (k0_pay44 Y) (k0_pay45 Y) G B D G)) (ix2 a b)
      = lnBack (fun k => Y (ix2 a k)) (fun k => D (ix2 a k)) (fun k => G (ix2 0 k)) (fun k => B (ix2 0 k)) b := by
    intro a b
    pointwise [k0_pay43, k0_pay44, k0_pay45, k0_pay46, k0_pay47, k0_pay48, k0_pay49, lnBack, dln, lnRow, yhat, rstd, mean, logi]
  funext z
  exact (congrArg _ (eq_ix2 z)).trans (row (z 0) (z 1))

theorem dy_chunk_32 (Y D : FVec Ideal S32x512 .f32) (G B : FVec Ideal S1x512 .f32) :
    k0_pay39 (F := Ideal) (k0_pay33 (k0_pay31 Y)) (k0_pay34 (k0_pay31 Y)) (k0_pay36 (k0_pay31 Y) G B D G) (k0_pay37 (k0_pay31 Y) G B D G) = lnChunk Y D G B := by
  have row : ∀ (a : Fin 32) (b : Fin 512), (k0_pay39 (F := Ideal) (k0_pay33 (k0_pay31 Y)) (k0_pay34 (k0_pay31 Y)) (k0_pay36 (k0_pay31 Y) G B D G) (k0_pay37 (k0_pay31 Y) G B D G)) (ix2 a b)
      = lnBack (fun k => Y (ix2 a k)) (fun k => D (ix2 a k)) (fun k => G (ix2 0 k)) (fun k => B (ix2 0 k)) b := by
    intro a b
    pointwise [k0_pay31, k0_pay32, k0_pay33, k0_pay34, k0_pay35, k0_pay36, k0_pay37, k0_pay38, k0_pay39, lnBack, dln, lnRow, yhat, rstd, mean, logi]
  funext z
  exact (congrArg _ (eq_ix2 z)).trans (row (z 0) (z 1))

theorem dy_chunk_0 (Y D : FVec Ideal S32x512 .f32) (G B : FVec Ideal S1x512 .f32) :
    k0_pay27 (F := Ideal) (k0_pay21 Y) (k0_pay22 Y) (k0_pay23 Y G B) (k0_pay24 Y G B) D G = lnChunk Y D G B := by
  have row : ∀ (a : Fin 32) (b : Fin 512), (k0_pay27 (F := Ideal) (k0_pay21 Y) (k0_pay22 Y) (k0_pay23 Y G B) (k0_pay24 Y G B) D G) (ix2 a b)
      = lnBack (fun k => Y (ix2 a k)) (fun k => D (ix2 a k)) (fun k => G (ix2 0 k)) (fun k => B (ix2 0 k)) b := by
    intro a b
    pointwise [k0_pay20, k0_pay21, k0_pay22, k0_pay23, k0_pay24, k0_pay25, k0_pay26, k0_pay27, lnBack, dln, lnRow, yhat, rstd, mean, logi]
  funext z
  exact (congrArg _ (eq_ix2 z)).trans (row (z 0) (z 1))

/-- The gradient in front of the layer norm on the 384 rows of a block and the 32 rows after them; past the last block there is none. -/
def DY (n : ℕ) (x2 : FVec Ideal S384x512 .f32) (x3 : FVec Ideal S32x512 .f32) (x4 : FVec Ideal S384x512 .f32) (x5 : FVec Ideal S32x512 .f32)
    (x7 x8 : FVec Ideal S1x512 .f32) : FVec Ideal S416x512 .f32 :=
  fun z => if h : (z 0).val < 384
    then lnBack (fun k => x2 (ix2 ⟨(z 0).val, h⟩ k)) (fun k => x4 (ix2 ⟨(z 0).val, h⟩ k)) (fun k => x7 (ix2 0 k)) (fun k => x8 (ix2 0 k)) (z 1)
    else lnBack (fun k => x3 (ix2 ⟨(z 0).val - 384, by have := (z 0).isLt; change (z 0).val < 416 at this; omega⟩ k))
      (fun k => if n = 10 then 0 else x5 (ix2 ⟨(z 0).val - 384, by have := (z 0).isLt; change (z 0).val < 416 at this; omega⟩ k)) (fun k => x7 (ix2 0 k)) (fun k => x8 (ix2 0 k)) (z 1)

theorem readCov_of_canon {sp : Space} {S : Shape} (v : View Cert.KernelIdeal.sig .tc sp S .f32) (L : List (View.Piece (Elt Ideal) S .f32)) (G : FVec Ideal S .f32)
    (e : ∀ y, View.canon (Val := Elt Ideal) L y = G y) (R : Rect S) :
    v.readCov (Val := Elt Ideal) L R.toLoadRect = View.ld (Val := Elt Ideal) (e' := .f32) G R := by
  rw [View.readCov_eq_canon']
  funext y
  exact e _

theorem ld_row (x : FVec Ideal S384x512 .f32) (o : ℕ) (inb) (a : Fin 32) (k : Fin 512) (r : Fin 384) (h : r.val = o + a.val) :
    View.ld (Val := Elt Ideal) (e' := .f32) x (Rect.unit (s := S384x512) ![o, 0] ![32, 512] inb) (ix2 a k) = x (ix2 r k) := by
  refine congrArg x (funext fun q => ?_)
  match q with
  | 0 => exact Fin.ext (by simp [LoadRect.idx, Rect.unit, h])
  | 1 => exact Fin.ext (by simp [LoadRect.idx, Rect.unit])

theorem lnBack_congr {y y' d d' g b : Fin 512 → EReal} {j : Fin 512} (hy : ∀ k, y k = y' k) (hd : ∀ k, d k = d' k) :
    lnBack y d g b j = lnBack y' d' g b j := by
  rw [funext hy, funext hd]

theorem dy_canon (n : ℕ) (hn : n < 11) (x2 : FVec Ideal S384x512 .f32) (x3 : FVec Ideal S32x512 .f32) (x4 : FVec Ideal S384x512 .f32) (x5 : FVec Ideal S32x512 .f32)
    (x7 x8 : FVec Ideal S1x512 .f32) (y : S416x512.Idx) :
    View.canon (Val := Elt Ideal) ([⟨Rect.unit (s := S416x512) ![384, 0] ![32, 512] inb_S416x512_S32x512_384_0, k0_pay161 (F := Ideal) (Scalar.cmpi CmpIPredicate.eq (BitVec.ofNat 32 n) 10#32) (k0_pay157 x3) (k0_pay158 x3) (k0_pay159 x3 x7) (k0_pay160 x8) x5 x7⟩,
      ⟨Rect.unit (s := S416x512) ![352, 0] ![32, 512] inb_S416x512_S32x512_352_0, k0_pay152 (F := Ideal) (k0_pay145 (k0_pay144 (View.ld (Val := Elt Ideal) (e' := .f32) x2 (Rect.unit (s := S384x512) ![352, 0] ![32, 512] inb_S384x512_S32x512_352_0)))) (k0_pay146 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0)))) (k0_pay149 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0))) x7 x8 (View.ld (Val := Elt Ideal) (e' := .f32) x4 (Rect.unit (s := S384x512) ![352, 0] ![32, 512] inb_S384x512_S32x512_352_0)) x7) (k0_pay150 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0))) x7 x8 (View.ld (Val := Elt Ideal) (e' := .f32) x4 (Rect.unit (s := S384x512) ![352, 0] ![32, 512] inb_S384x512_S32x512_352_0)) x7) (FloatOps.ofBits FTy.f32 1140850688#32)⟩,
      ⟨Rect.unit (s := S416x512) ![320, 0] ![32, 512] inb_S416x512_S32x512_320_0, k0_pay139 (F := Ideal) (k0_pay134 (View.ld (Val := Elt Ideal) (e' := .f32) x2 (Rect.unit (s := S384x512) ![320, 0] ![32, 512] inb_S384x512_S32x512_320_0))) (k0_pay135 (View.ld (Val := Elt Ideal) (e' := .f32) x2 (Rect.unit (s := S384x512) ![320, 0] ![32, 512] inb_S384x512_S32x512_320_0))) (View.ld (Val := Elt Ideal) (e' := .f32) x4 (Rect.unit (s := S384x512) ![320, 0] ![32, 512] inb_S384x512_S32x512_320_0)) (k0_pay136 (View.ld (Val := Elt Ideal) (e' := .f32) x2 (Rect.unit (s := S384x512) ![320, 0] ![32, 512] inb_S384x512_S32x512_320_0)) x7 x8) x7⟩,
      ⟨Rect.unit (s := S416x512) ![288, 0] ![32, 512] inb_S416x512_S32x512_288_0, k0_pay129 (F := Ideal) (k0_pay123 (View.ld (Val := Elt Ideal) (e' := .f32) x2 (Rect.unit (s := S384x512) ![288, 0] ![32, 512] inb_S384x512_S32x512_288_0))) (k0_pay124 (View.ld (Val := Elt Ideal) (e' := .f32) x2 (Rect.unit (s := S384x512) ![288, 0] ![32, 512] inb_S384x512_S32x512_288_0))) (k0_pay125 (View.ld (Val := Elt Ideal) (e' := .f32) x2 (Rect.unit (s := S384x512) ![288, 0] ![32, 512] inb_S384x512_S32x512_288_0)) x7 x8) k0_pay126 (View.ld (Val := Elt Ideal) (e' := .f32) x4 (Rect.unit (s := S384x512) ![288, 0] ![32, 512] inb_S384x512_S32x512_288_0)) x7⟩,
      ⟨Rect.unit (s := S416x512) ![256, 0] ![32, 512] inb_S416x512_S32x512_256_0, k0_pay118 (F := Ideal) (k0_pay111 (k0_pay109 (View.ld (Val := Elt Ideal) (e' := .f32) x2 (Rect.unit (s := S384x512) ![256, 0] ![32, 512] inb_S384x512_S32x512_256_0))) k0_pay110) (k0_pay112 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110) (k0_pay115 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110 x7 x8 (View.ld (Val := Elt Ideal) (e' := .f32) x4 (Rect.unit (s := S384x512) ![256, 0] ![32, 512] inb_S384x512_S32x512_256_0)) x7) (k0_pay116 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110 x7 x8 (View.ld (Val := Elt Ideal) (e' := .f32) x4 (Rect.unit (s := S384x512) ![256, 0] ![32, 512] inb_S384x512_S32x512_256_0)) x7)⟩,
      ⟨Rect.unit (s := S416x512) ![224, 0] ![32, 512] inb_S416x512_S32x512_224_0, k0_pay104 (F := Ideal) (k0_pay100 (View.ld (Val := Elt Ideal) (e' := .f32) x2 (Rect.unit (s := S384x512) ![224, 0] ![32, 512] inb_S384x512_S32x512_224_0))) (k0_pay101 (View.ld (Val := Elt Ideal) (e' := .f32) x2 (Rect.unit (s := S384x512) ![224, 0] ![32, 512] inb_S384x512_S32x512_224_0))) (k0_pay102 (View.ld (Val := Elt Ideal) (e' := .f32) x2 (Rect.unit (s := S384x512) ![224, 0] ![32, 512] inb_S384x512_S32x512_224_0)) x7 x8 (View.ld (Val := Elt Ideal) (e' := .f32) x4 (Rect.unit (s := S384x512) ![224, 0] ![32, 512] inb_S384x512_S32x512_224_0))) x7⟩,
      ⟨Rect.unit (s := S416x512) ![192, 0] ![32, 512] inb_S416x512_S32x512_192_0, k0_pay94 (F := Ideal) (k0_pay88 (View.ld (Val := Elt Ideal) (e' := .f32) x2 (Rect.unit (s := S384x512) ![192, 0] ![32, 512] inb_S384x512_S32x512_192_0))) (k0_pay89 (View.ld (Val := Elt Ideal) (e' := .f32) x2 (Rect.unit (s := S384x512) ![192, 0] ![32, 512] inb_S384x512_S32x512_192_0))) (k0_pay90 (View.ld (Val := Elt Ideal) (e' := .f32) x2 (Rect.unit (s := S384x512) ![192, 0] ![32, 512] inb_S384x512_S32x512_192_0)) x7 x8) (k0_pay91 (View.ld (Val := Elt Ideal) (e' := .f32) x2 (Rect.unit (s := S384x512) ![192, 0] ![32, 512] inb_S384x512_S32x512_192_0)) x7 x8) (FloatOps.ofBits FTy.f32 1065353216#32) (View.ld (Val := Elt Ideal) (e' := .f32) x4 (Rect.unit (s := S384x512) ![192, 0] ![32, 512] inb_S384x512_S32x512_192_0)) x7⟩,
      ⟨Rect.unit (s := S416x512) ![160, 0] ![32, 512] inb_S416x512_S32x512_160_0, k0_pay83 (F := Ideal) (k0_pay80 (k0_pay74 (View.ld (Val := Elt Ideal) (e' := .f32) x2 (Rect.unit (s := S384x512) ![160, 0] ![32, 512] inb_S384x512_S32x512_160_0))) (k0_pay75 (View.ld (Val := Elt Ideal) (e' := .f32) x2 (Rect.unit (s := S384x512) ![160, 0] ![32, 512] inb_S384x512_S32x512_160_0))) k0_pay76 x7 x8 (View.ld (Val := Elt Ideal) (e' := .f32) x4 (Rect.unit (s := S384x512) ![160, 0] ![32, 512] inb_S384x512_S32x512_160_0)) x7) (k0_pay81 (k0_pay75 (View.ld (Val := Elt Ideal) (e' := .f32) x2 (Rect.unit (s := S384x512) ![160, 0] ![32, 512] inb_S384x512_S32x512_160_0))) k0_pay76)⟩,
      ⟨Rect.unit (s := S416x512) ![128, 0] ![32, 512] inb_S416x512_S32x512_128_0, k0_pay70 (F := Ideal) (k0_pay65 (View.ld (Val := Elt Ideal) (e' := .f32) x2 (Rect.unit (s := S384x512) ![128, 0] ![32, 512] inb_S384x512_S32x512_128_0))) (k0_pay66 (View.ld (Val := Elt Ideal) (e' := .f32) x2 (Rect.unit (s := S384x512) ![128, 0] ![32, 512] inb_S384x512_S32x512_128_0))) (k0_pay68 (View.ld (Val := Elt Ideal) (e' := .f32) x2 (Rect.unit (s := S384x512) ![128, 0] ![32, 512] inb_S384x512_S32x512_128_0)) x7 x8 (View.ld (Val := Elt Ideal) (e' := .f32) x4 (Rect.unit (s := S384x512) ![128, 0] ![32, 512] inb_S384x512_S32x512_128_0)) x7)⟩,
      ⟨Rect.unit (s := S416x512) ![96, 0] ![32, 512] inb_S416x512_S32x512_96_0, k0_pay60 (F := Ideal) (k0_pay54 (View.ld (Val := Elt Ideal) (e' := .f32) x2 (Rect.unit (s := S384x512) ![96, 0] ![32, 512] inb_S384x512_S32x512_96_0))) (k0_pay55 (View.ld (Val := Elt Ideal) (e' := .f32) x2 (Rect.unit (s := S384x512) ![96, 0] ![32, 512] inb_S384x512_S32x512_96_0))) (k0_pay56 (View.ld (Val := Elt Ideal) (e' := .f32) x2 (Rect.unit (s := S384x512) ![96, 0] ![32, 512] inb_S384x512_S32x512_96_0)) x7 x8) (k0_pay57 (View.ld (Val := Elt Ideal) (e' := .f32) x2 (Rect.unit (s := S384x512) ![96, 0] ![32, 512] inb_S384x512_S32x512_96_0)) x7 x8) (FloatOps.ofBits FTy.f32 1065353216#32) (View.ld (Val := Elt Ideal) (e' := .f32) x4 (Rect.unit (s := S384x512) ![96, 0] ![32, 512] inb_S384x512_S32x512_96_0)) x7⟩,
      ⟨Rect.unit (s := S416x512) ![64, 0] ![32, 512] inb_S416x512_S32x512_64_0, k0_pay49 (F := Ideal) (k0_pay48 (k0_pay43 (View.ld (Val := Elt Ideal) (e' := .f32) x2 (Rect.unit (s := S384x512) ![64, 0] ![32, 512] inb_S384x512_S32x512_64_0))) (k0_pay44 (View.ld (Val := Elt Ideal) (e' := .f32) x2 (Rect.unit (s := S384x512) ![64, 0] ![32, 512] inb_S384x512_S32x512_64_0))) (k0_pay45 (View.ld (Val := Elt Ideal) (e' := .f32) x2 (Rect.unit (s := S384x512) ![64, 0] ![32, 512] inb_S384x512_S32x512_64_0))) x7 x8 (View.ld (Val := Elt Ideal) (e' := .f32) x4 (Rect.unit (s := S384x512) ![64, 0] ![32, 512] inb_S384x512_S32x512_64_0)) x7)⟩,
      ⟨Rect.unit (s := S416x512) ![32, 0] ![32, 512] inb_S416x512_S32x512_32_0, k0_pay39 (F := Ideal) (k0_pay33 (k0_pay31 (View.ld (Val := Elt Ideal) (e' := .f32) x2 (Rect.unit (s := S384x512) ![32, 0] ![32, 512] inb_S384x512_S32x512_32_0)))) (k0_pay34 (k0_pay31 (View.ld (Val := Elt Ideal) (e' := .f32) x2 (Rect.unit (s := S384x512) ![32, 0] ![32, 512] inb_S384x512_S32x512_32_0)))) (k0_pay36 (k0_pay31 (View.ld (Val := Elt Ideal) (e' := .f32) x2 (Rect.unit (s := S384x512) ![32, 0] ![32, 512] inb_S384x512_S32x512_32_0))) x7 x8 (View.ld (Val := Elt Ideal) (e' := .f32) x4 (Rect.unit (s := S384x512) ![32, 0] ![32, 512] inb_S384x512_S32x512_32_0)) x7) (k0_pay37 (k0_pay31 (View.ld (Val := Elt Ideal) (e' := .f32) x2 (Rect.unit (s := S384x512) ![32, 0] ![32, 512] inb_S384x512_S32x512_32_0))) x7 x8 (View.ld (Val := Elt Ideal) (e' := .f32) x4 (Rect.unit (s := S384x512) ![32, 0] ![32, 512] inb_S384x512_S32x512_32_0)) x7)⟩,
      ⟨Rect.unit (s := S416x512) ![0, 0] ![32, 512] inb_S416x512_S32x512_0_0, k0_pay27 (F := Ideal) (k0_pay21 (View.ld (Val := Elt Ideal) (e' := .f32) x2 (Rect.unit (s := S384x512) ![0, 0] ![32, 512] inb_S384x512_S32x512_0_0))) (k0_pay22 (View.ld (Val := Elt Ideal) (e' := .f32) x2 (Rect.unit (s := S384x512) ![0, 0] ![32, 512] inb_S384x512_S32x512_0_0))) (k0_pay23 (View.ld (Val := Elt Ideal) (e' := .f32) x2 (Rect.unit (s := S384x512) ![0, 0] ![32, 512] inb_S384x512_S32x512_0_0)) x7 x8) (k0_pay24 (View.ld (Val := Elt Ideal) (e' := .f32) x2 (Rect.unit (s := S384x512) ![0, 0] ![32, 512] inb_S384x512_S32x512_0_0)) x7 x8) (View.ld (Val := Elt Ideal) (e' := .f32) x4 (Rect.unit (s := S384x512) ![0, 0] ![32, 512] inb_S384x512_S32x512_0_0)) x7⟩] : List (View.Piece (Elt Ideal) S416x512 .f32)) y = DY n x2 x3 x4 x5 x7 x8 y := by
  rw [dy_chunk_384 n hn, dy_chunk_352, dy_chunk_320, dy_chunk_288, dy_chunk_256, dy_chunk_224, dy_chunk_192, dy_chunk_160, dy_chunk_128, dy_chunk_96, dy_chunk_64, dy_chunk_32, dy_chunk_0]
  canon_tiles x h
  all_goals simp only [lnChunk, DY]
  · rw [dif_neg (by omega), show y 1 = x 1 from Fin.ext h1]
    have e : (⟨(y 0).val - 384, by have := (y 0).isLt; change (y 0).val < 416 at this; omega⟩ : Fin 32) = x 0 := Fin.ext (by simp only; omega)
    rw [e]
  all_goals
    rw [dif_pos (by omega), show y 1 = x 1 from Fin.ext h1]
    exact lnBack_congr (fun k => ld_row _ _ _ _ k ⟨(y 0).val, by omega⟩ (by first | exact h0 | exact h0.trans (Nat.zero_add _).symm))
      (fun k => ld_row _ _ _ _ k ⟨(y 0).val, by omega⟩ (by first | exact h0 | exact h0.trans (Nat.zero_add _).symm))

/-- Seven copies of an array, each one row further up than the one before. -/
def shifts (G : FVec Ideal S416x512 .f32) : FVec Ideal S7x408x512 .f32 :=
  fun z => G (ix2 ⟨(z 0).val + (z 1).val + 1, by
    have := (z 0).isLt; have := (z 1).isLt; change (z 0).val < 7 at *; change (z 1).val < 408 at *; omega⟩ (z 2))

theorem dy_shifts (G : FVec Ideal S416x512 .f32) (y : S7x408x512.Idx) :
    View.canon (Val := Elt Ideal) ([⟨Rect.unit (s := S7x408x512) ![6, 0, 0] ![1, 408, 512] inb_S7x408x512_S1x408x512_6_0_0, k0_pay171 (F := Ideal) (View.ld (Val := Elt Ideal) (e' := .f32) G (Rect.unit (s := S416x512) ![7, 0] ![408, 512] inb_S416x512_S408x512_7_0))⟩,
      ⟨Rect.unit (s := S7x408x512) ![5, 0, 0] ![1, 408, 512] inb_S7x408x512_S1x408x512_5_0_0, k0_pay170 (F := Ideal) (View.ld (Val := Elt Ideal) (e' := .f32) G (Rect.unit (s := S416x512) ![6, 0] ![408, 512] inb_S416x512_S408x512_6_0))⟩,
      ⟨Rect.unit (s := S7x408x512) ![4, 0, 0] ![1, 408, 512] inb_S7x408x512_S1x408x512_4_0_0, k0_pay169 (F := Ideal) (View.ld (Val := Elt Ideal) (e' := .f32) G (Rect.unit (s := S416x512) ![5, 0] ![408, 512] inb_S416x512_S408x512_5_0))⟩,
      ⟨Rect.unit (s := S7x408x512) ![3, 0, 0] ![1, 408, 512] inb_S7x408x512_S1x408x512_3_0_0, k0_pay168 (F := Ideal) (View.ld (Val := Elt Ideal) (e' := .f32) G (Rect.unit (s := S416x512) ![4, 0] ![408, 512] inb_S416x512_S408x512_4_0))⟩,
      ⟨Rect.unit (s := S7x408x512) ![2, 0, 0] ![1, 408, 512] inb_S7x408x512_S1x408x512_2_0_0, k0_pay167 (F := Ideal) (View.ld (Val := Elt Ideal) (e' := .f32) G (Rect.unit (s := S416x512) ![3, 0] ![408, 512] inb_S416x512_S408x512_3_0))⟩,
      ⟨Rect.unit (s := S7x408x512) ![1, 0, 0] ![1, 408, 512] inb_S7x408x512_S1x408x512_1_0_0, k0_pay166 (F := Ideal) (View.ld (Val := Elt Ideal) (e' := .f32) G (Rect.unit (s := S416x512) ![2, 0] ![408, 512] inb_S416x512_S408x512_2_0))⟩,
      ⟨Rect.unit (s := S7x408x512) ![0, 0, 0] ![1, 408, 512] inb_S7x408x512_S1x408x512_0_0_0, k0_pay165 (F := Ideal) (View.ld (Val := Elt Ideal) (e' := .f32) G (Rect.unit (s := S416x512) ![1, 0] ![408, 512] inb_S416x512_S408x512_1_0))⟩] : List (View.Piece (Elt Ideal) S7x408x512 .f32)) y = shifts G y := by
  canon_tiles x h
  all_goals (open_payloads; pointwise [shifts]; blk_point [])

theorem u_shifts (G : FVec Ideal S416x512 .f32) (y : S7x408x512.Idx) :
    View.canon (Val := Elt Ideal) ([⟨Rect.unit (s := S7x408x512) ![6, 0, 0] ![1, 408, 512] inb_S7x408x512_S1x408x512_6_0_0, k0_pay16 (F := Ideal) (View.ld (Val := Elt Ideal) (e' := .f32) G (Rect.unit (s := S416x512) ![7, 0] ![408, 512] inb_S416x512_S408x512_7_0))⟩,
      ⟨Rect.unit (s := S7x408x512) ![5, 0, 0] ![1, 408, 512] inb_S7x408x512_S1x408x512_5_0_0, shapeCast S1x408x512 (View.ld (Val := Elt Ideal) (e' := .f32) G (Rect.unit (s := S416x512) ![6, 0] ![408, 512] inb_S416x512_S408x512_6_0)) shapeCasts_S408x512_S1x408x512⟩,
      ⟨Rect.unit (s := S7x408x512) ![4, 0, 0] ![1, 408, 512] inb_S7x408x512_S1x408x512_4_0_0, shapeCast S1x408x512 (View.ld (Val := Elt Ideal) (e' := .f32) G (Rect.unit (s := S416x512) ![5, 0] ![408, 512] inb_S416x512_S408x512_5_0)) shapeCasts_S408x512_S1x408x512⟩,
      ⟨Rect.unit (s := S7x408x512) ![3, 0, 0] ![1, 408, 512] inb_S7x408x512_S1x408x512_3_0_0, shapeCast S1x408x512 (View.ld (Val := Elt Ideal) (e' := .f32) G (Rect.unit (s := S416x512) ![4, 0] ![408, 512] inb_S416x512_S408x512_4_0)) shapeCasts_S408x512_S1x408x512⟩,
      ⟨Rect.unit (s := S7x408x512) ![2, 0, 0] ![1, 408, 512] inb_S7x408x512_S1x408x512_2_0_0, shapeCast S1x408x512 (View.ld (Val := Elt Ideal) (e' := .f32) G (Rect.unit (s := S416x512) ![3, 0] ![408, 512] inb_S416x512_S408x512_3_0)) shapeCasts_S408x512_S1x408x512⟩,
      ⟨Rect.unit (s := S7x408x512) ![1, 0, 0] ![1, 408, 512] inb_S7x408x512_S1x408x512_1_0_0, shapeCast S1x408x512 (View.ld (Val := Elt Ideal) (e' := .f32) G (Rect.unit (s := S416x512) ![2, 0] ![408, 512] inb_S416x512_S408x512_2_0)) shapeCasts_S408x512_S1x408x512⟩,
      ⟨Rect.unit (s := S7x408x512) ![0, 0, 0] ![1, 408, 512] inb_S7x408x512_S1x408x512_0_0_0, shapeCast S1x408x512 (View.ld (Val := Elt Ideal) (e' := .f32) G (Rect.unit (s := S416x512) ![1, 0] ![408, 512] inb_S416x512_S408x512_1_0)) shapeCasts_S408x512_S1x408x512⟩] : List (View.Piece (Elt Ideal) S7x408x512 .f32)) y = shifts G y := by
  canon_tiles x h
  all_goals (open_payloads; pointwise [shifts]; blk_point [])

/-- The convolution's gradient in front of the gate: 31 taps back over the rows after a row. -/
def du (W : FVec Ideal S31x512 .f32) (G : FVec Ideal S416x512 .f32) (a : Fin 384) (b : Fin 512) : EReal :=
  ∑ k : Fin 31, W (ix2 k b) * G (ix2 ⟨a.val + 30 - k.val, by omega⟩ b)

/-- The gradient of the gated half, of a block. -/
def dca (X : FVec Ideal S384x1024 .f32) (W : FVec Ideal S31x512 .f32) (G : FVec Ideal S416x512 .f32) : FVec Ideal S384x512 .bf16 :=
  fun z => du W G (z 0) (z 1) * logi (X (ix2 (z 0) ⟨512 + (z 1).val, by have := (z 1).isLt; change (z 1).val < 512 at this; omega⟩))

/-- The gradient of the gating half, of a block. -/
def dcg (X : FVec Ideal S384x1024 .f32) (W : FVec Ideal S31x512 .f32) (G : FVec Ideal S416x512 .f32) : FVec Ideal S384x512 .bf16 :=
  fun z => du W G (z 0) (z 1) * X (ix2 (z 0) ⟨(z 1).val, by have := (z 1).isLt; change (z 1).val < 512 at this; omega⟩)
    * logi (X (ix2 (z 0) ⟨512 + (z 1).val, by have := (z 1).isLt; change (z 1).val < 512 at this; omega⟩))
    * (1 - logi (X (ix2 (z 0) ⟨512 + (z 1).val, by have := (z 1).isLt; change (z 1).val < 512 at this; omega⟩)))

theorem sum31 (f : Fin 31 → EReal) : ∑ k, f k = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Finset.univ_eq_empty, Finset.sum_empty, zero_add]
  rfl

theorem dy_read (n : ℕ) (hn : n < 11) {sp : Space} (v : View Cert.KernelIdeal.sig .tc sp S416x512 .f32) (x2 : FVec Ideal S384x512 .f32) (x3 : FVec Ideal S32x512 .f32) (x4 : FVec Ideal S384x512 .f32) (x5 : FVec Ideal S32x512 .f32)
    (x7 x8 : FVec Ideal S1x512 .f32) (R : Rect S416x512) :
    v.readCov (Val := Elt Ideal) ([⟨Rect.unit (s := S416x512) ![384, 0] ![32, 512] inb_S416x512_S32x512_384_0, k0_pay161 (F := Ideal) (Scalar.cmpi CmpIPredicate.eq (BitVec.ofNat 32 n) 10#32) (k0_pay157 x3) (k0_pay158 x3) (k0_pay159 x3 x7) (k0_pay160 x8) x5 x7⟩,
      ⟨Rect.unit (s := S416x512) ![352, 0] ![32, 512] inb_S416x512_S32x512_352_0, k0_pay152 (F := Ideal) (k0_pay145 (k0_pay144 (View.ld (Val := Elt Ideal) (e' := .f32) x2 (Rect.unit (s := S384x512) ![352, 0] ![32, 512] inb_S384x512_S32x512_352_0)))) (k0_pay146 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0)))) (k0_pay149 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0))) x7 x8 (View.ld (Val := Elt Ideal) (e' := .f32) x4 (Rect.unit (s := S384x512) ![352, 0] ![32, 512] inb_S384x512_S32x512_352_0)) x7) (k0_pay150 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0))) x7 x8 (View.ld (Val := Elt Ideal) (e' := .f32) x4 (Rect.unit (s := S384x512) ![352, 0] ![32, 512] inb_S384x512_S32x512_352_0)) x7) (FloatOps.ofBits FTy.f32 1140850688#32)⟩,
      ⟨Rect.unit (s := S416x512) ![320, 0] ![32, 512] inb_S416x512_S32x512_320_0, k0_pay139 (F := Ideal) (k0_pay134 (View.ld (Val := Elt Ideal) (e' := .f32) x2 (Rect.unit (s := S384x512) ![320, 0] ![32, 512] inb_S384x512_S32x512_320_0))) (k0_pay135 (View.ld (Val := Elt Ideal) (e' := .f32) x2 (Rect.unit (s := S384x512) ![320, 0] ![32, 512] inb_S384x512_S32x512_320_0))) (View.ld (Val := Elt Ideal) (e' := .f32) x4 (Rect.unit (s := S384x512) ![320, 0] ![32, 512] inb_S384x512_S32x512_320_0)) (k0_pay136 (View.ld (Val := Elt Ideal) (e' := .f32) x2 (Rect.unit (s := S384x512) ![320, 0] ![32, 512] inb_S384x512_S32x512_320_0)) x7 x8) x7⟩,
      ⟨Rect.unit (s := S416x512) ![288, 0] ![32, 512] inb_S416x512_S32x512_288_0, k0_pay129 (F := Ideal) (k0_pay123 (View.ld (Val := Elt Ideal) (e' := .f32) x2 (Rect.unit (s := S384x512) ![288, 0] ![32, 512] inb_S384x512_S32x512_288_0))) (k0_pay124 (View.ld (Val := Elt Ideal) (e' := .f32) x2 (Rect.unit (s := S384x512) ![288, 0] ![32, 512] inb_S384x512_S32x512_288_0))) (k0_pay125 (View.ld (Val := Elt Ideal) (e' := .f32) x2 (Rect.unit (s := S384x512) ![288, 0] ![32, 512] inb_S384x512_S32x512_288_0)) x7 x8) k0_pay126 (View.ld (Val := Elt Ideal) (e' := .f32) x4 (Rect.unit (s := S384x512) ![288, 0] ![32, 512] inb_S384x512_S32x512_288_0)) x7⟩,
      ⟨Rect.unit (s := S416x512) ![256, 0] ![32, 512] inb_S416x512_S32x512_256_0, k0_pay118 (F := Ideal) (k0_pay111 (k0_pay109 (View.ld (Val := Elt Ideal) (e' := .f32) x2 (Rect.unit (s := S384x512) ![256, 0] ![32, 512] inb_S384x512_S32x512_256_0))) k0_pay110) (k0_pay112 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110) (k0_pay115 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110 x7 x8 (View.ld (Val := Elt Ideal) (e' := .f32) x4 (Rect.unit (s := S384x512) ![256, 0] ![32, 512] inb_S384x512_S32x512_256_0)) x7) (k0_pay116 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110 x7 x8 (View.ld (Val := Elt Ideal) (e' := .f32) x4 (Rect.unit (s := S384x512) ![256, 0] ![32, 512] inb_S384x512_S32x512_256_0)) x7)⟩,
      ⟨Rect.unit (s := S416x512) ![224, 0] ![32, 512] inb_S416x512_S32x512_224_0, k0_pay104 (F := Ideal) (k0_pay100 (View.ld (Val := Elt Ideal) (e' := .f32) x2 (Rect.unit (s := S384x512) ![224, 0] ![32, 512] inb_S384x512_S32x512_224_0))) (k0_pay101 (View.ld (Val := Elt Ideal) (e' := .f32) x2 (Rect.unit (s := S384x512) ![224, 0] ![32, 512] inb_S384x512_S32x512_224_0))) (k0_pay102 (View.ld (Val := Elt Ideal) (e' := .f32) x2 (Rect.unit (s := S384x512) ![224, 0] ![32, 512] inb_S384x512_S32x512_224_0)) x7 x8 (View.ld (Val := Elt Ideal) (e' := .f32) x4 (Rect.unit (s := S384x512) ![224, 0] ![32, 512] inb_S384x512_S32x512_224_0))) x7⟩,
      ⟨Rect.unit (s := S416x512) ![192, 0] ![32, 512] inb_S416x512_S32x512_192_0, k0_pay94 (F := Ideal) (k0_pay88 (View.ld (Val := Elt Ideal) (e' := .f32) x2 (Rect.unit (s := S384x512) ![192, 0] ![32, 512] inb_S384x512_S32x512_192_0))) (k0_pay89 (View.ld (Val := Elt Ideal) (e' := .f32) x2 (Rect.unit (s := S384x512) ![192, 0] ![32, 512] inb_S384x512_S32x512_192_0))) (k0_pay90 (View.ld (Val := Elt Ideal) (e' := .f32) x2 (Rect.unit (s := S384x512) ![192, 0] ![32, 512] inb_S384x512_S32x512_192_0)) x7 x8) (k0_pay91 (View.ld (Val := Elt Ideal) (e' := .f32) x2 (Rect.unit (s := S384x512) ![192, 0] ![32, 512] inb_S384x512_S32x512_192_0)) x7 x8) (FloatOps.ofBits FTy.f32 1065353216#32) (View.ld (Val := Elt Ideal) (e' := .f32) x4 (Rect.unit (s := S384x512) ![192, 0] ![32, 512] inb_S384x512_S32x512_192_0)) x7⟩,
      ⟨Rect.unit (s := S416x512) ![160, 0] ![32, 512] inb_S416x512_S32x512_160_0, k0_pay83 (F := Ideal) (k0_pay80 (k0_pay74 (View.ld (Val := Elt Ideal) (e' := .f32) x2 (Rect.unit (s := S384x512) ![160, 0] ![32, 512] inb_S384x512_S32x512_160_0))) (k0_pay75 (View.ld (Val := Elt Ideal) (e' := .f32) x2 (Rect.unit (s := S384x512) ![160, 0] ![32, 512] inb_S384x512_S32x512_160_0))) k0_pay76 x7 x8 (View.ld (Val := Elt Ideal) (e' := .f32) x4 (Rect.unit (s := S384x512) ![160, 0] ![32, 512] inb_S384x512_S32x512_160_0)) x7) (k0_pay81 (k0_pay75 (View.ld (Val := Elt Ideal) (e' := .f32) x2 (Rect.unit (s := S384x512) ![160, 0] ![32, 512] inb_S384x512_S32x512_160_0))) k0_pay76)⟩,
      ⟨Rect.unit (s := S416x512) ![128, 0] ![32, 512] inb_S416x512_S32x512_128_0, k0_pay70 (F := Ideal) (k0_pay65 (View.ld (Val := Elt Ideal) (e' := .f32) x2 (Rect.unit (s := S384x512) ![128, 0] ![32, 512] inb_S384x512_S32x512_128_0))) (k0_pay66 (View.ld (Val := Elt Ideal) (e' := .f32) x2 (Rect.unit (s := S384x512) ![128, 0] ![32, 512] inb_S384x512_S32x512_128_0))) (k0_pay68 (View.ld (Val := Elt Ideal) (e' := .f32) x2 (Rect.unit (s := S384x512) ![128, 0] ![32, 512] inb_S384x512_S32x512_128_0)) x7 x8 (View.ld (Val := Elt Ideal) (e' := .f32) x4 (Rect.unit (s := S384x512) ![128, 0] ![32, 512] inb_S384x512_S32x512_128_0)) x7)⟩,
      ⟨Rect.unit (s := S416x512) ![96, 0] ![32, 512] inb_S416x512_S32x512_96_0, k0_pay60 (F := Ideal) (k0_pay54 (View.ld (Val := Elt Ideal) (e' := .f32) x2 (Rect.unit (s := S384x512) ![96, 0] ![32, 512] inb_S384x512_S32x512_96_0))) (k0_pay55 (View.ld (Val := Elt Ideal) (e' := .f32) x2 (Rect.unit (s := S384x512) ![96, 0] ![32, 512] inb_S384x512_S32x512_96_0))) (k0_pay56 (View.ld (Val := Elt Ideal) (e' := .f32) x2 (Rect.unit (s := S384x512) ![96, 0] ![32, 512] inb_S384x512_S32x512_96_0)) x7 x8) (k0_pay57 (View.ld (Val := Elt Ideal) (e' := .f32) x2 (Rect.unit (s := S384x512) ![96, 0] ![32, 512] inb_S384x512_S32x512_96_0)) x7 x8) (FloatOps.ofBits FTy.f32 1065353216#32) (View.ld (Val := Elt Ideal) (e' := .f32) x4 (Rect.unit (s := S384x512) ![96, 0] ![32, 512] inb_S384x512_S32x512_96_0)) x7⟩,
      ⟨Rect.unit (s := S416x512) ![64, 0] ![32, 512] inb_S416x512_S32x512_64_0, k0_pay49 (F := Ideal) (k0_pay48 (k0_pay43 (View.ld (Val := Elt Ideal) (e' := .f32) x2 (Rect.unit (s := S384x512) ![64, 0] ![32, 512] inb_S384x512_S32x512_64_0))) (k0_pay44 (View.ld (Val := Elt Ideal) (e' := .f32) x2 (Rect.unit (s := S384x512) ![64, 0] ![32, 512] inb_S384x512_S32x512_64_0))) (k0_pay45 (View.ld (Val := Elt Ideal) (e' := .f32) x2 (Rect.unit (s := S384x512) ![64, 0] ![32, 512] inb_S384x512_S32x512_64_0))) x7 x8 (View.ld (Val := Elt Ideal) (e' := .f32) x4 (Rect.unit (s := S384x512) ![64, 0] ![32, 512] inb_S384x512_S32x512_64_0)) x7)⟩,
      ⟨Rect.unit (s := S416x512) ![32, 0] ![32, 512] inb_S416x512_S32x512_32_0, k0_pay39 (F := Ideal) (k0_pay33 (k0_pay31 (View.ld (Val := Elt Ideal) (e' := .f32) x2 (Rect.unit (s := S384x512) ![32, 0] ![32, 512] inb_S384x512_S32x512_32_0)))) (k0_pay34 (k0_pay31 (View.ld (Val := Elt Ideal) (e' := .f32) x2 (Rect.unit (s := S384x512) ![32, 0] ![32, 512] inb_S384x512_S32x512_32_0)))) (k0_pay36 (k0_pay31 (View.ld (Val := Elt Ideal) (e' := .f32) x2 (Rect.unit (s := S384x512) ![32, 0] ![32, 512] inb_S384x512_S32x512_32_0))) x7 x8 (View.ld (Val := Elt Ideal) (e' := .f32) x4 (Rect.unit (s := S384x512) ![32, 0] ![32, 512] inb_S384x512_S32x512_32_0)) x7) (k0_pay37 (k0_pay31 (View.ld (Val := Elt Ideal) (e' := .f32) x2 (Rect.unit (s := S384x512) ![32, 0] ![32, 512] inb_S384x512_S32x512_32_0))) x7 x8 (View.ld (Val := Elt Ideal) (e' := .f32) x4 (Rect.unit (s := S384x512) ![32, 0] ![32, 512] inb_S384x512_S32x512_32_0)) x7)⟩,
      ⟨Rect.unit (s := S416x512) ![0, 0] ![32, 512] inb_S416x512_S32x512_0_0, k0_pay27 (F := Ideal) (k0_pay21 (View.ld (Val := Elt Ideal) (e' := .f32) x2 (Rect.unit (s := S384x512) ![0, 0] ![32, 512] inb_S384x512_S32x512_0_0))) (k0_pay22 (View.ld (Val := Elt Ideal) (e' := .f32) x2 (Rect.unit (s := S384x512) ![0, 0] ![32, 512] inb_S384x512_S32x512_0_0))) (k0_pay23 (View.ld (Val := Elt Ideal) (e' := .f32) x2 (Rect.unit (s := S384x512) ![0, 0] ![32, 512] inb_S384x512_S32x512_0_0)) x7 x8) (k0_pay24 (View.ld (Val := Elt Ideal) (e' := .f32) x2 (Rect.unit (s := S384x512) ![0, 0] ![32, 512] inb_S384x512_S32x512_0_0)) x7 x8) (View.ld (Val := Elt Ideal) (e' := .f32) x4 (Rect.unit (s := S384x512) ![0, 0] ![32, 512] inb_S384x512_S32x512_0_0)) x7⟩] : List (View.Piece (Elt Ideal) S416x512 .f32)) R.toLoadRect
      = View.ld (Val := Elt Ideal) (e' := .f32) (DY n x2 x3 x4 x5 x7 x8) R :=
  readCov_of_canon v _ _ (dy_canon n hn x2 x3 x4 x5 x7 x8) R

theorem dys_read {sp : Space} (v : View Cert.KernelIdeal.sig .tc sp S7x408x512 .f32) (G : FVec Ideal S416x512 .f32) (R : Rect S7x408x512) :
    v.readCov (Val := Elt Ideal) ([⟨Rect.unit (s := S7x408x512) ![6, 0, 0] ![1, 408, 512] inb_S7x408x512_S1x408x512_6_0_0, k0_pay171 (F := Ideal) (View.ld (Val := Elt Ideal) (e' := .f32) G (Rect.unit (s := S416x512) ![7, 0] ![408, 512] inb_S416x512_S408x512_7_0))⟩,
      ⟨Rect.unit (s := S7x408x512) ![5, 0, 0] ![1, 408, 512] inb_S7x408x512_S1x408x512_5_0_0, k0_pay170 (F := Ideal) (View.ld (Val := Elt Ideal) (e' := .f32) G (Rect.unit (s := S416x512) ![6, 0] ![408, 512] inb_S416x512_S408x512_6_0))⟩,
      ⟨Rect.unit (s := S7x408x512) ![4, 0, 0] ![1, 408, 512] inb_S7x408x512_S1x408x512_4_0_0, k0_pay169 (F := Ideal) (View.ld (Val := Elt Ideal) (e' := .f32) G (Rect.unit (s := S416x512) ![5, 0] ![408, 512] inb_S416x512_S408x512_5_0))⟩,
      ⟨Rect.unit (s := S7x408x512) ![3, 0, 0] ![1, 408, 512] inb_S7x408x512_S1x408x512_3_0_0, k0_pay168 (F := Ideal) (View.ld (Val := Elt Ideal) (e' := .f32) G (Rect.unit (s := S416x512) ![4, 0] ![408, 512] inb_S416x512_S408x512_4_0))⟩,
      ⟨Rect.unit (s := S7x408x512) ![2, 0, 0] ![1, 408, 512] inb_S7x408x512_S1x408x512_2_0_0, k0_pay167 (F := Ideal) (View.ld (Val := Elt Ideal) (e' := .f32) G (Rect.unit (s := S416x512) ![3, 0] ![408, 512] inb_S416x512_S408x512_3_0))⟩,
      ⟨Rect.unit (s := S7x408x512) ![1, 0, 0] ![1, 408, 512] inb_S7x408x512_S1x408x512_1_0_0, k0_pay166 (F := Ideal) (View.ld (Val := Elt Ideal) (e' := .f32) G (Rect.unit (s := S416x512) ![2, 0] ![408, 512] inb_S416x512_S408x512_2_0))⟩,
      ⟨Rect.unit (s := S7x408x512) ![0, 0, 0] ![1, 408, 512] inb_S7x408x512_S1x408x512_0_0_0, k0_pay165 (F := Ideal) (View.ld (Val := Elt Ideal) (e' := .f32) G (Rect.unit (s := S416x512) ![1, 0] ![408, 512] inb_S416x512_S408x512_1_0))⟩] : List (View.Piece (Elt Ideal) S7x408x512 .f32)) R.toLoadRect
      = View.ld (Val := Elt Ideal) (e' := .f32) (shifts G) R :=
  readCov_of_canon v _ _ (dy_shifts G) R

end Cert.KernelIdeal.Value
end
-- ==== Proof.Conv9A.lean ====
/- The first output of the convolution's backward call, at the first grid point. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Conv

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

set_option maxHeartbeats 8000000 in
/-- What the call stores of the gradient of the gated half at the first grid point. -/
theorem point_9_A (c : Dev nD) (t : Fin cfg0.N) (h0 : t.val % 11 = 0) (x0 x1 x2 x3 x4 x5 x6 x7 x8) (y) :
    (out0_A_9 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) ((hcond0_0 t).mpr h0) x0 x1 x2 x3 x4 x5 x6 x7 x8) y = dca x0 x6 (DY (grid0.coords t 0).val x2 x3 x4 x5 x7 x8) y := by
  frame_out
  simp only [dy_read (grid0.coords t 0).val (grid0.coords t 0).isLt, dys_read]
  generalize DY (grid0.coords t 0).val x2 x3 x4 x5 x7 x8 = G
  canon_tiles x h
  all_goals (open_payloads; pointwise [dca, du, logi]; rw [sum31]; blk_point [shifts])

end Cert.KernelIdeal.Value
end
-- ==== Proof.Conv9B.lean ====
/- The first output of the convolution's backward call, at a later grid point. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Conv

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

set_option maxHeartbeats 8000000 in
/-- What the call stores of the gradient of the gated half at a later grid point. -/
theorem point_9_B (c : Dev nD) (t : Fin cfg0.N) (h0 : ¬t.val % 11 = 0) (x0 x1 x2 x3 x4 x5 x6 x7 x8) (p0 p1 p2 p3) (y) :
    (out0_B_9 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) (fun h => h0 ((hcond0_0 t).mp h)) x0 x1 x2 x3 x4 x5 x6 x7 x8 p0 p1 p2 p3) y = dca x0 x6 (DY (grid0.coords t 0).val x2 x3 x4 x5 x7 x8) y := by
  frame_out
  simp only [dy_read (grid0.coords t 0).val (grid0.coords t 0).isLt, dys_read]
  generalize DY (grid0.coords t 0).val x2 x3 x4 x5 x7 x8 = G
  canon_tiles x h
  all_goals (open_payloads; pointwise [dca, du, logi]; rw [sum31]; blk_point [shifts])

end Cert.KernelIdeal.Value
end
-- ==== Proof.Conv10A.lean ====
/- The second output of the convolution's backward call, at the first grid point. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Conv

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

set_option maxHeartbeats 8000000 in
/-- What the call stores of the gradient of the gating half at the first grid point. -/
theorem point_10_A (c : Dev nD) (t : Fin cfg0.N) (h0 : t.val % 11 = 0) (x0 x1 x2 x3 x4 x5 x6 x7 x8) (y) :
    (out0_A_10 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) ((hcond0_0 t).mpr h0) x0 x1 x2 x3 x4 x5 x6 x7 x8) y = dcg x0 x6 (DY (grid0.coords t 0).val x2 x3 x4 x5 x7 x8) y := by
  frame_out
  simp only [dy_read (grid0.coords t 0).val (grid0.coords t 0).isLt, dys_read]
  generalize DY (grid0.coords t 0).val x2 x3 x4 x5 x7 x8 = G
  canon_tiles x h
  all_goals (open_payloads; pointwise [dcg, du, logi]; rw [sum31]; blk_point [shifts])

end Cert.KernelIdeal.Value
end
-- ==== Proof.Conv10B.lean ====
/- The second output of the convolution's backward call, at a later grid point. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Conv

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

set_option maxHeartbeats 8000000 in
/-- What the call stores of the gradient of the gating half at a later grid point. -/
theorem point_10_B (c : Dev nD) (t : Fin cfg0.N) (h0 : ¬t.val % 11 = 0) (x0 x1 x2 x3 x4 x5 x6 x7 x8) (p0 p1 p2 p3) (y) :
    (out0_B_10 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) (fun h => h0 ((hcond0_0 t).mp h)) x0 x1 x2 x3 x4 x5 x6 x7 x8 p0 p1 p2 p3) y = dcg x0 x6 (DY (grid0.coords t 0).val x2 x3 x4 x5 x7 x8) y := by
  frame_out
  simp only [dy_read (grid0.coords t 0).val (grid0.coords t 0).isLt, dys_read]
  generalize DY (grid0.coords t 0).val x2 x3 x4 x5 x7 x8 = G
  canon_tiles x h
  all_goals (open_payloads; pointwise [dcg, du, logi]; rw [sum31]; blk_point [shifts])

end Cert.KernelIdeal.Value
end
-- ==== Proof.ConvRow.lean ====
/- A row through the layer norm and the activation: the call's form of the gradient and the derivative's, over real numbers. -/
module

public import proofs.«01_k».proof.Proof.Conv
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Finite

/-- The gated rows: a half by the logistic function of the other. -/
def glu {n : ℕ} (X : FVec Ideal ⟨2, ![n, 1024]⟩ .f32) (a : Fin n) (b : Fin 512) : EReal :=
  X (ix2 a ⟨b.val, by omega⟩) * logi (X (ix2 a ⟨512 + b.val, by omega⟩))

theorem width_512 : Ideal.ofBits .f32 1140850688#32 = ((512 : ℝ) : EReal) := by
  simp [Ideal.ofBits, Ideal.ieee, ← EReal.coe_mul]; norm_num

theorem two_word : Ideal.ofBits .f32 1073741824#32 = ((2 : ℝ) : EReal) := by
  simp [Ideal.ofBits, Ideal.ieee, ← EReal.coe_mul]; norm_num

/-- The gradient in front of the activation, by the derivative of a product. -/
def actBack (y d g b : Fin 512 → EReal) (j : Fin 512) : EReal :=
  d j * Ideal.div 1 (1 + Ideal.exp (-lnRow y g b j))
    + lnRow y g b j * d j * (Ideal.div 1 (1 + Ideal.exp (-lnRow y g b j)) * (1 - Ideal.div 1 (1 + Ideal.exp (-lnRow y g b j))))

/-- The variance of a row, raised by a small number. -/
def spread (y : Fin 512 → EReal) : EReal :=
  Ideal.div (∑ k, (y k - mean y) * (y k - mean y)) (Ideal.ofBits .f32 1140850688#32) + Ideal.ofBits .f32 897988541#32

/-- The gradient that reaches a row through its variance. -/
def varBack (y a : Fin 512 → EReal) (j : Fin 512) : EReal :=
  (∑ _ : Fin 1, Ideal.div ((∑ k, (y k - mean y) * a k) * (Ideal.ofBits .f32 3204448256#32 * Ideal.div (rstd y) (spread y))) (Ideal.ofBits .f32 1140850688#32))
    * (Ideal.ofBits .f32 1073741824#32 * (y j - mean y))

/-- The gradient in front of a layer norm, by the derivatives of the mean and of the variance: of the row, the gradient behind the gain. -/
def rowBack (y a : Fin 512 → EReal) (j : Fin 512) : EReal :=
  a j * rstd y + varBack y a j
    + ∑ _ : Fin 1, Ideal.div ((∑ k, -(a k * rstd y)) + ∑ k, -varBack y a k) (Ideal.ofBits .f32 1140850688#32)

theorem mean_coe (y : Fin 512 → ℝ) : mean (fun k => (y k : EReal)) = ((∑ k, y k) * (1 / 512) : ℝ) := by
  rw [mean, width_512, Ideal.div_coe (by norm_num), EReal.coe_mul, ← coe_sum]

theorem spread_coe (y : Fin 512 → ℝ) : ∃ q ρ : ℝ, 0 < q ∧ ρ * ρ * q = 1
    ∧ spread (fun k => (y k : EReal)) = (q : EReal) ∧ rstd (fun k => (y k : EReal)) = (ρ : EReal) := by
  obtain ⟨e, he, hw⟩ := eps_word
  have hs : 0 ≤ ∑ k, (y k - (∑ k, y k) * (1 / 512)) * (y k - (∑ k, y k) * (1 / 512)) := Finset.sum_nonneg fun k _ => mul_self_nonneg _
  have hq : 0 < (∑ k, (y k - (∑ k, y k) * (1 / 512)) * (y k - (∑ k, y k) * (1 / 512))) * (1 / 512) + e := by positivity
  have h1 : spread (fun k => (y k : EReal)) = (((∑ k, (y k - (∑ k, y k) * (1 / 512)) * (y k - (∑ k, y k) * (1 / 512))) * (1 / 512) + e : ℝ) : EReal) := by
    rw [spread, mean_coe, hw, width_512]
    simp only [Ideal.div_coe (show (512 : ℝ) ≠ 0 by norm_num), ← EReal.coe_mul, coe_sum, ← EReal.coe_sub, ← EReal.coe_add]
  refine ⟨_, (Real.sqrt ((∑ k, (y k - (∑ k, y k) * (1 / 512)) * (y k - (∑ k, y k) * (1 / 512))) * (1 / 512) + e))⁻¹, hq, ?_, h1, ?_⟩
  · rw [← mul_inv, Real.mul_self_sqrt hq.le, inv_mul_cancel₀ hq.ne']
  · have h2 : rstd (fun k => (y k : EReal)) = Ideal.rsqrt (spread (fun k => (y k : EReal))) := rfl
    rw [h2, h1, Ideal.rsqrt_coe, if_neg hq.le.not_gt, if_neg hq.ne']

theorem lnRow_coe (y g b : Fin 512 → ℝ) (j : Fin 512) :
    ∃ l : ℝ, lnRow (fun k => (y k : EReal)) (fun k => (g k : EReal)) (fun k => (b k : EReal)) j = l := by
  obtain ⟨q, ρ, -, -, -, eρ⟩ := spread_coe y
  refine ⟨(y j - (∑ k, y k) * (1 / 512)) * ρ * g j + b j, ?_⟩
  rw [lnRow, yhat, mean_coe, eρ]
  simp only [EReal.coe_mul, EReal.coe_sub, EReal.coe_add]

/-- The two forms of the gradient in front of the activation agree on real entries. -/
theorem dln_eq {y d g b : Fin 512 → EReal} (hy : ∀ k, ∃ r : ℝ, y k = r) (hd : ∀ k, ∃ r : ℝ, d k = r)
    (hg : ∀ k, ∃ r : ℝ, g k = r) (hb : ∀ k, ∃ r : ℝ, b k = r) : dln y d g b = actBack y d g b := by
  choose y' hy using hy
  choose d' hd using hd
  choose g' hg using hg
  choose b' hb using hb
  obtain rfl : y = fun k => (y' k : EReal) := funext hy
  obtain rfl : d = fun k => (d' k : EReal) := funext hd
  obtain rfl : g = fun k => (g' k : EReal) := funext hg
  obtain rfl : b = fun k => (b' k : EReal) := funext hb
  funext j
  obtain ⟨l, hl⟩ := lnRow_coe y' g' b' j
  simp only [dln, actBack, hl, logi, zero_sub, sigmoid_coe]
  rw [← EReal.coe_one]
  simp only [← EReal.coe_mul, ← EReal.coe_sub, ← EReal.coe_add]
  exact congrArg _ (by ring)

theorem dln_real {y d g b : Fin 512 → EReal} (hy : ∀ k, ∃ r : ℝ, y k = r) (hd : ∀ k, ∃ r : ℝ, d k = r)
    (hg : ∀ k, ∃ r : ℝ, g k = r) (hb : ∀ k, ∃ r : ℝ, b k = r) (j : Fin 512) : ∃ r : ℝ, dln y d g b j = r := by
  choose y' hy using hy
  choose d' hd using hd
  choose g' hg using hg
  choose b' hb using hb
  obtain rfl : y = fun k => (y' k : EReal) := funext hy
  obtain rfl : d = fun k => (d' k : EReal) := funext hd
  obtain rfl : g = fun k => (g' k : EReal) := funext hg
  obtain rfl : b = fun k => (b' k : EReal) := funext hb
  obtain ⟨l, hl⟩ := lnRow_coe y' g' b' j
  simp only [dln, hl, logi, zero_sub, sigmoid_coe]
  rw [← EReal.coe_one]
  simp only [← EReal.coe_mul, ← EReal.coe_sub, ← EReal.coe_add]
  exact ⟨_, rfl⟩

theorem rowBack_coe (y a : Fin 512 → ℝ) (j : Fin 512) :
    rstd (fun k => (y k : EReal)) * ((a j : EReal) - mean (fun k => (a k : EReal)) - yhat (fun k => (y k : EReal)) j * mean (fun k => (a k : EReal) * yhat (fun k => (y k : EReal)) k))
      = rowBack (fun k => (y k : EReal)) (fun k => (a k : EReal)) j := by
  obtain ⟨q, ρ, hq, hρ, eq, eρ⟩ := spread_coe y
  have h1 : 1 / q = ρ * ρ := by field_simp; linarith
  have hv : ∀ k, varBack (fun k => (y k : EReal)) (fun k => (a k : EReal)) k
      = ((-((∑ k, (y k - (∑ k, y k) * (1 / 512)) * a k) * ρ * ρ * ρ * (1 / 512)) * (y k - (∑ k, y k) * (1 / 512)) : ℝ) : EReal) := by
    intro k
    simp only [varBack, mean_coe, eq, eρ, neg_half_word, width_512, two_word, Ideal.div_coe hq.ne', Ideal.div_coe (show (512 : ℝ) ≠ 0 by norm_num),
      Finset.univ_unique, Finset.sum_singleton, ← EReal.coe_mul, coe_sum, ← EReal.coe_sub, ← EReal.coe_add]
    exact congrArg _ (by rw [h1]; ring)
  have h0 : ∑ k, (y k - (∑ k, y k) * (1 / 512)) = 0 := by
    rw [Finset.sum_sub_distrib, Finset.sum_const, Finset.card_univ, Fintype.card_fin, nsmul_eq_mul]
    push_cast
    ring
  have hs : ∑ k, -varBack (fun k => (y k : EReal)) (fun k => (a k : EReal)) k = ((0 : ℝ) : EReal) := by
    simp only [hv, ← EReal.coe_neg, coe_sum]
    refine congrArg _ ?_
    rw [Finset.sum_neg_distrib, ← Finset.mul_sum, h0]
    simp
  have hk : ∀ μ : ℝ, (∑ k, a k * ((y k - μ) * ρ)) = (∑ k, (y k - μ) * a k) * ρ := fun μ => by
    rw [Finset.sum_mul]; exact Finset.sum_congr rfl fun k _ => by ring
  have hm : mean (fun k => (a k : EReal) * yhat (fun k => (y k : EReal)) k) = (((∑ k, (y k - (∑ k, y k) * (1 / 512)) * a k) * ρ * (1 / 512) : ℝ) : EReal) := by
    simp only [yhat, mean_coe, eρ, ← EReal.coe_mul, ← EReal.coe_sub]
    rw [hk]
  rw [rowBack, hs, hv, hm]
  simp only [yhat, mean_coe, eρ, width_512, Ideal.div_coe (show (512 : ℝ) ≠ 0 by norm_num),
      Finset.univ_unique, Finset.sum_singleton, ← EReal.coe_neg, ← EReal.coe_mul, coe_sum, ← EReal.coe_sub, ← EReal.coe_add]
  refine congrArg _ ?_
  rw [Finset.sum_neg_distrib, ← Finset.sum_mul]
  ring

/-- The two forms of the gradient in front of the layer norm agree on real entries. -/
theorem lnBack_eq {y d g b : Fin 512 → EReal} (hy : ∀ k, ∃ r : ℝ, y k = r) (hd : ∀ k, ∃ r : ℝ, d k = r)
    (hg : ∀ k, ∃ r : ℝ, g k = r) (hb : ∀ k, ∃ r : ℝ, b k = r) (j : Fin 512) :
    lnBack y d g b j = rowBack y (fun k => actBack y d g b k * g k) j := by
  have ha : ∀ k, ∃ r : ℝ, dln y d g b k * g k = r := fun k => real_mul (dln_real hy hd hg hb k) (hg k)
  rw [← dln_eq hy hd hg hb]
  unfold lnBack
  generalize hA : (fun k => dln y d g b k * g k) = A at *
  have hA' : ∀ k, dln y d g b k * g k = A k := fun k => congrFun hA k
  simp only [hA'] at ha ⊢
  choose y' hy using hy
  choose a' ha using ha
  obtain rfl : y = fun k => (y' k : EReal) := funext hy
  obtain rfl : A = fun k => (a' k : EReal) := funext ha
  exact rowBack_coe y' a' j

/-- Where no gradient comes in, none goes out: a row of real entries. -/
theorem lnBack_zero {y g b : Fin 512 → EReal} (hy : ∀ k, ∃ r : ℝ, y k = r) (hg : ∀ k, ∃ r : ℝ, g k = r) (hb : ∀ k, ∃ r : ℝ, b k = r) (j : Fin 512) :
    lnBack y (fun _ => 0) g b j = 0 := by
  choose y' hy using hy
  obtain rfl : y = fun k => (y' k : EReal) := funext hy
  obtain ⟨q, ρ, -, -, -, eρ⟩ := spread_coe y'
  simp only [lnBack, dln, zero_mul, mean, Finset.sum_const_zero, width_512, Ideal.div_coe (show (512 : ℝ) ≠ 0 by norm_num), yhat, eρ, mul_zero, sub_zero]

end Cert.KernelIdeal.Value
end
-- ==== Proof.ConvTaps.lean ====
/- The third output of the convolution's backward call, the gradient of the taps: what a grid point adds. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.ConvRow
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Finite

/-- The gated rows of a block, after the 32 gated rows before it; before the first block there are none. -/
def gated (n : ℕ) (x0 : FVec Ideal S384x1024 .f32) (x1 : FVec Ideal S32x1024 .f32) : FVec Ideal S416x512 .f32 :=
  fun z => if h : (z 0).val < 32 then (if n = 0 then 0 else glu x1 ⟨(z 0).val, h⟩ (z 1))
    else glu x0 ⟨(z 0).val - 32, by have := (z 0).isLt; change (z 0).val < 416 at this; omega⟩ (z 1)

theorem gated_before (i : grid0.Coords) (x1 : FVec Ideal S32x1024 .f32) (a : Fin 32) (b : Fin 512) :
    k0_pay8 (F := Ideal) i x1 (ix2 a b) = if (i 0).val = 0 then 0 else glu x1 a b := by
  by_cases h : (i 0).val = 0
  · have e : Scalar.cmpi CmpIPredicate.sgt (BitVec.ofNat 32 (i 0).val) 0#32 = 0#1 := by rw [h]; rfl
    rw [if_pos h]
    pointwise [k0_pay8, e, glu, logi]
    try rfl
  · have e : Scalar.cmpi CmpIPredicate.sgt (BitVec.ofNat 32 (i 0).val) 0#32 = 1#1 := by
      have hn : (i 0).val < 11 := (i 0).isLt
      generalize (i 0).val = n at h hn
      interval_cases n <;> first | exact absurd rfl h | rfl
    rw [if_neg h]
    pointwise [k0_pay8, e, glu, logi]
    try rfl

theorem gated_own (x0 : FVec Ideal S384x1024 .f32) (a : Fin 384) (b : Fin 512) : k0_pay9 (F := Ideal) x0 (ix2 a b) = glu x0 a b := by
  pointwise [k0_pay9, glu, logi]

/-- What a list of writes leaves at an index, its first piece being right where it is. -/
theorem canon_step {sh : Shape} (p : View.Piece (Elt Ideal) sh .f32) (L : List (View.Piece (Elt Ideal) sh .f32)) (H : FVec Ideal sh .f32) (y : sh.Idx)
    (hp : ∀ x, p.1.emb x = y → p.2 x = H y) (hL : y ∉ p.1.set → View.canon (Val := Elt Ideal) L y = H y) :
    View.canon (Val := Elt Ideal) (p :: L) y = H y := by
  by_cases h : y ∈ p.1.set
  · rw [← Rect.map_emb_univ] at h
    obtain ⟨x, -, rfl⟩ := Finset.mem_map.mp h
    exact (View.canon_cons_emb p.1 p.2 L x).trans (hp x rfl)
  · exact (View.canon_cons_of_not_mem p L h).trans (hL h)

/-- The same of writes over what a window held. -/
theorem write_step {sp : Space} {sh : Shape} (v : View Cert.KernelIdeal.sig .tc sp sh .f32) (f : v.ty.Contents (Elt Ideal)) (p : View.Piece (Elt Ideal) sh .f32)
    (L : List (View.Piece (Elt Ideal) sh .f32)) (H : FVec Ideal sh .f32) (y : sh.Idx)
    (hp : ∀ x, p.1.emb x = y → p.2 x = H y) (hL : y ∉ p.1.set → v.read (Elt Ideal) (v.writes (Elt Ideal) f L) y = H y) :
    v.read (Elt Ideal) (v.writes (Elt Ideal) f (p :: L)) y = H y := by
  by_cases h : y ∈ p.1.set
  · rw [← Rect.map_emb_univ] at h
    obtain ⟨x, -, rfl⟩ := Finset.mem_map.mp h
    exact (View.read_writes_cons_emb v f p.1 p.2 L x).trans (hp x rfl)
  · exact (View.read_writes_cons_miss v f p L y h).trans (hL h)

theorem gated_canon (i : grid0.Coords) (x0 : FVec Ideal S384x1024 .f32) (x1 : FVec Ideal S32x1024 .f32) (y : S416x512.Idx) :
    View.canon (Val := Elt Ideal) ([⟨Rect.unit (s := S416x512) ![32, 0] ![384, 512] inb_S416x512_S384x512_32_0, k0_pay9 (F := Ideal) x0⟩,
      ⟨Rect.unit (s := S416x512) ![0, 0] ![32, 512] inb_S416x512_S32x512_0_0, k0_pay8 (F := Ideal) i x1⟩] : List (View.Piece (Elt Ideal) S416x512 .f32)) y = gated (i 0).val x0 x1 y := by
  refine canon_step _ _ _ _ (fun (x : S384x512.Idx) h => ?_) fun n1 => ?_
  · have e0 : (y 0).val = (x 0).val + 32 := by rw [← h]; simp [Rect.emb, Rect.unit]; omega
    have e1 : y 1 = x 1 := by rw [← h]; exact Fin.ext (by simp [Rect.emb, Rect.unit])
    refine ((congrArg _ (eq_ix2 x)).trans (gated_own x0 (x 0) (x 1))).trans ?_
    unfold gated
    rw [dif_neg (by omega), e1]
    exact congrArg (fun k => glu x0 k (x 1)) (Fin.ext (by simp only [e0]; omega))
  refine canon_step _ _ _ _ (fun (x : S32x512.Idx) h => ?_) fun n2 => ?_
  · have e0 : (y 0).val = (x 0).val := by rw [← h]; simp [Rect.emb, Rect.unit]
    have e1 : y 1 = x 1 := by rw [← h]; exact Fin.ext (by simp [Rect.emb, Rect.unit])
    refine ((congrArg _ (eq_ix2 x)).trans (gated_before i x1 (x 0) (x 1))).trans ?_
    unfold gated
    rw [dif_pos (by have : (x 0).val < 32 := (x 0).isLt; omega), e1]
    exact congrArg (fun k => if (i 0).val = 0 then 0 else glu x1 k (x 1)) (Fin.ext e0.symm)
  · exfalso
    rw [Rect.mem_set_unit] at n1 n2
    by_cases hy : (y 0).val < 32
    · refine n2 fun a => ?_
      match a with
      | 0 => exact ⟨Nat.zero_le _, by simpa using hy⟩
      | 1 => exact ⟨Nat.zero_le _, by simpa using (y 1).isLt⟩
    · refine n1 fun a => ?_
      match a with
      | 0 => exact ⟨by simpa using hy, by simpa using (y 0).isLt⟩
      | 1 => exact ⟨Nat.zero_le _, by simpa using (y 1).isLt⟩

theorem gated_read (i : grid0.Coords) {sp : Space} (v : View Cert.KernelIdeal.sig .tc sp S416x512 .f32) (x0 : FVec Ideal S384x1024 .f32) (x1 : FVec Ideal S32x1024 .f32) (R : Rect S416x512) :
    v.readCov (Val := Elt Ideal) ([⟨Rect.unit (s := S416x512) ![32, 0] ![384, 512] inb_S416x512_S384x512_32_0, k0_pay9 (F := Ideal) x0⟩,
      ⟨Rect.unit (s := S416x512) ![0, 0] ![32, 512] inb_S416x512_S32x512_0_0, k0_pay8 (F := Ideal) i x1⟩] : List (View.Piece (Elt Ideal) S416x512 .f32)) R.toLoadRect
      = View.ld (Val := Elt Ideal) (e' := .f32) (gated (i 0).val x0 x1) R :=
  readCov_of_canon v _ _ (gated_canon i x0 x1) R

theorem gated_shifts_read {sp : Space} (v : View Cert.KernelIdeal.sig .tc sp S7x408x512 .f32) (G : FVec Ideal S416x512 .f32) (R : Rect S7x408x512) :
    v.readCov (Val := Elt Ideal) ([⟨Rect.unit (s := S7x408x512) ![6, 0, 0] ![1, 408, 512] inb_S7x408x512_S1x408x512_6_0_0, k0_pay16 (F := Ideal) (View.ld (Val := Elt Ideal) (e' := .f32) G (Rect.unit (s := S416x512) ![7, 0] ![408, 512] inb_S416x512_S408x512_7_0))⟩,
      ⟨Rect.unit (s := S7x408x512) ![5, 0, 0] ![1, 408, 512] inb_S7x408x512_S1x408x512_5_0_0, shapeCast (s := S408x512) (α := Ideal .f32) S1x408x512 (View.ld (Val := Elt Ideal) (e' := .f32) G (Rect.unit (s := S416x512) ![6, 0] ![408, 512] inb_S416x512_S408x512_6_0)) shapeCasts_S408x512_S1x408x512⟩,
      ⟨Rect.unit (s := S7x408x512) ![4, 0, 0] ![1, 408, 512] inb_S7x408x512_S1x408x512_4_0_0, shapeCast (s := S408x512) (α := Ideal .f32) S1x408x512 (View.ld (Val := Elt Ideal) (e' := .f32) G (Rect.unit (s := S416x512) ![5, 0] ![408, 512] inb_S416x512_S408x512_5_0)) shapeCasts_S408x512_S1x408x512⟩,
      ⟨Rect.unit (s := S7x408x512) ![3, 0, 0] ![1, 408, 512] inb_S7x408x512_S1x408x512_3_0_0, shapeCast (s := S408x512) (α := Ideal .f32) S1x408x512 (View.ld (Val := Elt Ideal) (e' := .f32) G (Rect.unit (s := S416x512) ![4, 0] ![408, 512] inb_S416x512_S408x512_4_0)) shapeCasts_S408x512_S1x408x512⟩,
      ⟨Rect.unit (s := S7x408x512) ![2, 0, 0] ![1, 408, 512] inb_S7x408x512_S1x408x512_2_0_0, shapeCast (s := S408x512) (α := Ideal .f32) S1x408x512 (View.ld (Val := Elt Ideal) (e' := .f32) G (Rect.unit (s := S416x512) ![3, 0] ![408, 512] inb_S416x512_S408x512_3_0)) shapeCasts_S408x512_S1x408x512⟩,
      ⟨Rect.unit (s := S7x408x512) ![1, 0, 0] ![1, 408, 512] inb_S7x408x512_S1x408x512_1_0_0, shapeCast (s := S408x512) (α := Ideal .f32) S1x408x512 (View.ld (Val := Elt Ideal) (e' := .f32) G (Rect.unit (s := S416x512) ![2, 0] ![408, 512] inb_S416x512_S408x512_2_0)) shapeCasts_S408x512_S1x408x512⟩,
      ⟨Rect.unit (s := S7x408x512) ![0, 0, 0] ![1, 408, 512] inb_S7x408x512_S1x408x512_0_0_0, shapeCast (s := S408x512) (α := Ideal .f32) S1x408x512 (View.ld (Val := Elt Ideal) (e' := .f32) G (Rect.unit (s := S416x512) ![1, 0] ![408, 512] inb_S416x512_S408x512_1_0)) shapeCasts_S408x512_S1x408x512⟩] : List (View.Piece (Elt Ideal) S7x408x512 .f32)) R.toLoadRect
      = View.ld (Val := Elt Ideal) (e' := .f32) (shifts G) R :=
  readCov_of_canon v _ _ (u_shifts G) R

/-- A block's part of the taps' gradient: the rows' gradients by the gated rows, a tap's rows further down; the last row is kept at zero. -/
def dwPart (G U : FVec Ideal S416x512 .f32) : FVec Ideal S32x512 .f32 :=
  fun z => if h : (z 0).val < 31 then ∑ r : Fin 384, G (ix2 ⟨r.val, by omega⟩ (z 1)) * U (ix2 ⟨r.val + (z 0).val + 2, by omega⟩ (z 1)) else 0

theorem taps_skip {sp : Space} (v : View Cert.KernelIdeal.sig .tc sp S32x512 .f32) (r : Rect S32x512) (w : r.shape.Idx → Elt Ideal .f32) (L : List (View.Piece (Elt Ideal) S32x512 .f32))
    (B : LoadRect S32x512) (h : LoadRect.disj r B = true) : v.readCov (Val := Elt Ideal) (⟨r, w⟩ :: L) B = v.readCov (Val := Elt Ideal) L B :=
  View.readCov_skip v r w L B h

theorem ix2_ext {n m : ℕ} {a : Fin n} {b : Fin m} {z : (⟨2, ![n, m]⟩ : Shape).Idx} (h0 : a.val = (z 0).val) (h1 : b.val = (z 1).val) : ix2 a b = z := by
  funext d
  match d with
  | 0 => exact Fin.ext h0
  | 1 => exact Fin.ext h1

theorem row_emb (k : ℕ) (inb : ∀ a, (![k, 0] : Fin 2 → ℕ) a + (![1, 512] : Fin 2 → ℕ) a ≤ S32x512.size a) (x : S1x512.Idx) :
    ((Rect.unit (s := S32x512) ![k, 0] ![1, 512] inb).emb x 0).val = k ∧ (Rect.unit (s := S32x512) ![k, 0] ![1, 512] inb).emb x 1 = x 1 := by
  refine ⟨?_, Fin.ext (by simp [Rect.emb, Rect.unit])⟩
  have : (x 0).val < 1 := (x 0).isLt
  simp [Rect.emb, Rect.unit]

theorem row_not (k : ℕ) (inb : ∀ a, (![k, 0] : Fin 2 → ℕ) a + (![1, 512] : Fin 2 → ℕ) a ≤ S32x512.size a) (y : S32x512.Idx)
    (h : y ∉ (Rect.unit (s := S32x512) ![k, 0] ![1, 512] inb).set) : (y 0).val ≠ k := by
  intro e
  refine h ?_
  rw [Rect.mem_set_unit]
  intro a
  match a with
  | 0 => exact ⟨by simp [e], by simp [e]⟩
  | 1 => exact ⟨Nat.zero_le _, by simpa using (y 1).isLt⟩

theorem canon_row (k : ℕ) (inb : ∀ a, (![k, 0] : Fin 2 → ℕ) a + (![1, 512] : Fin 2 → ℕ) a ≤ S32x512.size a) (w : FVec Ideal S1x512 .f32)
    (L : List (View.Piece (Elt Ideal) S32x512 .f32)) (H : FVec Ideal S32x512 .f32) (y : S32x512.Idx)
    (hw : ∀ b : Fin 512, w (ix2 0 b) = H (ix2 ⟨k, by have := inb 0; simp at this; change k < 32; omega⟩ b)) (hL : (y 0).val ≠ k → View.canon (Val := Elt Ideal) L y = H y) :
    View.canon (Val := Elt Ideal) ((⟨Rect.unit (s := S32x512) ![k, 0] ![1, 512] inb, w⟩ : View.Piece (Elt Ideal) S32x512 .f32) :: L) y = H y := by
  refine canon_step _ _ _ _ (fun (x : S1x512.Idx) h => ?_) fun n => hL (row_not k inb y n)
  have e0 : x 0 = (0 : Fin 1) := Subsingleton.elim (α := Fin 1) _ _
  rw [eq_ix2 x, e0] at h ⊢
  refine (hw (x 1)).trans (congrArg H ?_)
  rw [← h]
  exact ix2_ext (row_emb k inb (ix2 0 (x 1))).1.symm (congrArg Fin.val (row_emb k inb (ix2 0 (x 1))).2.symm)

theorem write_row {sp : Space} (v : View Cert.KernelIdeal.sig .tc sp S32x512 .f32) (f : v.ty.Contents (Elt Ideal)) (H : FVec Ideal S32x512 .f32) (y : S32x512.Idx) (k : ℕ)
    (inb : ∀ a, (![k, 0] : Fin 2 → ℕ) a + (![1, 512] : Fin 2 → ℕ) a ≤ S32x512.size a) (w : FVec Ideal S1x512 .f32)
    (L : List (View.Piece (Elt Ideal) S32x512 .f32))
    (hw : ∀ b : Fin 512, w (ix2 0 b) = H (ix2 ⟨k, by have := inb 0; simp at this; change k < 32; omega⟩ b)) (hL : (y 0).val ≠ k → v.read (Elt Ideal) (v.writes (Elt Ideal) f L) y = H y) :
    v.read (Elt Ideal) (v.writes (Elt Ideal) f ((⟨Rect.unit (s := S32x512) ![k, 0] ![1, 512] inb, w⟩ : View.Piece (Elt Ideal) S32x512 .f32) :: L)) y = H y := by
  refine write_step v f _ _ _ _ (fun (x : S1x512.Idx) h => ?_) fun n => hL (row_not k inb y n)
  have e0 : x 0 = (0 : Fin 1) := Subsingleton.elim (α := Fin 1) _ _
  rw [eq_ix2 x, e0] at h ⊢
  refine (hw (x 1)).trans (congrArg H ?_)
  rw [← h]
  exact ix2_ext (row_emb k inb (ix2 0 (x 1))).1.symm (congrArg Fin.val (row_emb k inb (ix2 0 (x 1))).2.symm)

set_option maxHeartbeats 8000000 in
theorem point_11_A (c : Dev nD) (t : Fin cfg0.N) (h0 : t.val % 11 = 0) (x0 x1 x2 x3 x4 x5 x6 x7 x8) (y : S32x512.Idx) :
    (out0_A_11 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) ((hcond0_0 t).mpr h0) x0 x1 x2 x3 x4 x5 x6 x7 x8) y = dwPart (DY (grid0.coords t 0).val x2 x3 x4 x5 x7 x8) (gated (grid0.coords t 0).val x0 x1) y := by
  frame_out
  simp (disch := decide) only [↓ taps_skip, ↓ View.readCov_fill]
  simp only [dy_read (grid0.coords t 0).val (grid0.coords t 0).isLt, gated_read (grid0.coords t), gated_shifts_read]
  generalize DY (grid0.coords t 0).val x2 x3 x4 x5 x7 x8 = G
  generalize gated (grid0.coords t 0).val x0 x1 = U
  refine canon_row 30 _ _ _ (dwPart G U) y (fun b => ?_) (fun n30 => ?_)
  · (open_payloads; pointwise [dwPart]; blk_point [shifts])
  refine canon_row 29 _ _ _ (dwPart G U) y (fun b => ?_) (fun n29 => ?_)
  · (open_payloads; pointwise [dwPart]; blk_point [shifts])
  refine canon_row 28 _ _ _ (dwPart G U) y (fun b => ?_) (fun n28 => ?_)
  · (open_payloads; pointwise [dwPart]; blk_point [shifts])
  refine canon_row 27 _ _ _ (dwPart G U) y (fun b => ?_) (fun n27 => ?_)
  · (open_payloads; pointwise [dwPart]; blk_point [shifts])
  refine canon_row 26 _ _ _ (dwPart G U) y (fun b => ?_) (fun n26 => ?_)
  · (open_payloads; pointwise [dwPart]; blk_point [shifts])
  refine canon_row 25 _ _ _ (dwPart G U) y (fun b => ?_) (fun n25 => ?_)
  · (open_payloads; pointwise [dwPart]; blk_point [shifts])
  refine canon_row 24 _ _ _ (dwPart G U) y (fun b => ?_) (fun n24 => ?_)
  · (open_payloads; pointwise [dwPart]; blk_point [shifts])
  refine canon_row 23 _ _ _ (dwPart G U) y (fun b => ?_) (fun n23 => ?_)
  · (open_payloads; pointwise [dwPart]; blk_point [shifts])
  refine canon_row 22 _ _ _ (dwPart G U) y (fun b => ?_) (fun n22 => ?_)
  · (open_payloads; pointwise [dwPart]; blk_point [shifts])
  refine canon_row 21 _ _ _ (dwPart G U) y (fun b => ?_) (fun n21 => ?_)
  · (open_payloads; pointwise [dwPart]; blk_point [shifts])
  refine canon_row 20 _ _ _ (dwPart G U) y (fun b => ?_) (fun n20 => ?_)
  · (open_payloads; pointwise [dwPart]; blk_point [shifts])
  refine canon_row 19 _ _ _ (dwPart G U) y (fun b => ?_) (fun n19 => ?_)
  · (open_payloads; pointwise [dwPart]; blk_point [shifts])
  refine canon_row 18 _ _ _ (dwPart G U) y (fun b => ?_) (fun n18 => ?_)
  · (open_payloads; pointwise [dwPart]; blk_point [shifts])
  refine canon_row 17 _ _ _ (dwPart G U) y (fun b => ?_) (fun n17 => ?_)
  · (open_payloads; pointwise [dwPart]; blk_point [shifts])
  refine canon_row 16 _ _ _ (dwPart G U) y (fun b => ?_) (fun n16 => ?_)
  · (open_payloads; pointwise [dwPart]; blk_point [shifts])
  refine canon_row 15 _ _ _ (dwPart G U) y (fun b => ?_) (fun n15 => ?_)
  · (open_payloads; pointwise [dwPart]; blk_point [shifts])
  refine canon_row 14 _ _ _ (dwPart G U) y (fun b => ?_) (fun n14 => ?_)
  · (open_payloads; pointwise [dwPart]; blk_point [shifts])
  refine canon_row 13 _ _ _ (dwPart G U) y (fun b => ?_) (fun n13 => ?_)
  · (open_payloads; pointwise [dwPart]; blk_point [shifts])
  refine canon_row 12 _ _ _ (dwPart G U) y (fun b => ?_) (fun n12 => ?_)
  · (open_payloads; pointwise [dwPart]; blk_point [shifts])
  refine canon_row 11 _ _ _ (dwPart G U) y (fun b => ?_) (fun n11 => ?_)
  · (open_payloads; pointwise [dwPart]; blk_point [shifts])
  refine canon_row 10 _ _ _ (dwPart G U) y (fun b => ?_) (fun n10 => ?_)
  · (open_payloads; pointwise [dwPart]; blk_point [shifts])
  refine canon_row 9 _ _ _ (dwPart G U) y (fun b => ?_) (fun n9 => ?_)
  · (open_payloads; pointwise [dwPart]; blk_point [shifts])
  refine canon_row 8 _ _ _ (dwPart G U) y (fun b => ?_) (fun n8 => ?_)
  · (open_payloads; pointwise [dwPart]; blk_point [shifts])
  refine canon_row 7 _ _ _ (dwPart G U) y (fun b => ?_) (fun n7 => ?_)
  · (open_payloads; pointwise [dwPart]; blk_point [shifts])
  refine canon_row 6 _ _ _ (dwPart G U) y (fun b => ?_) (fun n6 => ?_)
  · (open_payloads; pointwise [dwPart]; blk_point [shifts])
  refine canon_row 5 _ _ _ (dwPart G U) y (fun b => ?_) (fun n5 => ?_)
  · (open_payloads; pointwise [dwPart]; blk_point [shifts])
  refine canon_row 4 _ _ _ (dwPart G U) y (fun b => ?_) (fun n4 => ?_)
  · (open_payloads; pointwise [dwPart]; blk_point [shifts])
  refine canon_row 3 _ _ _ (dwPart G U) y (fun b => ?_) (fun n3 => ?_)
  · (open_payloads; pointwise [dwPart]; blk_point [shifts])
  refine canon_row 2 _ _ _ (dwPart G U) y (fun b => ?_) (fun n2 => ?_)
  · (open_payloads; pointwise [dwPart]; blk_point [shifts])
  refine canon_row 1 _ _ _ (dwPart G U) y (fun b => ?_) (fun n1 => ?_)
  · (open_payloads; pointwise [dwPart]; blk_point [shifts])
  refine canon_row 0 _ _ _ (dwPart G U) y (fun b => ?_) (fun n0 => ?_)
  · (open_payloads; pointwise [dwPart]; blk_point [shifts])
  rw [View.canon_cons_unit_lit inb_S32x512_S32x512_0_0 _ _ (by decide)]
  have hy : (y 0).val < 32 := (y 0).isLt
  have h31 : ¬(y 0).val < 31 := by omega
  unfold dwPart
  rw [dif_neg h31, eq_ix2 y]
  pointwise [k0_pay4]

set_option maxHeartbeats 8000000 in
theorem point_11_B (c : Dev nD) (t : Fin cfg0.N) (h0 : ¬t.val % 11 = 0) (x0 x1 x2 x3 x4 x5 x6 x7 x8) (p0 p1 p2 p3) (y : S32x512.Idx) :
    (out0_B_11 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) (fun h => h0 ((hcond0_0 t).mp h)) x0 x1 x2 x3 x4 x5 x6 x7 x8 p0 p1 p2 p3) y = p0 y + dwPart (DY (grid0.coords t 0).val x2 x3 x4 x5 x7 x8) (gated (grid0.coords t 0).val x0 x1) y := by
  frame_out
  simp only [dy_read (grid0.coords t 0).val (grid0.coords t 0).isLt, gated_read (grid0.coords t), gated_shifts_read]
  generalize DY (grid0.coords t 0).val x2 x3 x4 x5 x7 x8 = G
  generalize gated (grid0.coords t 0).val x0 x1 = U
  refine write_row (ms0_11 t).view _ (fun y => p0 y + dwPart G U y) y 30 _ _ _ (fun b => ?_) (fun n30 => ?_)
  · (open_payloads; pointwise [dwPart]; blk_point [shifts])
  refine write_row (ms0_11 t).view _ (fun y => p0 y + dwPart G U y) y 29 _ _ _ (fun b => ?_) (fun n29 => ?_)
  · (open_payloads; pointwise [dwPart]; blk_point [shifts])
  refine write_row (ms0_11 t).view _ (fun y => p0 y + dwPart G U y) y 28 _ _ _ (fun b => ?_) (fun n28 => ?_)
  · (open_payloads; pointwise [dwPart]; blk_point [shifts])
  refine write_row (ms0_11 t).view _ (fun y => p0 y + dwPart G U y) y 27 _ _ _ (fun b => ?_) (fun n27 => ?_)
  · (open_payloads; pointwise [dwPart]; blk_point [shifts])
  refine write_row (ms0_11 t).view _ (fun y => p0 y + dwPart G U y) y 26 _ _ _ (fun b => ?_) (fun n26 => ?_)
  · (open_payloads; pointwise [dwPart]; blk_point [shifts])
  refine write_row (ms0_11 t).view _ (fun y => p0 y + dwPart G U y) y 25 _ _ _ (fun b => ?_) (fun n25 => ?_)
  · (open_payloads; pointwise [dwPart]; blk_point [shifts])
  refine write_row (ms0_11 t).view _ (fun y => p0 y + dwPart G U y) y 24 _ _ _ (fun b => ?_) (fun n24 => ?_)
  · (open_payloads; pointwise [dwPart]; blk_point [shifts])
  refine write_row (ms0_11 t).view _ (fun y => p0 y + dwPart G U y) y 23 _ _ _ (fun b => ?_) (fun n23 => ?_)
  · (open_payloads; pointwise [dwPart]; blk_point [shifts])
  refine write_row (ms0_11 t).view _ (fun y => p0 y + dwPart G U y) y 22 _ _ _ (fun b => ?_) (fun n22 => ?_)
  · (open_payloads; pointwise [dwPart]; blk_point [shifts])
  refine write_row (ms0_11 t).view _ (fun y => p0 y + dwPart G U y) y 21 _ _ _ (fun b => ?_) (fun n21 => ?_)
  · (open_payloads; pointwise [dwPart]; blk_point [shifts])
  refine write_row (ms0_11 t).view _ (fun y => p0 y + dwPart G U y) y 20 _ _ _ (fun b => ?_) (fun n20 => ?_)
  · (open_payloads; pointwise [dwPart]; blk_point [shifts])
  refine write_row (ms0_11 t).view _ (fun y => p0 y + dwPart G U y) y 19 _ _ _ (fun b => ?_) (fun n19 => ?_)
  · (open_payloads; pointwise [dwPart]; blk_point [shifts])
  refine write_row (ms0_11 t).view _ (fun y => p0 y + dwPart G U y) y 18 _ _ _ (fun b => ?_) (fun n18 => ?_)
  · (open_payloads; pointwise [dwPart]; blk_point [shifts])
  refine write_row (ms0_11 t).view _ (fun y => p0 y + dwPart G U y) y 17 _ _ _ (fun b => ?_) (fun n17 => ?_)
  · (open_payloads; pointwise [dwPart]; blk_point [shifts])
  refine write_row (ms0_11 t).view _ (fun y => p0 y + dwPart G U y) y 16 _ _ _ (fun b => ?_) (fun n16 => ?_)
  · (open_payloads; pointwise [dwPart]; blk_point [shifts])
  refine write_row (ms0_11 t).view _ (fun y => p0 y + dwPart G U y) y 15 _ _ _ (fun b => ?_) (fun n15 => ?_)
  · (open_payloads; pointwise [dwPart]; blk_point [shifts])
  refine write_row (ms0_11 t).view _ (fun y => p0 y + dwPart G U y) y 14 _ _ _ (fun b => ?_) (fun n14 => ?_)
  · (open_payloads; pointwise [dwPart]; blk_point [shifts])
  refine write_row (ms0_11 t).view _ (fun y => p0 y + dwPart G U y) y 13 _ _ _ (fun b => ?_) (fun n13 => ?_)
  · (open_payloads; pointwise [dwPart]; blk_point [shifts])
  refine write_row (ms0_11 t).view _ (fun y => p0 y + dwPart G U y) y 12 _ _ _ (fun b => ?_) (fun n12 => ?_)
  · (open_payloads; pointwise [dwPart]; blk_point [shifts])
  refine write_row (ms0_11 t).view _ (fun y => p0 y + dwPart G U y) y 11 _ _ _ (fun b => ?_) (fun n11 => ?_)
  · (open_payloads; pointwise [dwPart]; blk_point [shifts])
  refine write_row (ms0_11 t).view _ (fun y => p0 y + dwPart G U y) y 10 _ _ _ (fun b => ?_) (fun n10 => ?_)
  · (open_payloads; pointwise [dwPart]; blk_point [shifts])
  refine write_row (ms0_11 t).view _ (fun y => p0 y + dwPart G U y) y 9 _ _ _ (fun b => ?_) (fun n9 => ?_)
  · (open_payloads; pointwise [dwPart]; blk_point [shifts])
  refine write_row (ms0_11 t).view _ (fun y => p0 y + dwPart G U y) y 8 _ _ _ (fun b => ?_) (fun n8 => ?_)
  · (open_payloads; pointwise [dwPart]; blk_point [shifts])
  refine write_row (ms0_11 t).view _ (fun y => p0 y + dwPart G U y) y 7 _ _ _ (fun b => ?_) (fun n7 => ?_)
  · (open_payloads; pointwise [dwPart]; blk_point [shifts])
  refine write_row (ms0_11 t).view _ (fun y => p0 y + dwPart G U y) y 6 _ _ _ (fun b => ?_) (fun n6 => ?_)
  · (open_payloads; pointwise [dwPart]; blk_point [shifts])
  refine write_row (ms0_11 t).view _ (fun y => p0 y + dwPart G U y) y 5 _ _ _ (fun b => ?_) (fun n5 => ?_)
  · (open_payloads; pointwise [dwPart]; blk_point [shifts])
  refine write_row (ms0_11 t).view _ (fun y => p0 y + dwPart G U y) y 4 _ _ _ (fun b => ?_) (fun n4 => ?_)
  · (open_payloads; pointwise [dwPart]; blk_point [shifts])
  refine write_row (ms0_11 t).view _ (fun y => p0 y + dwPart G U y) y 3 _ _ _ (fun b => ?_) (fun n3 => ?_)
  · (open_payloads; pointwise [dwPart]; blk_point [shifts])
  refine write_row (ms0_11 t).view _ (fun y => p0 y + dwPart G U y) y 2 _ _ _ (fun b => ?_) (fun n2 => ?_)
  · (open_payloads; pointwise [dwPart]; blk_point [shifts])
  refine write_row (ms0_11 t).view _ (fun y => p0 y + dwPart G U y) y 1 _ _ _ (fun b => ?_) (fun n1 => ?_)
  · (open_payloads; pointwise [dwPart]; blk_point [shifts])
  refine write_row (ms0_11 t).view _ (fun y => p0 y + dwPart G U y) y 0 _ _ _ (fun b => ?_) (fun n0 => ?_)
  · (open_payloads; pointwise [dwPart]; blk_point [shifts])
  have hy : (y 0).val < 32 := (y 0).isLt
  have h31 : ¬(y 0).val < 31 := by omega
  unfold dwPart
  simp only [dif_neg h31, add_zero]
  exact congrFun (Memref.IsWhole.read_unread _ p0) y

end Cert.KernelIdeal.Value
end
-- ==== Proof.ConvSums.lean ====
/- The sums over the rows of the convolution's backward call: what a grid point adds. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Conv

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Finite

theorem sum_split (n : ℕ) (f : Fin (n + 32) → EReal) : ∑ r, f r = (∑ r : Fin n, f ⟨r.val, by omega⟩) + ∑ i : Fin 32, f ⟨n + i.val, by omega⟩ := by
  rw [Fin.sum_univ_add]
  rfl

theorem sum384 (f : Fin 384 → EReal) : ∑ r, f r = (∑ i : Fin 32, f ⟨i.val, by omega⟩) + (∑ i : Fin 32, f ⟨32 + i.val, by omega⟩) + (∑ i : Fin 32, f ⟨64 + i.val, by omega⟩) + (∑ i : Fin 32, f ⟨96 + i.val, by omega⟩) + (∑ i : Fin 32, f ⟨128 + i.val, by omega⟩) + (∑ i : Fin 32, f ⟨160 + i.val, by omega⟩) + (∑ i : Fin 32, f ⟨192 + i.val, by omega⟩) + (∑ i : Fin 32, f ⟨224 + i.val, by omega⟩) + (∑ i : Fin 32, f ⟨256 + i.val, by omega⟩) + (∑ i : Fin 32, f ⟨288 + i.val, by omega⟩) + (∑ i : Fin 32, f ⟨320 + i.val, by omega⟩) + (∑ i : Fin 32, f ⟨352 + i.val, by omega⟩) := by
  rw [sum_split 352, sum_split 320, sum_split 288, sum_split 256, sum_split 224, sum_split 192, sum_split 160, sum_split 128, sum_split 96, sum_split 64, sum_split 32]

theorem part_12 (x2 x4 : FVec Ideal S384x512 .f32) (x7 x8 acc : FVec Ideal S1x512 .f32) (b : Fin 512) :
    (k0_pay164 (F := Ideal) (k0_pay155 (k0_pay142 (k0_pay132 (k0_pay121 (k0_pay107 (k0_pay98 (k0_pay86 (k0_pay73 (k0_pay63 (k0_pay52 (k0_pay42 (k0_pay30 k0_pay19 (k0_pay21 (View.ld (Val := Elt Ideal) (e' := .f32) x2 (Rect.unit (s := S384x512) ![0, 0] ![32, 512] inb_S384x512_S32x512_0_0))) (k0_pay22 (View.ld (Val := Elt Ideal) (e' := .f32) x2 (Rect.unit (s := S384x512) ![0, 0] ![32, 512] inb_S384x512_S32x512_0_0))) (k0_pay23 (View.ld (Val := Elt Ideal) (e' := .f32) x2 (Rect.unit (s := S384x512) ![0, 0] ![32, 512] inb_S384x512_S32x512_0_0)) x7 x8) (k0_pay24 (View.ld (Val := Elt Ideal) (e' := .f32) x2 (Rect.unit (s := S384x512) ![0, 0] ![32, 512] inb_S384x512_S32x512_0_0)) x7 x8) (View.ld (Val := Elt Ideal) (e' := .f32) x4 (Rect.unit (s := S384x512) ![0, 0] ![32, 512] inb_S384x512_S32x512_0_0)) x7) (k0_pay33 (k0_pay31 (View.ld (Val := Elt Ideal) (e' := .f32) x2 (Rect.unit (s := S384x512) ![32, 0] ![32, 512] inb_S384x512_S32x512_32_0)))) (k0_pay34 (k0_pay31 (View.ld (Val := Elt Ideal) (e' := .f32) x2 (Rect.unit (s := S384x512) ![32, 0] ![32, 512] inb_S384x512_S32x512_32_0)))) (k0_pay36 (k0_pay31 (View.ld (Val := Elt Ideal) (e' := .f32) x2 (Rect.unit (s := S384x512) ![32, 0] ![32, 512] inb_S384x512_S32x512_32_0))) x7 x8 (View.ld (Val := Elt Ideal) (e' := .f32) x4 (Rect.unit (s := S384x512) ![32, 0] ![32, 512] inb_S384x512_S32x512_32_0)) x7) (k0_pay37 (k0_pay31 (View.ld (Val := Elt Ideal) (e' := .f32) x2 (Rect.unit (s := S384x512) ![32, 0] ![32, 512] inb_S384x512_S32x512_32_0))) x7 x8 (View.ld (Val := Elt Ideal) (e' := .f32) x4 (Rect.unit (s := S384x512) ![32, 0] ![32, 512] inb_S384x512_S32x512_32_0)) x7)) (k0_pay48 (k0_pay43 (View.ld (Val := Elt Ideal) (e' := .f32) x2 (Rect.unit (s := S384x512) ![64, 0] ![32, 512] inb_S384x512_S32x512_64_0))) (k0_pay44 (View.ld (Val := Elt Ideal) (e' := .f32) x2 (Rect.unit (s := S384x512) ![64, 0] ![32, 512] inb_S384x512_S32x512_64_0))) (k0_pay45 (View.ld (Val := Elt Ideal) (e' := .f32) x2 (Rect.unit (s := S384x512) ![64, 0] ![32, 512] inb_S384x512_S32x512_64_0))) x7 x8 (View.ld (Val := Elt Ideal) (e' := .f32) x4 (Rect.unit (s := S384x512) ![64, 0] ![32, 512] inb_S384x512_S32x512_64_0)) x7)) (k0_pay54 (View.ld (Val := Elt Ideal) (e' := .f32) x2 (Rect.unit (s := S384x512) ![96, 0] ![32, 512] inb_S384x512_S32x512_96_0))) (k0_pay55 (View.ld (Val := Elt Ideal) (e' := .f32) x2 (Rect.unit (s := S384x512) ![96, 0] ![32, 512] inb_S384x512_S32x512_96_0))) (k0_pay56 (View.ld (Val := Elt Ideal) (e' := .f32) x2 (Rect.unit (s := S384x512) ![96, 0] ![32, 512] inb_S384x512_S32x512_96_0)) x7 x8) (k0_pay57 (View.ld (Val := Elt Ideal) (e' := .f32) x2 (Rect.unit (s := S384x512) ![96, 0] ![32, 512] inb_S384x512_S32x512_96_0)) x7 x8) (FloatOps.ofBits FTy.f32 1065353216#32) (View.ld (Val := Elt Ideal) (e' := .f32) x4 (Rect.unit (s := S384x512) ![96, 0] ![32, 512] inb_S384x512_S32x512_96_0)) x7) (k0_pay65 (View.ld (Val := Elt Ideal) (e' := .f32) x2 (Rect.unit (s := S384x512) ![128, 0] ![32, 512] inb_S384x512_S32x512_128_0))) (k0_pay66 (View.ld (Val := Elt Ideal) (e' := .f32) x2 (Rect.unit (s := S384x512) ![128, 0] ![32, 512] inb_S384x512_S32x512_128_0))) (k0_pay68 (View.ld (Val := Elt Ideal) (e' := .f32) x2 (Rect.unit (s := S384x512) ![128, 0] ![32, 512] inb_S384x512_S32x512_128_0)) x7 x8 (View.ld (Val := Elt Ideal) (e' := .f32) x4 (Rect.unit (s := S384x512) ![128, 0] ![32, 512] inb_S384x512_S32x512_128_0)) x7)) (k0_pay80 (k0_pay74 (View.ld (Val := Elt Ideal) (e' := .f32) x2 (Rect.unit (s := S384x512) ![160, 0] ![32, 512] inb_S384x512_S32x512_160_0))) (k0_pay75 (View.ld (Val := Elt Ideal) (e' := .f32) x2 (Rect.unit (s := S384x512) ![160, 0] ![32, 512] inb_S384x512_S32x512_160_0))) k0_pay76 x7 x8 (View.ld (Val := Elt Ideal) (e' := .f32) x4 (Rect.unit (s := S384x512) ![160, 0] ![32, 512] inb_S384x512_S32x512_160_0)) x7) (k0_pay81 (k0_pay75 (View.ld (Val := Elt Ideal) (e' := .f32) x2 (Rect.unit (s := S384x512) ![160, 0] ![32, 512] inb_S384x512_S32x512_160_0))) k0_pay76)) (k0_pay97 (k0_pay88 (View.ld (Val := Elt Ideal) (e' := .f32) x2 (Rect.unit (s := S384x512) ![192, 0] ![32, 512] inb_S384x512_S32x512_192_0))) (k0_pay89 (View.ld (Val := Elt Ideal) (e' := .f32) x2 (Rect.unit (s := S384x512) ![192, 0] ![32, 512] inb_S384x512_S32x512_192_0))) (k0_pay90 (View.ld (Val := Elt Ideal) (e' := .f32) x2 (Rect.unit (s := S384x512) ![192, 0] ![32, 512] inb_S384x512_S32x512_192_0)) x7 x8) (k0_pay91 (View.ld (Val := Elt Ideal) (e' := .f32) x2 (Rect.unit (s := S384x512) ![192, 0] ![32, 512] inb_S384x512_S32x512_192_0)) x7 x8) (FloatOps.ofBits FTy.f32 1065353216#32) (View.ld (Val := Elt Ideal) (e' := .f32) x4 (Rect.unit (s := S384x512) ![192, 0] ![32, 512] inb_S384x512_S32x512_192_0)) x7)) (k0_pay100 (View.ld (Val := Elt Ideal) (e' := .f32) x2 (Rect.unit (s := S384x512) ![224, 0] ![32, 512] inb_S384x512_S32x512_224_0))) (k0_pay101 (View.ld (Val := Elt Ideal) (e' := .f32) x2 (Rect.unit (s := S384x512) ![224, 0] ![32, 512] inb_S384x512_S32x512_224_0))) (k0_pay102 (View.ld (Val := Elt Ideal) (e' := .f32) x2 (Rect.unit (s := S384x512) ![224, 0] ![32, 512] inb_S384x512_S32x512_224_0)) x7 x8 (View.ld (Val := Elt Ideal) (e' := .f32) x4 (Rect.unit (s := S384x512) ![224, 0] ![32, 512] inb_S384x512_S32x512_224_0))) x7) (k0_pay111 (k0_pay109 (View.ld (Val := Elt Ideal) (e' := .f32) x2 (Rect.unit (s := S384x512) ![256, 0] ![32, 512] inb_S384x512_S32x512_256_0))) k0_pay110) (k0_pay112 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110) (k0_pay115 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110 x7 x8 (View.ld (Val := Elt Ideal) (e' := .f32) x4 (Rect.unit (s := S384x512) ![256, 0] ![32, 512] inb_S384x512_S32x512_256_0)) x7) (k0_pay116 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110 x7 x8 (View.ld (Val := Elt Ideal) (e' := .f32) x4 (Rect.unit (s := S384x512) ![256, 0] ![32, 512] inb_S384x512_S32x512_256_0)) x7)) (k0_pay128 (k0_pay123 (View.ld (Val := Elt Ideal) (e' := .f32) x2 (Rect.unit (s := S384x512) ![288, 0] ![32, 512] inb_S384x512_S32x512_288_0))) (k0_pay124 (View.ld (Val := Elt Ideal) (e' := .f32) x2 (Rect.unit (s := S384x512) ![288, 0] ![32, 512] inb_S384x512_S32x512_288_0))) (k0_pay125 (View.ld (Val := Elt Ideal) (e' := .f32) x2 (Rect.unit (s := S384x512) ![288, 0] ![32, 512] inb_S384x512_S32x512_288_0)) x7 x8) k0_pay126 (View.ld (Val := Elt Ideal) (e' := .f32) x4 (Rect.unit (s := S384x512) ![288, 0] ![32, 512] inb_S384x512_S32x512_288_0)) x7)) (k0_pay134 (View.ld (Val := Elt Ideal) (e' := .f32) x2 (Rect.unit (s := S384x512) ![320, 0] ![32, 512] inb_S384x512_S32x512_320_0))) (k0_pay135 (View.ld (Val := Elt Ideal) (e' := .f32) x2 (Rect.unit (s := S384x512) ![320, 0] ![32, 512] inb_S384x512_S32x512_320_0))) (View.ld (Val := Elt Ideal) (e' := .f32) x4 (Rect.unit (s := S384x512) ![320, 0] ![32, 512] inb_S384x512_S32x512_320_0)) (k0_pay136 (View.ld (Val := Elt Ideal) (e' := .f32) x2 (Rect.unit (s := S384x512) ![320, 0] ![32, 512] inb_S384x512_S32x512_320_0)) x7 x8) x7) (k0_pay145 (k0_pay144 (View.ld (Val := Elt Ideal) (e' := .f32) x2 (Rect.unit (s := S384x512) ![352, 0] ![32, 512] inb_S384x512_S32x512_352_0)))) (k0_pay146 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0)))) (k0_pay149 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0))) x7 x8 (View.ld (Val := Elt Ideal) (e' := .f32) x4 (Rect.unit (s := S384x512) ![352, 0] ![32, 512] inb_S384x512_S32x512_352_0)) x7) (k0_pay150 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0))) x7 x8 (View.ld (Val := Elt Ideal) (e' := .f32) x4 (Rect.unit (s := S384x512) ![352, 0] ![32, 512] inb_S384x512_S32x512_352_0)) x7) (FloatOps.ofBits FTy.f32 1140850688#32)) acc) (ix2 0 b)
      = acc (ix2 0 b) + ∑ r : Fin 384, lnBack (fun k => x2 (ix2 r k)) (fun k => x4 (ix2 r k)) (fun k => x7 (ix2 0 k)) (fun k => x8 (ix2 0 k)) b := by
  rw [sum384]
  pointwise [k0_pay19, k0_pay20, k0_pay21, k0_pay22, k0_pay23, k0_pay24, k0_pay25, k0_pay26, k0_pay30, k0_pay31, k0_pay32, k0_pay33, k0_pay34, k0_pay35, k0_pay36, k0_pay37, k0_pay38, k0_pay42, k0_pay43, k0_pay44, k0_pay45, k0_pay46, k0_pay47, k0_pay48, k0_pay52, k0_pay53, k0_pay54, k0_pay55, k0_pay56, k0_pay57, k0_pay58, k0_pay59, k0_pay63, k0_pay64, k0_pay65, k0_pay66, k0_pay67, k0_pay68, k0_pay69, k0_pay73, k0_pay74, k0_pay75, k0_pay76, k0_pay77, k0_pay78, k0_pay79, k0_pay80, k0_pay81, k0_pay82, k0_pay86, k0_pay87, k0_pay88, k0_pay89, k0_pay90, k0_pay91, k0_pay92, k0_pay93, k0_pay97, k0_pay98, k0_pay99, k0_pay100, k0_pay101, k0_pay102, k0_pay103, k0_pay107, k0_pay108, k0_pay109, k0_pay110, k0_pay111, k0_pay112, k0_pay113, k0_pay114, k0_pay115, k0_pay116, k0_pay117, k0_pay121, k0_pay122, k0_pay123, k0_pay124, k0_pay125, k0_pay126, k0_pay127, k0_pay128, k0_pay132, k0_pay133, k0_pay134, k0_pay135, k0_pay136, k0_pay137, k0_pay138, k0_pay142, k0_pay143, k0_pay144, k0_pay145, k0_pay146, k0_pay147, k0_pay148, k0_pay149, k0_pay150, k0_pay151, k0_pay155, k0_pay164, lnBack, dln, lnRow, yhat, rstd, mean, logi]

theorem part_13 (x2 x4 : FVec Ideal S384x512 .f32) (x7 x8 acc : FVec Ideal S1x512 .f32) (b : Fin 512) :
    (k0_pay162 (F := Ideal) (k0_pay153 (k0_pay140 (k0_pay130 (k0_pay119 (k0_pay105 (k0_pay95 (k0_pay84 (k0_pay71 (k0_pay61 (k0_pay50 (k0_pay40 (k0_pay28 k0_pay17 (k0_pay22 (View.ld (Val := Elt Ideal) (e' := .f32) x2 (Rect.unit (s := S384x512) ![0, 0] ![32, 512] inb_S384x512_S32x512_0_0))) (k0_pay23 (View.ld (Val := Elt Ideal) (e' := .f32) x2 (Rect.unit (s := S384x512) ![0, 0] ![32, 512] inb_S384x512_S32x512_0_0)) x7 x8) (k0_pay24 (View.ld (Val := Elt Ideal) (e' := .f32) x2 (Rect.unit (s := S384x512) ![0, 0] ![32, 512] inb_S384x512_S32x512_0_0)) x7 x8) (View.ld (Val := Elt Ideal) (e' := .f32) x4 (Rect.unit (s := S384x512) ![0, 0] ![32, 512] inb_S384x512_S32x512_0_0))) (k0_pay34 (k0_pay31 (View.ld (Val := Elt Ideal) (e' := .f32) x2 (Rect.unit (s := S384x512) ![32, 0] ![32, 512] inb_S384x512_S32x512_32_0)))) (k0_pay35 (k0_pay31 (View.ld (Val := Elt Ideal) (e' := .f32) x2 (Rect.unit (s := S384x512) ![32, 0] ![32, 512] inb_S384x512_S32x512_32_0))) x7 x8 (View.ld (Val := Elt Ideal) (e' := .f32) x4 (Rect.unit (s := S384x512) ![32, 0] ![32, 512] inb_S384x512_S32x512_32_0)))) (k0_pay46 (k0_pay43 (View.ld (Val := Elt Ideal) (e' := .f32) x2 (Rect.unit (s := S384x512) ![64, 0] ![32, 512] inb_S384x512_S32x512_64_0))) (k0_pay45 (View.ld (Val := Elt Ideal) (e' := .f32) x2 (Rect.unit (s := S384x512) ![64, 0] ![32, 512] inb_S384x512_S32x512_64_0)))) (k0_pay47 (k0_pay43 (View.ld (Val := Elt Ideal) (e' := .f32) x2 (Rect.unit (s := S384x512) ![64, 0] ![32, 512] inb_S384x512_S32x512_64_0))) (k0_pay45 (View.ld (Val := Elt Ideal) (e' := .f32) x2 (Rect.unit (s := S384x512) ![64, 0] ![32, 512] inb_S384x512_S32x512_64_0))) x7 x8 (View.ld (Val := Elt Ideal) (e' := .f32) x4 (Rect.unit (s := S384x512) ![64, 0] ![32, 512] inb_S384x512_S32x512_64_0)))) (k0_pay55 (View.ld (Val := Elt Ideal) (e' := .f32) x2 (Rect.unit (s := S384x512) ![96, 0] ![32, 512] inb_S384x512_S32x512_96_0))) (k0_pay56 (View.ld (Val := Elt Ideal) (e' := .f32) x2 (Rect.unit (s := S384x512) ![96, 0] ![32, 512] inb_S384x512_S32x512_96_0)) x7 x8) (k0_pay57 (View.ld (Val := Elt Ideal) (e' := .f32) x2 (Rect.unit (s := S384x512) ![96, 0] ![32, 512] inb_S384x512_S32x512_96_0)) x7 x8) (FloatOps.ofBits FTy.f32 1065353216#32) (View.ld (Val := Elt Ideal) (e' := .f32) x4 (Rect.unit (s := S384x512) ![96, 0] ![32, 512] inb_S384x512_S32x512_96_0))) (k0_pay66 (View.ld (Val := Elt Ideal) (e' := .f32) x2 (Rect.unit (s := S384x512) ![128, 0] ![32, 512] inb_S384x512_S32x512_128_0))) (k0_pay67 (View.ld (Val := Elt Ideal) (e' := .f32) x2 (Rect.unit (s := S384x512) ![128, 0] ![32, 512] inb_S384x512_S32x512_128_0)) x7 x8 (View.ld (Val := Elt Ideal) (e' := .f32) x4 (Rect.unit (s := S384x512) ![128, 0] ![32, 512] inb_S384x512_S32x512_128_0)))) (k0_pay78 (k0_pay74 (View.ld (Val := Elt Ideal) (e' := .f32) x2 (Rect.unit (s := S384x512) ![160, 0] ![32, 512] inb_S384x512_S32x512_160_0))) (k0_pay75 (View.ld (Val := Elt Ideal) (e' := .f32) x2 (Rect.unit (s := S384x512) ![160, 0] ![32, 512] inb_S384x512_S32x512_160_0))) k0_pay76) (k0_pay79 (k0_pay74 (View.ld (Val := Elt Ideal) (e' := .f32) x2 (Rect.unit (s := S384x512) ![160, 0] ![32, 512] inb_S384x512_S32x512_160_0))) (k0_pay75 (View.ld (Val := Elt Ideal) (e' := .f32) x2 (Rect.unit (s := S384x512) ![160, 0] ![32, 512] inb_S384x512_S32x512_160_0))) k0_pay76 x7 x8 (View.ld (Val := Elt Ideal) (e' := .f32) x4 (Rect.unit (s := S384x512) ![160, 0] ![32, 512] inb_S384x512_S32x512_160_0)))) (k0_pay89 (View.ld (Val := Elt Ideal) (e' := .f32) x2 (Rect.unit (s := S384x512) ![192, 0] ![32, 512] inb_S384x512_S32x512_192_0))) (k0_pay90 (View.ld (Val := Elt Ideal) (e' := .f32) x2 (Rect.unit (s := S384x512) ![192, 0] ![32, 512] inb_S384x512_S32x512_192_0)) x7 x8) (k0_pay91 (View.ld (Val := Elt Ideal) (e' := .f32) x2 (Rect.unit (s := S384x512) ![192, 0] ![32, 512] inb_S384x512_S32x512_192_0)) x7 x8) (FloatOps.ofBits FTy.f32 1065353216#32) (View.ld (Val := Elt Ideal) (e' := .f32) x4 (Rect.unit (s := S384x512) ![192, 0] ![32, 512] inb_S384x512_S32x512_192_0))) (k0_pay101 (View.ld (Val := Elt Ideal) (e' := .f32) x2 (Rect.unit (s := S384x512) ![224, 0] ![32, 512] inb_S384x512_S32x512_224_0))) (k0_pay102 (View.ld (Val := Elt Ideal) (e' := .f32) x2 (Rect.unit (s := S384x512) ![224, 0] ![32, 512] inb_S384x512_S32x512_224_0)) x7 x8 (View.ld (Val := Elt Ideal) (e' := .f32) x4 (Rect.unit (s := S384x512) ![224, 0] ![32, 512] inb_S384x512_S32x512_224_0)))) (k0_pay112 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110) (k0_pay113 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110 x7 x8 (View.ld (Val := Elt Ideal) (e' := .f32) x4 (Rect.unit (s := S384x512) ![256, 0] ![32, 512] inb_S384x512_S32x512_256_0)))) (k0_pay124 (View.ld (Val := Elt Ideal) (e' := .f32) x2 (Rect.unit (s := S384x512) ![288, 0] ![32, 512] inb_S384x512_S32x512_288_0))) (k0_pay125 (View.ld (Val := Elt Ideal) (e' := .f32) x2 (Rect.unit (s := S384x512) ![288, 0] ![32, 512] inb_S384x512_S32x512_288_0)) x7 x8) k0_pay126 (View.ld (Val := Elt Ideal) (e' := .f32) x4 (Rect.unit (s := S384x512) ![288, 0] ![32, 512] inb_S384x512_S32x512_288_0))) (k0_pay135 (View.ld (Val := Elt Ideal) (e' := .f32) x2 (Rect.unit (s := S384x512) ![320, 0] ![32, 512] inb_S384x512_S32x512_320_0))) (View.ld (Val := Elt Ideal) (e' := .f32) x4 (Rect.unit (s := S384x512) ![320, 0] ![32, 512] inb_S384x512_S32x512_320_0)) (k0_pay136 (View.ld (Val := Elt Ideal) (e' := .f32) x2 (Rect.unit (s := S384x512) ![320, 0] ![32, 512] inb_S384x512_S32x512_320_0)) x7 x8)) (k0_pay146 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0)))) (k0_pay147 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0))) x7 x8 (View.ld (Val := Elt Ideal) (e' := .f32) x4 (Rect.unit (s := S384x512) ![352, 0] ![32, 512] inb_S384x512_S32x512_352_0)))) acc) (ix2 0 b)
      = acc (ix2 0 b) + ∑ r : Fin 384, dln (fun k => x2 (ix2 r k)) (fun k => x4 (ix2 r k)) (fun k => x7 (ix2 0 k)) (fun k => x8 (ix2 0 k)) b * yhat (fun k => x2 (ix2 r k)) b := by
  rw [sum384]
  pointwise [k0_pay17, k0_pay20, k0_pay21, k0_pay22, k0_pay23, k0_pay24, k0_pay25, k0_pay28, k0_pay31, k0_pay32, k0_pay33, k0_pay34, k0_pay35, k0_pay40, k0_pay43, k0_pay44, k0_pay45, k0_pay46, k0_pay47, k0_pay50, k0_pay53, k0_pay54, k0_pay55, k0_pay56, k0_pay57, k0_pay58, k0_pay61, k0_pay64, k0_pay65, k0_pay66, k0_pay67, k0_pay71, k0_pay74, k0_pay75, k0_pay76, k0_pay77, k0_pay78, k0_pay79, k0_pay84, k0_pay87, k0_pay88, k0_pay89, k0_pay90, k0_pay91, k0_pay92, k0_pay95, k0_pay99, k0_pay100, k0_pay101, k0_pay102, k0_pay105, k0_pay108, k0_pay109, k0_pay110, k0_pay111, k0_pay112, k0_pay113, k0_pay119, k0_pay122, k0_pay123, k0_pay124, k0_pay125, k0_pay126, k0_pay127, k0_pay130, k0_pay133, k0_pay134, k0_pay135, k0_pay136, k0_pay137, k0_pay140, k0_pay143, k0_pay144, k0_pay145, k0_pay146, k0_pay147, k0_pay153, k0_pay162, lnBack, dln, lnRow, yhat, rstd, mean, logi]

theorem part_14 (x2 x4 : FVec Ideal S384x512 .f32) (x7 x8 acc : FVec Ideal S1x512 .f32) (b : Fin 512) :
    (k0_pay163 (F := Ideal) (k0_pay154 (k0_pay141 (k0_pay131 (k0_pay120 (k0_pay106 (k0_pay96 (k0_pay85 (k0_pay72 (k0_pay62 (k0_pay51 (k0_pay41 (k0_pay29 k0_pay18 (k0_pay23 (View.ld (Val := Elt Ideal) (e' := .f32) x2 (Rect.unit (s := S384x512) ![0, 0] ![32, 512] inb_S384x512_S32x512_0_0)) x7 x8) (k0_pay24 (View.ld (Val := Elt Ideal) (e' := .f32) x2 (Rect.unit (s := S384x512) ![0, 0] ![32, 512] inb_S384x512_S32x512_0_0)) x7 x8) (View.ld (Val := Elt Ideal) (e' := .f32) x4 (Rect.unit (s := S384x512) ![0, 0] ![32, 512] inb_S384x512_S32x512_0_0))) (k0_pay35 (k0_pay31 (View.ld (Val := Elt Ideal) (e' := .f32) x2 (Rect.unit (s := S384x512) ![32, 0] ![32, 512] inb_S384x512_S32x512_32_0))) x7 x8 (View.ld (Val := Elt Ideal) (e' := .f32) x4 (Rect.unit (s := S384x512) ![32, 0] ![32, 512] inb_S384x512_S32x512_32_0)))) (k0_pay47 (k0_pay43 (View.ld (Val := Elt Ideal) (e' := .f32) x2 (Rect.unit (s := S384x512) ![64, 0] ![32, 512] inb_S384x512_S32x512_64_0))) (k0_pay45 (View.ld (Val := Elt Ideal) (e' := .f32) x2 (Rect.unit (s := S384x512) ![64, 0] ![32, 512] inb_S384x512_S32x512_64_0))) x7 x8 (View.ld (Val := Elt Ideal) (e' := .f32) x4 (Rect.unit (s := S384x512) ![64, 0] ![32, 512] inb_S384x512_S32x512_64_0)))) (k0_pay56 (View.ld (Val := Elt Ideal) (e' := .f32) x2 (Rect.unit (s := S384x512) ![96, 0] ![32, 512] inb_S384x512_S32x512_96_0)) x7 x8) (k0_pay57 (View.ld (Val := Elt Ideal) (e' := .f32) x2 (Rect.unit (s := S384x512) ![96, 0] ![32, 512] inb_S384x512_S32x512_96_0)) x7 x8) (FloatOps.ofBits FTy.f32 1065353216#32) (View.ld (Val := Elt Ideal) (e' := .f32) x4 (Rect.unit (s := S384x512) ![96, 0] ![32, 512] inb_S384x512_S32x512_96_0))) (k0_pay67 (View.ld (Val := Elt Ideal) (e' := .f32) x2 (Rect.unit (s := S384x512) ![128, 0] ![32, 512] inb_S384x512_S32x512_128_0)) x7 x8 (View.ld (Val := Elt Ideal) (e' := .f32) x4 (Rect.unit (s := S384x512) ![128, 0] ![32, 512] inb_S384x512_S32x512_128_0)))) (k0_pay79 (k0_pay74 (View.ld (Val := Elt Ideal) (e' := .f32) x2 (Rect.unit (s := S384x512) ![160, 0] ![32, 512] inb_S384x512_S32x512_160_0))) (k0_pay75 (View.ld (Val := Elt Ideal) (e' := .f32) x2 (Rect.unit (s := S384x512) ![160, 0] ![32, 512] inb_S384x512_S32x512_160_0))) k0_pay76 x7 x8 (View.ld (Val := Elt Ideal) (e' := .f32) x4 (Rect.unit (s := S384x512) ![160, 0] ![32, 512] inb_S384x512_S32x512_160_0)))) (k0_pay90 (View.ld (Val := Elt Ideal) (e' := .f32) x2 (Rect.unit (s := S384x512) ![192, 0] ![32, 512] inb_S384x512_S32x512_192_0)) x7 x8) (k0_pay91 (View.ld (Val := Elt Ideal) (e' := .f32) x2 (Rect.unit (s := S384x512) ![192, 0] ![32, 512] inb_S384x512_S32x512_192_0)) x7 x8) (FloatOps.ofBits FTy.f32 1065353216#32) (View.ld (Val := Elt Ideal) (e' := .f32) x4 (Rect.unit (s := S384x512) ![192, 0] ![32, 512] inb_S384x512_S32x512_192_0))) (k0_pay102 (View.ld (Val := Elt Ideal) (e' := .f32) x2 (Rect.unit (s := S384x512) ![224, 0] ![32, 512] inb_S384x512_S32x512_224_0)) x7 x8 (View.ld (Val := Elt Ideal) (e' := .f32) x4 (Rect.unit (s := S384x512) ![224, 0] ![32, 512] inb_S384x512_S32x512_224_0)))) (k0_pay113 (k0_pay108 (View.ld (Val := Elt Ideal) (e' := .f32) x2 (Rect.unit (s := S384x512) ![256, 0] ![32, 512] inb_S384x512_S32x512_256_0))) (k0_pay109 (View.ld (Val := Elt Ideal) (e' := .f32) x2 (Rect.unit (s := S384x512) ![256, 0] ![32, 512] inb_S384x512_S32x512_256_0))) k0_pay110 x7 x8 (View.ld (Val := Elt Ideal) (e' := .f32) x4 (Rect.unit (s := S384x512) ![256, 0] ![32, 512] inb_S384x512_S32x512_256_0)))) (k0_pay125 (View.ld (Val := Elt Ideal) (e' := .f32) x2 (Rect.unit (s := S384x512) ![288, 0] ![32, 512] inb_S384x512_S32x512_288_0)) x7 x8) k0_pay126 (View.ld (Val := Elt Ideal) (e' := .f32) x4 (Rect.unit (s := S384x512) ![288, 0] ![32, 512] inb_S384x512_S32x512_288_0))) (View.ld (Val := Elt Ideal) (e' := .f32) x4 (Rect.unit (s := S384x512) ![320, 0] ![32, 512] inb_S384x512_S32x512_320_0)) (k0_pay136 (View.ld (Val := Elt Ideal) (e' := .f32) x2 (Rect.unit (s := S384x512) ![320, 0] ![32, 512] inb_S384x512_S32x512_320_0)) x7 x8)) (k0_pay147 (k0_pay143 (View.ld (Val := Elt Ideal) (e' := .f32) x2 (Rect.unit (s := S384x512) ![352, 0] ![32, 512] inb_S384x512_S32x512_352_0))) (k0_pay144 (View.ld (Val := Elt Ideal) (e' := .f32) x2 (Rect.unit (s := S384x512) ![352, 0] ![32, 512] inb_S384x512_S32x512_352_0))) x7 x8 (View.ld (Val := Elt Ideal) (e' := .f32) x4 (Rect.unit (s := S384x512) ![352, 0] ![32, 512] inb_S384x512_S32x512_352_0)))) acc) (ix2 0 b)
      = acc (ix2 0 b) + ∑ r : Fin 384, dln (fun k => x2 (ix2 r k)) (fun k => x4 (ix2 r k)) (fun k => x7 (ix2 0 k)) (fun k => x8 (ix2 0 k)) b := by
  rw [sum384]
  pointwise [k0_pay18, k0_pay20, k0_pay21, k0_pay22, k0_pay23, k0_pay24, k0_pay25, k0_pay29, k0_pay31, k0_pay32, k0_pay33, k0_pay34, k0_pay35, k0_pay41, k0_pay43, k0_pay44, k0_pay45, k0_pay46, k0_pay47, k0_pay51, k0_pay53, k0_pay54, k0_pay55, k0_pay56, k0_pay57, k0_pay58, k0_pay62, k0_pay64, k0_pay65, k0_pay66, k0_pay67, k0_pay72, k0_pay74, k0_pay75, k0_pay76, k0_pay77, k0_pay78, k0_pay79, k0_pay85, k0_pay87, k0_pay88, k0_pay89, k0_pay90, k0_pay91, k0_pay92, k0_pay96, k0_pay99, k0_pay100, k0_pay101, k0_pay102, k0_pay106, k0_pay108, k0_pay109, k0_pay110, k0_pay111, k0_pay112, k0_pay113, k0_pay120, k0_pay122, k0_pay123, k0_pay124, k0_pay125, k0_pay126, k0_pay127, k0_pay131, k0_pay133, k0_pay134, k0_pay135, k0_pay136, k0_pay137, k0_pay141, k0_pay143, k0_pay144, k0_pay145, k0_pay146, k0_pay147, k0_pay154, k0_pay163, lnBack, dln, lnRow, yhat, rstd, mean, logi]

set_option maxHeartbeats 4000000 in
theorem point_12_A (c : Dev nD) (t : Fin cfg0.N) (h0 : t.val % 11 = 0) (x0 x1 x2 x3 x4 x5 x6 x7 x8) (y : S1x512.Idx) :
    (out0_A_12 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) ((hcond0_0 t).mpr h0) x0 x1 x2 x3 x4 x5 x6 x7 x8) y = ∑ r : Fin 384, lnBack (fun k => x2 (ix2 r k)) (fun k => x4 (ix2 r k)) (fun k => x7 (ix2 0 k)) (fun k => x8 (ix2 0 k)) (y 1) := by
  frame_out
  have e : y = ix2 0 (y 1) := by
    rw [eq_ix2 y]
    exact congrArg (fun a => ix2 a (y 1)) (Subsingleton.elim (α := Fin 1) _ _)
  rw [e]; exact (part_12 x2 x4 x7 x8 (k0_pay5 (F := Ideal)) (y 1)).trans (by rw [show (k0_pay5 (F := Ideal)) (ix2 0 (y 1)) = 0 by pointwise! [k0_pay5], zero_add]; rfl)

set_option maxHeartbeats 4000000 in
theorem point_12_B (c : Dev nD) (t : Fin cfg0.N) (h0 : ¬t.val % 11 = 0) (x0 x1 x2 x3 x4 x5 x6 x7 x8) (p0 p1 p2 p3) (y : S1x512.Idx) :
    (out0_B_12 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) (fun h => h0 ((hcond0_0 t).mp h)) x0 x1 x2 x3 x4 x5 x6 x7 x8 p0 p1 p2 p3) y = p1 y + ∑ r : Fin 384, lnBack (fun k => x2 (ix2 r k)) (fun k => x4 (ix2 r k)) (fun k => x7 (ix2 0 k)) (fun k => x8 (ix2 0 k)) (y 1) := by
  frame_out
  have e : y = ix2 0 (y 1) := by
    rw [eq_ix2 y]
    exact congrArg (fun a => ix2 a (y 1)) (Subsingleton.elim (α := Fin 1) _ _)
  rw [e]; exact part_12 x2 x4 x7 x8 p1 (y 1)

set_option maxHeartbeats 4000000 in
theorem point_13_A (c : Dev nD) (t : Fin cfg0.N) (h0 : t.val % 11 = 0) (x0 x1 x2 x3 x4 x5 x6 x7 x8) (y : S1x512.Idx) :
    (out0_A_13 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) ((hcond0_0 t).mpr h0) x0 x1 x2 x3 x4 x5 x6 x7 x8) y = ∑ r : Fin 384, dln (fun k => x2 (ix2 r k)) (fun k => x4 (ix2 r k)) (fun k => x7 (ix2 0 k)) (fun k => x8 (ix2 0 k)) (y 1) * yhat (fun k => x2 (ix2 r k)) (y 1) := by
  frame_out
  have e : y = ix2 0 (y 1) := by
    rw [eq_ix2 y]
    exact congrArg (fun a => ix2 a (y 1)) (Subsingleton.elim (α := Fin 1) _ _)
  rw [e]; exact (part_13 x2 x4 x7 x8 (k0_pay6 (F := Ideal)) (y 1)).trans (by rw [show (k0_pay6 (F := Ideal)) (ix2 0 (y 1)) = 0 by pointwise! [k0_pay6], zero_add]; rfl)

set_option maxHeartbeats 4000000 in
theorem point_13_B (c : Dev nD) (t : Fin cfg0.N) (h0 : ¬t.val % 11 = 0) (x0 x1 x2 x3 x4 x5 x6 x7 x8) (p0 p1 p2 p3) (y : S1x512.Idx) :
    (out0_B_13 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) (fun h => h0 ((hcond0_0 t).mp h)) x0 x1 x2 x3 x4 x5 x6 x7 x8 p0 p1 p2 p3) y = p2 y + ∑ r : Fin 384, dln (fun k => x2 (ix2 r k)) (fun k => x4 (ix2 r k)) (fun k => x7 (ix2 0 k)) (fun k => x8 (ix2 0 k)) (y 1) * yhat (fun k => x2 (ix2 r k)) (y 1) := by
  frame_out
  have e : y = ix2 0 (y 1) := by
    rw [eq_ix2 y]
    exact congrArg (fun a => ix2 a (y 1)) (Subsingleton.elim (α := Fin 1) _ _)
  rw [e]; exact part_13 x2 x4 x7 x8 p2 (y 1)

set_option maxHeartbeats 4000000 in
theorem point_14_A (c : Dev nD) (t : Fin cfg0.N) (h0 : t.val % 11 = 0) (x0 x1 x2 x3 x4 x5 x6 x7 x8) (y : S1x512.Idx) :
    (out0_A_14 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) ((hcond0_0 t).mpr h0) x0 x1 x2 x3 x4 x5 x6 x7 x8) y = ∑ r : Fin 384, dln (fun k => x2 (ix2 r k)) (fun k => x4 (ix2 r k)) (fun k => x7 (ix2 0 k)) (fun k => x8 (ix2 0 k)) (y 1) := by
  frame_out
  have e : y = ix2 0 (y 1) := by
    rw [eq_ix2 y]
    exact congrArg (fun a => ix2 a (y 1)) (Subsingleton.elim (α := Fin 1) _ _)
  rw [e]; exact (part_14 x2 x4 x7 x8 (k0_pay7 (F := Ideal)) (y 1)).trans (by rw [show (k0_pay7 (F := Ideal)) (ix2 0 (y 1)) = 0 by pointwise! [k0_pay7], zero_add]; rfl)

set_option maxHeartbeats 4000000 in
theorem point_14_B (c : Dev nD) (t : Fin cfg0.N) (h0 : ¬t.val % 11 = 0) (x0 x1 x2 x3 x4 x5 x6 x7 x8) (p0 p1 p2 p3) (y : S1x512.Idx) :
    (out0_B_14 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) scM0_0 (Memref.isWhole_whole _) scM0_1 (Memref.isWhole_whole _) scM0_2 (Memref.isWhole_whole _) scM0_3
      (Memref.isWhole_whole _) (fun h => h0 ((hcond0_0 t).mp h)) x0 x1 x2 x3 x4 x5 x6 x7 x8 p0 p1 p2 p3) y = p3 y + ∑ r : Fin 384, dln (fun k => x2 (ix2 r k)) (fun k => x4 (ix2 r k)) (fun k => x7 (ix2 0 k)) (fun k => x8 (ix2 0 k)) (y 1) := by
  frame_out
  have e : y = ix2 0 (y 1) := by
    rw [eq_ix2 y]
    exact congrArg (fun a => ix2 a (y 1)) (Subsingleton.elim (α := Fin 1) _ _)
  rw [e]; exact part_14 x2 x4 x7 x8 p3 (y 1)

end Cert.KernelIdeal.Value
end
-- ==== Proof.ConvRef.lean ====
/- The reference of the convolution's backward call, entry by entry. -/
module

public import proofs.«01_k».proof.Proof.Gen.ReferenceIdeal.Run
public import proofs.«01_k».proof.Proof.ConvRow
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.ConvFormula

open Cert.ReferenceIdeal Cert.ReferenceIdeal.Gen Cert.ReferenceIdeal.Value Cert.KernelIdeal.Value Cert.Finite

variable (V0 : Valuation τ sig (Elt Ideal))

/-- A row of the convolution's output, before the layer norm. -/
def yRow (r : Fin 4224) (k : Fin 512) : EReal := res_main_v85 V0 (ix2 r k)

/-- A row of the gradient that comes in: the right half. -/
def dRow (r : Fin 4224) (k : Fin 512) : EReal := V0 (Proc.devRef .tc main_arg1) (ix2 r ⟨512 + k.val, by omega⟩)

/-- The layer norm's gain. -/
def gain (k : Fin 512) : EReal := V0 (Proc.devRef .tc main_arg4) (ix2 0 k)

/-- The layer norm's offset. -/
def offs (k : Fin 512) : EReal := V0 (Proc.devRef .tc main_arg5) (ix2 0 k)

/-- A tap of the convolution. -/
def tap (k : Fin 31) (b : Fin 512) : EReal := V0 (Proc.devRef .tc main_arg2) (ix2 k b)

/-- A row of the gradient behind the gain. -/
def aRow (r : Fin 4224) (k : Fin 512) : EReal := res_main_v122 V0 (ix2 r k)

theorem v89_at (r : Fin 4224) : res_main_v89 V0 (ix2 r 0) = mean (yRow V0 r) := by
  pointwise [res_main_v89, mean, yRow]

theorem v91_at (r : Fin 4224) (b : Fin 512) : res_main_v91 V0 (ix2 r b) = yRow V0 r b - mean (yRow V0 r) := by
  rw [← v89_at]; pointwise [res_main_v91, yRow]

theorem v100_at (r : Fin 4224) (b : Fin 512) : res_main_v100 V0 (ix2 r b) = yRow V0 r b - mean (yRow V0 r) := by
  rw [← v89_at]; pointwise [res_main_v100, yRow]

theorem v102_at (r : Fin 4224) : res_main_v102 V0 (ix2 r 0) = spread (yRow V0 r) := by
  unfold spread
  simp only [← v91_at]
  pointwise [res_main_v102]

theorem v103_at (r : Fin 4224) : res_main_v103 V0 (ix2 r 0) = rstd (yRow V0 r) := by
  have e : rstd (yRow V0 r) = Ideal.rsqrt (res_main_v102 V0 (ix2 r 0)) := by rw [v102_at]; rfl
  rw [e]
  pointwise [res_main_v103]

theorem v108_at (r : Fin 4224) (b : Fin 512) : res_main_v108 V0 (ix2 r b) = yhat (yRow V0 r) b := by
  unfold yhat
  rw [← v103_at, ← v100_at]
  pointwise [res_main_v108]

theorem v112_at (r : Fin 4224) (b : Fin 512) : res_main_v112 V0 (ix2 r b) = lnRow (yRow V0 r) (gain V0) (offs V0) b := by
  unfold lnRow gain offs
  rw [← v108_at]
  pointwise [res_main_v112]

theorem v115_at (r : Fin 4224) (b : Fin 512) :
    res_main_v115 V0 (ix2 r b) = actBack (yRow V0 r) (dRow V0 r) (gain V0) (offs V0) b := by
  unfold actBack dRow
  rw [← v112_at]
  pointwise [res_main_v115, res_main_v113_2, res_main_v114]

theorem v122_at (r : Fin 4224) (b : Fin 512) :
    res_main_v122 V0 (ix2 r b) = actBack (yRow V0 r) (dRow V0 r) (gain V0) (offs V0) b * gain V0 b := by
  rw [← v115_at]
  pointwise [res_main_v122, gain]

theorem v127_at (r : Fin 4224) (b : Fin 512) : res_main_v127 V0 (ix2 r b) = aRow V0 r b * rstd (yRow V0 r) := by
  rw [← v103_at]
  pointwise [res_main_v127, aRow]

theorem v136_at (r : Fin 4224) (b : Fin 512) : res_main_v136 V0 (ix2 r b) = varBack (yRow V0 r) (aRow V0 r) b := by
  unfold varBack aRow
  rw [← v103_at, ← v102_at, ← v91_at]
  simp only [← v100_at]
  pointwise [res_main_v136]
  simp only [Finset.univ_unique, Finset.sum_singleton]
  rfl

theorem v146_row (r : Fin 4224) (b : Fin 512) : res_main_v146 V0 (ix2 r b) = rowBack (yRow V0 r) (aRow V0 r) b := by
  unfold rowBack
  have e : ∀ k, aRow V0 r k * rstd (yRow V0 r) = res_main_v127 V0 (ix2 r k) := fun k => (v127_at V0 r k).symm
  have e' : ∀ k, varBack (yRow V0 r) (aRow V0 r) k = res_main_v136 V0 (ix2 r k) := fun k => (v136_at V0 r k).symm
  simp only [e, e']
  pointwise [res_main_v146]

/-- The gradient in front of the layer norm, a row of real entries. -/
theorem v146_at (hy : ∀ r k, ∃ x : ℝ, yRow V0 r k = x) (hd : ∀ r k, ∃ x : ℝ, dRow V0 r k = x) (hg : ∀ k, ∃ x : ℝ, gain V0 k = x)
    (hb : ∀ k, ∃ x : ℝ, offs V0 k = x) (r : Fin 4224) (b : Fin 512) :
    res_main_v146 V0 (ix2 r b) = lnBack (yRow V0 r) (dRow V0 r) (gain V0) (offs V0) b := by
  rw [v146_row, lnBack_eq (hy r) (hd r) hg hb]
  exact congrArg (fun a => rowBack (yRow V0 r) a b) (funext fun k => v122_at V0 r k)

/-- The gated row, zero before the first row: the convolution's input. -/
theorem v13_at (q : Fin 4254) (b : Fin 512) :
    res_main_v13 V0 (ix2 q b) = if h : q.val < 30 then 0 else glu (V0 (Proc.devRef .tc main_arg0)) ⟨q.val - 30, by omega⟩ b := by
  by_cases h : q.val < 30
  · rw [dif_pos h]
    pointwise [res_main_v13, h]
  · rw [dif_neg h]
    pointwise [res_main_v13, res_main_v0, res_main_v7, glu, logi, h, zero_sub]

/-- A tap's window of the convolution's input: the rows from the tap's on. -/
theorem v79_at (k : Fin 31) (r : Fin 4224) (b : Fin 512) :
    res_main_v79 V0 (ix3 k r b) = res_main_v13 V0 (ix2 ⟨r.val + k.val, by omega⟩ b) := by
  fin_cases k
  all_goals (pointwise [res_main_v79]; try exact congrArg (fun q => res_main_v13 V0 (ix2 q b)) (Fin.ext (Nat.add_comm _ _)))

/-- The gradient in front of the layer norm, zero behind the last row. -/
def dyAt (q : ℕ) (b : Fin 512) : EReal := if h : q < 4224 then res_main_v146 V0 (ix2 ⟨q, h⟩ b) else 0

theorem tap_term (k e : ℕ) (hk : k < 31) (hs : S31x4224x512.Slices ![k, 0, 0] S1x4224x512) (hc : S1x4224x512.ShapeCasts S4224x512)
    (hp : S4224x512.Pads ![k, 0] ![e, 0] ![0, 0] S4254x512) (r : Fin 4224) (b : Fin 512) :
    pad (α := Elt Ideal .f32) S4254x512 ![k, 0] ![e, 0] ![0, 0] (shapeCast S4224x512 (extractStridedSlice S1x4224x512 ![k, 0, 0] (res_main_v151 V0) hs) hc) (constant (F := Ideal) S_ .f32 0x00000000#32) hp h_S_
        (ix2 ⟨30 + r.val, by omega⟩ b)
      = tap V0 ⟨k, hk⟩ b * dyAt V0 (r.val + 30 - k) b := by
  unfold dyAt
  by_cases h : r.val + 30 - k < 4224
  · rw [dif_pos h, pad_apply_of_inside _ _ _ _ _ hp h_S_ _ (ix2 ⟨r.val + 30 - k, h⟩ b) (by
      intro a
      match a with
      | 0 => simp; omega
      | 1 => simp)]
    pointwise [res_main_v151, res_main_v80, res_main_v149, tap]
  · rw [dif_neg h, mul_zero, pad_apply_of_not_inside _ _ _ _ _ hp h_S_ _ 0 (by simp; omega)]
    pointwise

/-- The gradient of the gated rows: every tap's share, of the rows the tap reaches. -/
theorem v280_at (r : Fin 4224) (b : Fin 512) :
    res_main_v280 V0 (ix2 r b) = ∑ k : Fin 31, tap V0 k b * dyAt V0 (r.val + 30 - k.val) b := by
  rw [← Equiv.sum_comp Fin.revPerm, sum31]
  have e : res_main_v280 V0 (ix2 r b) = res_main_v278 V0 (ix2 ⟨30 + r.val, by omega⟩ b) := by
    pointwise [res_main_v280]
  rw [e]
  unfold res_main_v278 res_main_v276 res_main_v246
  simp only [addf_apply, tap_term V0 30 0 (by decide), tap_term V0 29 1 (by decide), tap_term V0 28 2 (by decide), tap_term V0 27 3 (by decide), tap_term V0 26 4 (by decide), tap_term V0 25 5 (by decide), tap_term V0 24 6 (by decide), tap_term V0 23 7 (by decide), tap_term V0 22 8 (by decide), tap_term V0 21 9 (by decide), tap_term V0 20 10 (by decide), tap_term V0 19 11 (by decide), tap_term V0 18 12 (by decide), tap_term V0 17 13 (by decide), tap_term V0 16 14 (by decide), tap_term V0 15 15 (by decide), tap_term V0 14 16 (by decide), tap_term V0 13 17 (by decide), tap_term V0 12 18 (by decide), tap_term V0 11 19 (by decide), tap_term V0 10 20 (by decide), tap_term V0 9 21 (by decide), tap_term V0 8 22 (by decide), tap_term V0 7 23 (by decide), tap_term V0 6 24 (by decide), tap_term V0 5 25 (by decide), tap_term V0 4 26 (by decide), tap_term V0 3 27 (by decide), tap_term V0 2 28 (by decide), tap_term V0 1 29 (by decide), tap_term V0 0 30 (by decide)]
  rfl

theorem v7_at (r : Fin 4224) (b : Fin 512) : res_main_v7 V0 (ix2 r b) = logi (V0 (Proc.devRef .tc main_arg0) (ix2 r ⟨512 + b.val, by omega⟩)) := by
  pointwise [res_main_v7, logi, zero_sub]

theorem v0_at (r : Fin 4224) (b : Fin 512) : res_main_v0 V0 (ix2 r b) = V0 (Proc.devRef .tc main_arg0) (ix2 r ⟨b.val, by omega⟩) := by
  pointwise [res_main_v0]

theorem v85_at (r : Fin 4224) (b : Fin 512) :
    yRow V0 r b = (∑ k : Fin 31, tap V0 k b * res_main_v13 V0 (ix2 ⟨r.val + k.val, by omega⟩ b)) + V0 (Proc.devRef .tc main_arg3) (ix2 0 b) := by
  unfold yRow tap
  simp only [← v79_at]
  pointwise [res_main_v85, res_main_v80]

theorem logi_real {x : EReal} (h : ∃ r : ℝ, x = r) : ∃ r : ℝ, logi x = r := by
  obtain ⟨r, rfl⟩ := h
  exact ⟨sg r, by rw [logi, zero_sub, sigmoid_coe]⟩

/-- The convolution's output is real where the arguments are. -/
theorem yRow_real (a0 : AllReal (V0 (Proc.devRef .tc main_arg0))) (a2 : AllReal (V0 (Proc.devRef .tc main_arg2)))
    (a3 : AllReal (V0 (Proc.devRef .tc main_arg3))) (r : Fin 4224) (b : Fin 512) : ∃ x : ℝ, yRow V0 r b = x := by
  rw [v85_at]
  refine real_add (real_sum fun k => real_mul (a2 _) ?_) (a3 _)
  rw [v13_at]
  split
  · exact ⟨0, EReal.coe_zero.symm⟩
  · exact real_mul (a0 _) (logi_real (a0 _))

end Cert.ConvFormula
end
-- ==== Proof.ConvOutput.lean ====
/- The convolution's output in the program of its backward call, and in the reference. -/
module

public import proofs.«01_k».proof.Proof.Gen.KernelIdeal.Frame
public import proofs.«01_k».proof.Proof.Gen.ReferenceIdeal.Run
public import proofs.«01_k».proof.Proof.Conv
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

variable (m : (ℓ : Loc nD τ sig) → Buf (Elt Ideal) ℓ)

set_option maxHeartbeats 40000000 in
/-- The convolution's output, as the lines in front of the call compute it. -/
theorem y_eq (c : Dev nD) (V0 : Valuation Cert.ReferenceIdeal.τ Cert.ReferenceIdeal.sig (Elt Ideal))
    (h0 : V0 (Proc.devRef .tc Cert.ReferenceIdeal.main_arg0) = m ((c : Thread nD τ).loc main_arg0))
    (h2 : V0 (Proc.devRef .tc Cert.ReferenceIdeal.main_arg2) = m ((c : Thread nD τ).loc main_arg2))
    (h3 : V0 (Proc.devRef .tc Cert.ReferenceIdeal.main_arg3) = m ((c : Thread nD τ).loc main_arg3)) :
    V m c main_v81 = Cert.ReferenceIdeal.Value.res_main_v85 V0 := by
  unfold_abbrev_sides
  after_results
  simp only [Cert.ReferenceIdeal.Value.res_main_v85, Cert.ReferenceIdeal.Value.res_main_v80, Cert.ReferenceIdeal.Value.res_main_v79, Cert.ReferenceIdeal.Value.res_main_v13, Cert.ReferenceIdeal.Value.res_main_v0, Cert.ReferenceIdeal.Value.res_main_v7]
  rw [h0, h2, h3]
  rfl

end Cert.KernelIdeal.Value
end
-- ==== Proof.ConvBlocks.lean ====
/- The blocks of the convolution's backward call, entry by entry. -/
module

public import proofs.«01_k».proof.Proof.ConvTaps
public import proofs.«01_k».proof.Proof.ConvSums
public import proofs.«01_k».proof.Proof.ConvRef
public import proofs.«01_k».proof.Proof.ConvOutput
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Finite Cert.ConvFormula

variable (m : (ℓ : Loc nD τ sig) → Buf (Elt Ideal) ℓ)

/-- Which block of its array each window holds at a grid point. -/
theorem window_blocks : ∀ t : Fin cfg0.N, win0_0.index t = ![t.val, 0]
    ∧ win0_1.index t = ![12 * t.val - 1, 0]
    ∧ win0_2.index t = ![t.val, 0]
    ∧ win0_3.index t = ![min (12 * t.val + 12) 131, 0]
    ∧ win0_4.index t = ![t.val, 1]
    ∧ win0_5.index t = ![min (12 * t.val + 12) 131, 1]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![0, 0]
    ∧ win0_12.index t = ![0, 0]
    ∧ win0_13.index t = ![0, 0]
    ∧ win0_14.index t = ![0, 0] :=
  (by decide +kernel : ∀ t : Fin grid0.N, _)

theorem coord_eq : ∀ t : Fin cfg0.N, (grid0.coords t 0).val = t.val :=
  (by decide +kernel : ∀ t : Fin grid0.N, _)

theorem point_lt (t : Fin cfg0.N) : t.val < 11 := lt_of_lt_of_eq t.isLt N_0

/-- The rows of a grid point's own block. -/
def row (t : Fin cfg0.N) (a : Fin 384) : Fin 4224 := ⟨384 * t.val + a.val, by have := point_lt t; omega⟩

/-- The rows after a grid point's own block; after the last block, its last rows. -/
def nextRow (t : Fin cfg0.N) (a : Fin 32) : Fin 4224 := ⟨32 * min (12 * t.val + 12) 131 + a.val, by have := point_lt t; omega⟩

/-- The rows before a grid point's own block; before the first block, its first rows. -/
def prevRow (t : Fin cfg0.N) (a : Fin 32) : Fin 4224 := ⟨32 * (12 * t.val - 1) + a.val, by have := point_lt t; omega⟩

/-- The input's block. -/
theorem block_0 (c : Dev nD) (t : Fin cfg0.N) (a : Fin 384) (k : Fin 1024) :
    (iblk m c 0 t) (ix2 a k) = V m c main_arg0 (ix2 (row t a) k) := by
  obtain ⟨e0, e1, e2, e3, e4, e5, e6, e7, e8, -⟩ := window_blocks t
  change ((cfg0.win 0).blk t).view.read _ (V m c main_arg0) (ix2 a k) = _
  generalize V m c main_arg0 = A
  blk_point [e0, row, nextRow, prevRow]

/-- The input's rows before the block. -/
theorem block_1 (c : Dev nD) (t : Fin cfg0.N) (a : Fin 32) (k : Fin 1024) :
    (iblk m c 1 t) (ix2 a k) = V m c main_arg0 (ix2 (prevRow t a) k) := by
  obtain ⟨e0, e1, e2, e3, e4, e5, e6, e7, e8, -⟩ := window_blocks t
  change ((cfg0.win 1).blk t).view.read _ (V m c main_arg0) (ix2 a k) = _
  generalize V m c main_arg0 = A
  blk_point [e1, row, nextRow, prevRow]

/-- The convolution's output, its block. -/
theorem block_2 (c : Dev nD) (t : Fin cfg0.N) (a : Fin 384) (k : Fin 512) :
    (iblk m c 2 t) (ix2 a k) = V m c main_v81 (ix2 (row t a) k) := by
  obtain ⟨e0, e1, e2, e3, e4, e5, e6, e7, e8, -⟩ := window_blocks t
  change ((cfg0.win 2).blk t).view.read _ (V m c main_v81) (ix2 a k) = _
  generalize V m c main_v81 = A
  blk_point [e2, row, nextRow, prevRow]

/-- The convolution's output after the block. -/
theorem block_3 (c : Dev nD) (t : Fin cfg0.N) (a : Fin 32) (k : Fin 512) :
    (iblk m c 3 t) (ix2 a k) = V m c main_v81 (ix2 (nextRow t a) k) := by
  obtain ⟨e0, e1, e2, e3, e4, e5, e6, e7, e8, -⟩ := window_blocks t
  change ((cfg0.win 3).blk t).view.read _ (V m c main_v81) (ix2 a k) = _
  generalize V m c main_v81 = A
  blk_point [e3, row, nextRow, prevRow]

/-- The gradient that comes in, its block: the right half. -/
theorem block_4 (c : Dev nD) (t : Fin cfg0.N) (a : Fin 384) (k : Fin 512) :
    (iblk m c 4 t) (ix2 a k) = V m c main_arg1 (ix2 (row t a) ⟨512 + k.val, by omega⟩) := by
  obtain ⟨e0, e1, e2, e3, e4, e5, e6, e7, e8, -⟩ := window_blocks t
  change ((cfg0.win 4).blk t).view.read _ (V m c main_arg1) (ix2 a k) = _
  generalize V m c main_arg1 = A
  blk_point [e4, row, nextRow, prevRow]

/-- The gradient that comes in after the block: the right half. -/
theorem block_5 (c : Dev nD) (t : Fin cfg0.N) (a : Fin 32) (k : Fin 512) :
    (iblk m c 5 t) (ix2 a k) = V m c main_arg1 (ix2 (nextRow t a) ⟨512 + k.val, by omega⟩) := by
  obtain ⟨e0, e1, e2, e3, e4, e5, e6, e7, e8, -⟩ := window_blocks t
  change ((cfg0.win 5).blk t).view.read _ (V m c main_arg1) (ix2 a k) = _
  generalize V m c main_arg1 = A
  blk_point [e5, row, nextRow, prevRow]

/-- The taps. -/
theorem block_6 (c : Dev nD) (t : Fin cfg0.N) (a : Fin 31) (k : Fin 512) :
    (iblk m c 6 t) (ix2 a k) = V m c main_arg2 (ix2 a k) := by
  obtain ⟨e0, e1, e2, e3, e4, e5, e6, e7, e8, -⟩ := window_blocks t
  change ((cfg0.win 6).blk t).view.read _ (V m c main_arg2) (ix2 a k) = _
  generalize V m c main_arg2 = A
  blk_point [e6, row, nextRow, prevRow]

/-- The layer norm's gain. -/
theorem block_7 (c : Dev nD) (t : Fin cfg0.N) (a : Fin 1) (k : Fin 512) :
    (iblk m c 7 t) (ix2 a k) = V m c main_arg4 (ix2 a k) := by
  obtain ⟨e0, e1, e2, e3, e4, e5, e6, e7, e8, -⟩ := window_blocks t
  change ((cfg0.win 7).blk t).view.read _ (V m c main_arg4) (ix2 a k) = _
  generalize V m c main_arg4 = A
  blk_point [e7, row, nextRow, prevRow]

/-- The layer norm's offset. -/
theorem block_8 (c : Dev nD) (t : Fin cfg0.N) (a : Fin 1) (k : Fin 512) :
    (iblk m c 8 t) (ix2 a k) = V m c main_arg5 (ix2 a k) := by
  obtain ⟨e0, e1, e2, e3, e4, e5, e6, e7, e8, -⟩ := window_blocks t
  change ((cfg0.win 8).blk t).view.read _ (V m c main_arg5) (ix2 a k) = _
  generalize V m c main_arg5 = A
  blk_point [e8, row, nextRow, prevRow]

/-- The two programs have the same arguments, and these are real. -/
structure Args (c : Dev nD) (V0 : Valuation Cert.ReferenceIdeal.τ Cert.ReferenceIdeal.sig (Elt Ideal)) : Prop where
  /-- Argument 0 is the same array in both programs. -/
  same0 : V0 (Proc.devRef .tc Cert.ReferenceIdeal.main_arg0) = m ((c : Thread nD τ).loc main_arg0)
  /-- Argument 0 is real. -/
  real0 : AllReal (V0 (Proc.devRef .tc Cert.ReferenceIdeal.main_arg0))
  /-- Argument 1 is the same array in both programs. -/
  same1 : V0 (Proc.devRef .tc Cert.ReferenceIdeal.main_arg1) = m ((c : Thread nD τ).loc main_arg1)
  /-- Argument 1 is real. -/
  real1 : AllReal (V0 (Proc.devRef .tc Cert.ReferenceIdeal.main_arg1))
  /-- Argument 2 is the same array in both programs. -/
  same2 : V0 (Proc.devRef .tc Cert.ReferenceIdeal.main_arg2) = m ((c : Thread nD τ).loc main_arg2)
  /-- Argument 2 is real. -/
  real2 : AllReal (V0 (Proc.devRef .tc Cert.ReferenceIdeal.main_arg2))
  /-- Argument 3 is the same array in both programs. -/
  same3 : V0 (Proc.devRef .tc Cert.ReferenceIdeal.main_arg3) = m ((c : Thread nD τ).loc main_arg3)
  /-- Argument 3 is real. -/
  real3 : AllReal (V0 (Proc.devRef .tc Cert.ReferenceIdeal.main_arg3))
  /-- Argument 4 is the same array in both programs. -/
  same4 : V0 (Proc.devRef .tc Cert.ReferenceIdeal.main_arg4) = m ((c : Thread nD τ).loc main_arg4)
  /-- Argument 4 is real. -/
  real4 : AllReal (V0 (Proc.devRef .tc Cert.ReferenceIdeal.main_arg4))
  /-- Argument 5 is the same array in both programs. -/
  same5 : V0 (Proc.devRef .tc Cert.ReferenceIdeal.main_arg5) = m ((c : Thread nD τ).loc main_arg5)
  /-- Argument 5 is real. -/
  real5 : AllReal (V0 (Proc.devRef .tc Cert.ReferenceIdeal.main_arg5))

variable {m} {c : Dev nD} {V0 : Valuation Cert.ReferenceIdeal.τ Cert.ReferenceIdeal.sig (Elt Ideal)}

namespace Args

theorem yBlock (H : Args m c V0) (t : Fin cfg0.N) (a : Fin 384) : (fun k => (iblk m c 2 t) (ix2 a k)) = yRow V0 (row t a) :=
  funext fun k => by rw [block_2, y_eq m c V0 H.same0 H.same2 H.same3]; rfl

theorem yNext (H : Args m c V0) (t : Fin cfg0.N) (a : Fin 32) : (fun k => (iblk m c 3 t) (ix2 a k)) = yRow V0 (nextRow t a) :=
  funext fun k => by rw [block_3, y_eq m c V0 H.same0 H.same2 H.same3]; rfl

theorem dBlock (H : Args m c V0) (t : Fin cfg0.N) (a : Fin 384) : (fun k => (iblk m c 4 t) (ix2 a k)) = dRow V0 (row t a) :=
  funext fun k => by rw [block_4, V_main_arg1, ← H.same1]; rfl

theorem dNext (H : Args m c V0) (t : Fin cfg0.N) (a : Fin 32) (k : Fin 512) : (iblk m c 5 t) (ix2 a k) = dRow V0 (nextRow t a) k := by
  rw [block_5, V_main_arg1, ← H.same1]; rfl

theorem tapBlock (H : Args m c V0) (t : Fin cfg0.N) (k : Fin 31) (b : Fin 512) : (iblk m c 6 t) (ix2 k b) = tap V0 k b := by
  rw [block_6, V_main_arg2, ← H.same2]; rfl

theorem gainBlock (H : Args m c V0) (t : Fin cfg0.N) : (fun k => (iblk m c 7 t) (ix2 0 k)) = gain V0 :=
  funext fun k => by rw [block_7, V_main_arg4, ← H.same4]; rfl

theorem offsBlock (H : Args m c V0) (t : Fin cfg0.N) : (fun k => (iblk m c 8 t) (ix2 0 k)) = offs V0 :=
  funext fun k => by rw [block_8, V_main_arg5, ← H.same5]; rfl

theorem inBlock (H : Args m c V0) (t : Fin cfg0.N) (a : Fin 384) (k : Fin 1024) :
    (iblk m c 0 t) (ix2 a k) = V0 (Proc.devRef .tc Cert.ReferenceIdeal.main_arg0) (ix2 (row t a) k) := by
  rw [block_0, V_main_arg0, ← H.same0]

theorem inPrev (H : Args m c V0) (t : Fin cfg0.N) (a : Fin 32) (k : Fin 1024) :
    (iblk m c 1 t) (ix2 a k) = V0 (Proc.devRef .tc Cert.ReferenceIdeal.main_arg0) (ix2 (prevRow t a) k) := by
  rw [block_1, V_main_arg0, ← H.same0]

theorem yReal (H : Args m c V0) (r : Fin 4224) (k : Fin 512) : ∃ x : ℝ, yRow V0 r k = x := yRow_real V0 H.real0 H.real2 H.real3 r k

theorem dReal (H : Args m c V0) (r : Fin 4224) (k : Fin 512) : ∃ x : ℝ, dRow V0 r k = x := H.real1 _

theorem gainReal (H : Args m c V0) (k : Fin 512) : ∃ x : ℝ, gain V0 k = x := H.real4 _

theorem offsReal (H : Args m c V0) (k : Fin 512) : ∃ x : ℝ, offs V0 k = x := H.real5 _

/-- The gradient of the convolution's output as a grid point holds it is the reference's, zero after the last row. -/
theorem dyBlock (H : Args m c V0) (t : Fin cfg0.N) (a : Fin 416) (b : Fin 512) :
    DY (grid0.coords t 0).val (iblk m c 2 t) (iblk m c 3 t) (iblk m c 4 t) (iblk m c 5 t) (iblk m c 7 t) (iblk m c 8 t) (ix2 a b)
      = dyAt V0 (384 * t.val + a.val) b := by
  have ht := point_lt t
  unfold DY dyAt
  by_cases h : a.val < 384
  · have hq : 384 * t.val + a.val < 4224 := by omega
    rw [dif_pos hq, v146_at V0 H.yReal H.dReal H.gainReal H.offsReal]
    refine (dif_pos (show ((ix2 a b : S416x512.Idx) 0).val < 384 from h)).trans ?_
    exact congrFun (congr (congr (congrArg₂ lnBack (H.yBlock t ⟨a.val, h⟩) (H.dBlock t ⟨a.val, h⟩)) (H.gainBlock t)) (H.offsBlock t)) b
  · refine (dif_neg (show ¬((ix2 a b : S416x512.Idx) 0).val < 384 from h)).trans ?_
    rw [coord_eq]
    have h32 : a.val - 384 < 32 := by omega
    refine (congrFun (congr (congr (congrArg₂ lnBack (H.yNext t ⟨a.val - 384, h32⟩) (funext fun k => congrArg (fun x => if t.val = 10 then 0 else x) (H.dNext t ⟨a.val - 384, h32⟩ k))) (H.gainBlock t)) (H.offsBlock t)) b).trans ?_
    by_cases h10 : t.val = 10
    · simp only [if_pos h10]
      rw [dif_neg (by omega), lnBack_zero (H.yReal _) H.gainReal H.offsReal]
    · simp only [if_neg h10]
      have hq : 384 * t.val + a.val < 4224 := by omega
      rw [dif_pos hq, v146_at V0 H.yReal H.dReal H.gainReal H.offsReal]
      have e : nextRow t ⟨a.val - 384, h32⟩ = ⟨384 * t.val + a.val, hq⟩ := Fin.ext (by simp only [nextRow]; omega)
      rw [e]

/-- The gated rows as a grid point holds them, two rows on, are the reference's padded rows. -/
theorem gatedBlock (H : Args m c V0) (t : Fin cfg0.N) (a : Fin 414) (b : Fin 512) :
    gated (grid0.coords t 0).val (iblk m c 0 t) (iblk m c 1 t) (ix2 ⟨a.val + 2, by omega⟩ b)
      = Cert.ReferenceIdeal.Value.res_main_v13 V0 (ix2 ⟨384 * t.val + a.val, by have := point_lt t; omega⟩ b) := by
  have ht := point_lt t
  rw [v13_at]
  unfold gated
  by_cases h : a.val + 2 < 32
  · refine (dif_pos (show ((ix2 (⟨a.val + 2, by omega⟩ : Fin 416) b : S416x512.Idx) 0).val < 32 from h)).trans ?_
    rw [coord_eq]
    by_cases h0 : t.val = 0
    · rw [if_pos h0]
      rw [dif_pos (show (⟨384 * t.val + a.val, by omega⟩ : Fin 4254).val < 30 by change 384 * t.val + a.val < 30; omega)]
    · rw [if_neg h0]
      refine Eq.trans ?_ (dif_neg (show ¬384 * t.val + a.val < 30 by omega)).symm
      have e : prevRow t ⟨a.val + 2, h⟩ = ⟨384 * t.val + a.val - 30, by omega⟩ := Fin.ext (by simp only [prevRow]; omega)
      exact congrArg₂ (fun x z => x * logi z) ((H.inPrev t ⟨a.val + 2, h⟩ ⟨b.val, by omega⟩).trans (by rw [e])) ((H.inPrev t ⟨a.val + 2, h⟩ ⟨512 + b.val, by omega⟩).trans (by rw [e]))
  · refine (dif_neg (show ¬((ix2 (⟨a.val + 2, by omega⟩ : Fin 416) b : S416x512.Idx) 0).val < 32 from h)).trans ?_
    refine Eq.trans ?_ (dif_neg (show ¬384 * t.val + a.val < 30 by omega)).symm
    have h384 : a.val + 2 - 32 < 384 := by omega
    have e : row t ⟨a.val + 2 - 32, h384⟩ = ⟨384 * t.val + a.val - 30, by omega⟩ := Fin.ext (by simp only [row]; omega)
    exact congrArg₂ (fun x z => x * logi z) ((H.inBlock t ⟨a.val + 2 - 32, h384⟩ ⟨b.val, by omega⟩).trans (by rw [e])) ((H.inBlock t ⟨a.val + 2 - 32, h384⟩ ⟨512 + b.val, by omega⟩).trans (by rw [e]))

end Args

end Cert.KernelIdeal.Value
end
-- ==== Proof.ConvResults.lean ====
/- The results of the reference of the convolution's backward call, entry by entry. -/
module

public import proofs.«01_k».proof.Proof.ConvRef
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.ConvFormula

open Cert.ReferenceIdeal Cert.ReferenceIdeal.Gen Cert.ReferenceIdeal.Value Cert.KernelIdeal.Value Cert.Finite

variable (V0 : Valuation τ sig (Elt Ideal))

/-- The gradient of the gated half, as the reference computes it. -/
def gradGated : FVec Ideal S4224x512 .bf16 :=
  truncf .bf16 (mulf (res_main_v280 V0) (res_main_v7 V0)) bitsLt_bf16_f32

/-- The gradient of the gating half, as the reference computes it. -/
def gradGating : FVec Ideal S4224x512 .bf16 :=
  truncf .bf16 (mulf (mulf (res_main_v0 V0) (res_main_v280 V0)) (mulf (res_main_v7 V0) (subf (broadcastInDim S4224x512 ![] bcast_S_S4224x512 (constant S_ .f32 0x3F800000#32)) (res_main_v7 V0)))) bitsLt_bf16_f32

/-- The gradient of the taps, as the reference computes it. -/
def gradTaps : FVec Ideal S32x512 .f32 :=
  pad S32x512 ![0, 0] ![1, 0] ![0, 0] (Host.reduceAdd (shapeCast _ (Host.reduceAdd (mulf (res_main_v149 V0) (res_main_v79 V0)) (constant S_ .f32 0x00000000#32) reducesTo_S31x4224x512_S31x512_d1 h_S_) shapeCasts_S31x512_S31x1x512) (constant S_ .f32 0x00000000#32) reducesTo_S31x1x512_S31x512_d1 h_S_) (sitofp .f32 (constantI S_ 32 0#32)) pads_S31x512_S32x512_010_000 h_S_

/-- The gradient of the convolution's offset, as the reference computes it. -/
def gradBias : FVec Ideal S1x512 .f32 :=
  shapeCast _ (Host.reduceAdd (res_main_v146 V0) (constant S_ .f32 0x00000000#32) reducesTo_S4224x512_S512_d0 h_S_) shapeCasts_S512_S1x512

/-- The gradient of the layer norm's gain, as the reference computes it. -/
def gradGain : FVec Ideal S1x512 .f32 :=
  shapeCast _ (Host.reduceAdd (mulf (res_main_v108 V0) (res_main_v115 V0)) (constant S_ .f32 0x00000000#32) reducesTo_S4224x512_S512_d0 h_S_) shapeCasts_S512_S1x512

/-- The gradient of the layer norm's offset, as the reference computes it. -/
def gradOffs : FVec Ideal S1x512 .f32 :=
  shapeCast _ (Host.reduceAdd (res_main_v115 V0) (constant S_ .f32 0x00000000#32) reducesTo_S4224x512_S512_d0 h_S_) shapeCasts_S512_S1x512

/-- An entry of an array of two axes. -/
abbrev entry (A : FVec Ideal S4224x512 .f32) (r : Fin 4224) (b : Fin 512) : EReal := A (ix2 r b)

/-- An entry of an array of three axes. -/
abbrev entry3 (A : FVec Ideal S31x4224x512 .f32) (k : Fin 31) (r : Fin 4224) (b : Fin 512) : EReal := A (ix3 k r b)

theorem gradGated_at (r : Fin 4224) (b : Fin 512) : gradGated V0 (ix2 r b) = entry (res_main_v280 V0) r b * entry (res_main_v7 V0) r b := by
  pointwise [gradGated]

theorem gradGating_at (r : Fin 4224) (b : Fin 512) : gradGating V0 (ix2 r b)
    = entry (res_main_v0 V0) r b * entry (res_main_v280 V0) r b * (entry (res_main_v7 V0) r b * (1 - entry (res_main_v7 V0) r b)) := by
  pointwise [gradGating]

theorem gradBias_at (b : Fin 512) : gradBias V0 (ix2 0 b) = ∑ l : Fin 4224, entry (res_main_v146 V0) l b := by
  pointwise [gradBias]

theorem gradGain_at (b : Fin 512) : gradGain V0 (ix2 0 b) = ∑ l : Fin 4224, entry (res_main_v108 V0) l b * entry (res_main_v115 V0) l b := by
  pointwise [gradGain]

theorem gradOffs_at (b : Fin 512) : gradOffs V0 (ix2 0 b) = ∑ l : Fin 4224, entry (res_main_v115 V0) l b := by
  pointwise [gradOffs]

theorem gradTaps_at (z : Fin 32) (hz : z.val < 31) (b : Fin 512) :
    gradTaps V0 (ix2 z b) = ∑ l : Fin 4224, entry (res_main_v146 V0) l b * entry3 (res_main_v79 V0) ⟨z.val, hz⟩ l b := by
  pointwise [gradTaps, res_main_v149]
  rw [dif_pos hz, Fin.sum_univ_one]

theorem gradTaps_last (z : Fin 32) (hz : ¬z.val < 31) (b : Fin 512) : gradTaps V0 (ix2 z b) = 0 := by
  pointwise [gradTaps]
  rw [dif_neg hz]
  exact sitofp_zero

end Cert.ConvFormula
end
-- ==== Proof.Value1.lean ====
/- The values of `KernelIdeal`'s launch over the extended reals: the convolution's backward call. -/
module

public import proofs.«01_k».proof.Proof.Conv9A
public import proofs.«01_k».proof.Proof.Conv9B
public import proofs.«01_k».proof.Proof.Conv10A
public import proofs.«01_k».proof.Proof.Conv10B
public import proofs.«01_k».proof.Proof.ConvBlocks
public import proofs.«01_k».proof.Proof.ConvResults
public import Idealize.ShloMosaic.Lib.Pipeline.ValueKit
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.Finite Cert.ConvFormula

variable {m : (ℓ : Loc nD τ sig) → Buf (Elt Ideal) ℓ} {c : Dev nD} {V0 : Valuation Cert.ReferenceIdeal.τ Cert.ReferenceIdeal.sig (Elt Ideal)}

namespace Args

/-- The gradient in front of the gate, a grid point's block of it. -/
theorem duBlock (H : Args m c V0) (t : Fin cfg0.N) (a : Fin 384) (b : Fin 512) :
    du (iblk m c 6 t) (DY (grid0.coords t 0).val (iblk m c 2 t) (iblk m c 3 t) (iblk m c 4 t) (iblk m c 5 t) (iblk m c 7 t) (iblk m c 8 t)) a b = Cert.ReferenceIdeal.Value.res_main_v280 V0 (ix2 (row t a) b) := by
  rw [v280_at]
  unfold du
  refine Finset.sum_congr rfl fun k _ => ?_
  refine congrArg₂ (fun x z : EReal => x * z) (H.tapBlock t k b) ((H.dyBlock t ⟨a.val + 30 - k.val, by omega⟩ b).trans ?_)
  exact congrArg (fun q => dyAt V0 q b) (by simp only [row]; omega)

theorem gatedAt (H : Args m c V0) (t : Fin cfg0.N) (a : Fin 384) (b : Fin 512) :
    dca (iblk m c 0 t) (iblk m c 6 t) (DY (grid0.coords t 0).val (iblk m c 2 t) (iblk m c 3 t) (iblk m c 4 t) (iblk m c 5 t) (iblk m c 7 t) (iblk m c 8 t)) (ix2 a b) = gradGated V0 (ix2 (row t a) b) := by
  rw [gradGated_at]
  simp only [entry]
  rw [v7_at]
  exact congrArg₂ (fun x z : EReal => x * logi z) (H.duBlock t a b) (H.inBlock t a _)

theorem gatingAt (H : Args m c V0) (t : Fin cfg0.N) (a : Fin 384) (b : Fin 512) :
    dcg (iblk m c 0 t) (iblk m c 6 t) (DY (grid0.coords t 0).val (iblk m c 2 t) (iblk m c 3 t) (iblk m c 4 t) (iblk m c 5 t) (iblk m c 7 t) (iblk m c 8 t)) (ix2 a b) = gradGating V0 (ix2 (row t a) b) := by
  rw [gradGating_at]
  simp only [entry]
  rw [v7_at, v0_at]
  refine (congrArg₂ (fun (u : EReal) (p : EReal × EReal) => u * p.1 * logi p.2 * (1 - logi p.2)) (H.duBlock t a b) (Prod.ext (y := (_, _)) (x := (_, _)) (H.inBlock t a ⟨b.val, by omega⟩) (H.inBlock t a ⟨512 + b.val, by omega⟩))).trans ?_
  refine (mul_assoc (_ : EReal) _ _).trans ?_
  exact congrArg (fun x : EReal => x * _) (mul_comm (_ : EReal) _)

end Args

set_option maxHeartbeats 4000000 in
/-- The first output: the gradient of the gated half. -/
theorem final_9 (H : Args m c V0) : (dats m 0 c).arrAt 9 (cfgs 0).N = gradGated V0 := by
  refine (dats m 0 c).arrAt_eq_of_covers 9 _ (by decide +kernel) fun t hf y => ?_
  obtain ⟨-, -, -, -, -, -, -, -, -, e9, e10, -⟩ := window_blocks t
  have key := ((congrArg _ (eq_ix2 (n0 := 384) (n1 := 512) y)).trans (H.gatedAt t (y 0) (y 1))).trans (show gradGated V0 (ix2 (row t (y 0)) (y 1)) = gradGated V0 (((cfg0.win 9).blk t).view.emb y) by
    generalize gradGated V0 = A
    blk_point [e9, row])
  blk_simp
  rw [after0_9]
  by_cases h : t.val % 11 = 0
  · rw [outsAt0_A m c t h]
    dsimp only
    exact (point_9_A c t h (iblk m c 0 t) (iblk m c 1 t) (iblk m c 2 t) (iblk m c 3 t) (iblk m c 4 t) (iblk m c 5 t) (iblk m c 6 t) (iblk m c 7 t) (iblk m c 8 t) y).trans key
  · rw [outsAt0_B m c t h]
    dsimp only
    exact (point_9_B c t h (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans key

set_option maxHeartbeats 4000000 in
/-- The second output: the gradient of the gating half. -/
theorem final_10 (H : Args m c V0) : (dats m 0 c).arrAt 10 (cfgs 0).N = gradGating V0 := by
  refine (dats m 0 c).arrAt_eq_of_covers 10 _ (by decide +kernel) fun t hf y => ?_
  obtain ⟨-, -, -, -, -, -, -, -, -, e9, e10, -⟩ := window_blocks t
  have key := ((congrArg _ (eq_ix2 (n0 := 384) (n1 := 512) y)).trans (H.gatingAt t (y 0) (y 1))).trans (show gradGating V0 (ix2 (row t (y 0)) (y 1)) = gradGating V0 (((cfg0.win 10).blk t).view.emb y) by
    generalize gradGating V0 = A
    blk_point [e10, row])
  blk_simp
  rw [after0_10]
  by_cases h : t.val % 11 = 0
  · rw [outsAt0_A m c t h]
    dsimp only
    exact (point_10_A c t h (iblk m c 0 t) (iblk m c 1 t) (iblk m c 2 t) (iblk m c 3 t) (iblk m c 4 t) (iblk m c 5 t) (iblk m c 6 t) (iblk m c 7 t) (iblk m c 8 t) y).trans key
  · rw [outsAt0_B m c t h]
    dsimp only
    exact (point_10_B c t h (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans key

namespace Args

theorem lnBlock (H : Args m c V0) (t : Fin cfg0.N) (r : Fin 384) (b : Fin 512) :
    lnBack (fun k => (iblk m c 2 t) (ix2 r k)) (fun k => (iblk m c 4 t) (ix2 r k)) (fun k => (iblk m c 7 t) (ix2 0 k)) (fun k => (iblk m c 8 t) (ix2 0 k)) b
      = entry (Cert.ReferenceIdeal.Value.res_main_v146 V0) (row t r) b := by
  simp only [entry]
  rw [v146_at V0 H.yReal H.dReal H.gainReal H.offsReal]
  exact congrFun (congr (congr (congrArg₂ lnBack (H.yBlock t r) (H.dBlock t r)) (H.gainBlock t)) (H.offsBlock t)) b

theorem actBlock (H : Args m c V0) (t : Fin cfg0.N) (r : Fin 384) (b : Fin 512) :
    dln (fun k => (iblk m c 2 t) (ix2 r k)) (fun k => (iblk m c 4 t) (ix2 r k)) (fun k => (iblk m c 7 t) (ix2 0 k)) (fun k => (iblk m c 8 t) (ix2 0 k)) b
      = entry (Cert.ReferenceIdeal.Value.res_main_v115 V0) (row t r) b := by
  simp only [entry]
  rw [v115_at, ← dln_eq (H.yReal _) (H.dReal _) H.gainReal H.offsReal]
  exact congrFun (congr (congr (congrArg₂ dln (H.yBlock t r) (H.dBlock t r)) (H.gainBlock t)) (H.offsBlock t)) b

theorem gainTerm (H : Args m c V0) (t : Fin cfg0.N) (r : Fin 384) (b : Fin 512) :
    dln (fun k => (iblk m c 2 t) (ix2 r k)) (fun k => (iblk m c 4 t) (ix2 r k)) (fun k => (iblk m c 7 t) (ix2 0 k)) (fun k => (iblk m c 8 t) (ix2 0 k)) b
        * yhat (fun k => (iblk m c 2 t) (ix2 r k)) b
      = entry (Cert.ReferenceIdeal.Value.res_main_v108 V0) (row t r) b * entry (Cert.ReferenceIdeal.Value.res_main_v115 V0) (row t r) b := by
  rw [H.actBlock t r b]
  refine (mul_comm (_ : EReal) _).trans (congrArg (fun x : EReal => x * _) ?_)
  simp only [entry]
  rw [v108_at]
  exact congrArg (fun y => yhat y b) (H.yBlock t r)

theorem tapsBlock (H : Args m c V0) (t : Fin cfg0.N) (y : S32x512.Idx) :
    dwPart (DY (grid0.coords t 0).val (iblk m c 2 t) (iblk m c 3 t) (iblk m c 4 t) (iblk m c 5 t) (iblk m c 7 t) (iblk m c 8 t)) (gated (grid0.coords t 0).val (iblk m c 0 t) (iblk m c 1 t)) y
      = if h : (y 0).val < 31 then ∑ r : Fin 384, entry (Cert.ReferenceIdeal.Value.res_main_v146 V0) (row t r) (y 1) * entry3 (Cert.ReferenceIdeal.Value.res_main_v79 V0) ⟨(y 0).val, h⟩ (row t r) (y 1) else 0 := by
  unfold dwPart
  by_cases h : (y 0).val < 31
  · rw [dif_pos h, dif_pos h]
    refine Finset.sum_congr rfl fun r _ => congrArg₂ (fun x z : EReal => x * z) ((H.dyBlock t ⟨r.val, by omega⟩ (y 1)).trans ?_) ((H.gatedBlock t ⟨r.val + (y 0).val, by omega⟩ (y 1)).trans ?_)
    · exact dif_pos (row t r).isLt
    · refine Eq.trans ?_ (v79_at V0 ⟨(y 0).val, h⟩ (row t r) (y 1)).symm
      exact congrArg (fun q => Cert.ReferenceIdeal.Value.res_main_v13 V0 (ix2 q (y 1))) (Fin.ext (by simp only [row]; omega))
  · rw [dif_neg h, dif_neg h]

end Args

/-- The rows of all grid points are the rows of the array. -/
theorem sum_rows (g : Fin 4224 → EReal) : ∑ p : Fin cfg0.N, ∑ r : Fin 384, g (row p r) = ∑ l, g l :=
  Fin.sum_mul_add_congr (fun s k hl => congrArg g (Fin.ext (by simp only [row]; omega))) (by show 4224 = grid0.N * 384; rw [N_0])

set_option maxHeartbeats 4000000 in
/-- The third output: the gradient of the taps. -/
theorem final_11 (H : Args m c V0) : (dats m 0 c).arrAt 11 (cfgs 0).N = gradTaps V0 := by
  refine (dats m 0 c).arrAt_eq_of_after_last 11 t0_10 (by decide +kernel) _ fun j => ?_
  have key : gradTaps V0 (ix2 (j 0) (j 1)) = gradTaps V0 j := congrArg _ (eq_ix2 (n0 := 32) (n1 := 512) j).symm
  blk_simp
  rw [after0_11, Pipeline.eq_sum_fin_of_reset_step_apply_last (fun n h => (outsAt0 m c n h).2.2.1) 11 (fun _ => 0)
    (fun t y => if h : (y 0).val < 31 then ∑ r : Fin 384, entry (Cert.ReferenceIdeal.Value.res_main_v146 V0) (row t r) (y 1) * entry3 (Cert.ReferenceIdeal.Value.res_main_v79 V0) ⟨(y 0).val, h⟩ (row t r) (y 1) else 0)
    (fun t h j => by
      rw [outsAt0_A m c t h]
      dsimp only
      exact (point_11_A c t h (iblk m c 0 t) (iblk m c 1 t) (iblk m c 2 t) (iblk m c 3 t) (iblk m c 4 t) (iblk m c 5 t) (iblk m c 6 t) (iblk m c 7 t) (iblk m c 8 t) j).trans ((H.tapsBlock t j).trans (zero_add _).symm))
    (fun t h j => by
      rw [outsAt0_B m c t h]
      dsimp only
      exact (point_11_B c t h (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 j).trans (congrArg (fun x : EReal => _ + x) (H.tapsBlock t j)))
    (le_of_eq N_0) t0_10 rfl j, zero_add]
  by_cases h31 : (j 0).val < 31
  · simp only [dif_pos h31]
    exact (sum_rows _).trans ((gradTaps_at V0 (j 0) h31 (j 1)).symm.trans key)
  · simp only [dif_neg h31, Finset.sum_const_zero]
    exact (gradTaps_last V0 (j 0) h31 (j 1)).symm.trans key

set_option maxHeartbeats 4000000 in
/-- The fourth output: the gradient of the convolution's offset. -/
theorem final_12 (H : Args m c V0) : (dats m 0 c).arrAt 12 (cfgs 0).N = gradBias V0 := by
  refine (dats m 0 c).arrAt_eq_of_after_last 12 t0_10 (by decide +kernel) _ fun j => ?_
  have key : gradBias V0 (ix2 0 (j 1)) = gradBias V0 j := congrArg _ ((congrArg (fun a : Fin 1 => ix2 a (j 1)) (Subsingleton.elim (α := Fin 1) 0 (j 0))).trans (eq_ix2 (n0 := 1) (n1 := 512) j).symm)
  blk_simp
  rw [after0_12, Pipeline.eq_sum_fin_of_reset_step_apply_last (fun n h => (outsAt0 m c n h).2.2.2.1) 11 (fun _ => 0)
    (fun t y => ∑ r : Fin 384, entry (Cert.ReferenceIdeal.Value.res_main_v146 V0) (row t r) (y 1))
    (fun t h j => by
      rw [outsAt0_A m c t h]
      dsimp only
      exact (point_12_A c t h (iblk m c 0 t) (iblk m c 1 t) (iblk m c 2 t) (iblk m c 3 t) (iblk m c 4 t) (iblk m c 5 t) (iblk m c 6 t) (iblk m c 7 t) (iblk m c 8 t) j).trans ((Finset.sum_congr rfl fun r _ => H.lnBlock t r (j 1)).trans (zero_add _).symm))
    (fun t h j => by
      rw [outsAt0_B m c t h]
      dsimp only
      exact (point_12_B c t h (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 j).trans (congrArg (fun x : EReal => _ + x) (Finset.sum_congr rfl fun r _ => H.lnBlock t r (j 1))))
    (le_of_eq N_0) t0_10 rfl j, zero_add]
  exact (sum_rows _).trans ((gradBias_at V0 (j 1)).symm.trans key)

set_option maxHeartbeats 4000000 in
/-- The fifth output: the gradient of the layer norm's gain. -/
theorem final_13 (H : Args m c V0) : (dats m 0 c).arrAt 13 (cfgs 0).N = gradGain V0 := by
  refine (dats m 0 c).arrAt_eq_of_after_last 13 t0_10 (by decide +kernel) _ fun j => ?_
  have key : gradGain V0 (ix2 0 (j 1)) = gradGain V0 j := congrArg _ ((congrArg (fun a : Fin 1 => ix2 a (j 1)) (Subsingleton.elim (α := Fin 1) 0 (j 0))).trans (eq_ix2 (n0 := 1) (n1 := 512) j).symm)
  blk_simp
  rw [after0_13, Pipeline.eq_sum_fin_of_reset_step_apply_last (fun n h => (outsAt0 m c n h).2.2.2.2.1) 11 (fun _ => 0)
    (fun t y => ∑ r : Fin 384, entry (Cert.ReferenceIdeal.Value.res_main_v108 V0) (row t r) (y 1) * entry (Cert.ReferenceIdeal.Value.res_main_v115 V0) (row t r) (y 1))
    (fun t h j => by
      rw [outsAt0_A m c t h]
      dsimp only
      exact (point_13_A c t h (iblk m c 0 t) (iblk m c 1 t) (iblk m c 2 t) (iblk m c 3 t) (iblk m c 4 t) (iblk m c 5 t) (iblk m c 6 t) (iblk m c 7 t) (iblk m c 8 t) j).trans ((Finset.sum_congr rfl fun r _ => H.gainTerm t r (j 1)).trans (zero_add _).symm))
    (fun t h j => by
      rw [outsAt0_B m c t h]
      dsimp only
      exact (point_13_B c t h (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 j).trans (congrArg (fun x : EReal => _ + x) (Finset.sum_congr rfl fun r _ => H.gainTerm t r (j 1))))
    (le_of_eq N_0) t0_10 rfl j, zero_add]
  exact (sum_rows _).trans ((gradGain_at V0 (j 1)).symm.trans key)

set_option maxHeartbeats 4000000 in
/-- The sixth output: the gradient of the layer norm's offset. -/
theorem final_14 (H : Args m c V0) : (dats m 0 c).arrAt 14 (cfgs 0).N = gradOffs V0 := by
  refine (dats m 0 c).arrAt_eq_of_after_last 14 t0_10 (by decide +kernel) _ fun j => ?_
  have key : gradOffs V0 (ix2 0 (j 1)) = gradOffs V0 j := congrArg _ ((congrArg (fun a : Fin 1 => ix2 a (j 1)) (Subsingleton.elim (α := Fin 1) 0 (j 0))).trans (eq_ix2 (n0 := 1) (n1 := 512) j).symm)
  blk_simp
  rw [after0_14, Pipeline.eq_sum_fin_of_reset_step_apply_last (fun n h => (outsAt0 m c n h).2.2.2.2.2) 11 (fun _ => 0)
    (fun t y => ∑ r : Fin 384, entry (Cert.ReferenceIdeal.Value.res_main_v115 V0) (row t r) (y 1))
    (fun t h j => by
      rw [outsAt0_A m c t h]
      dsimp only
      exact (point_14_A c t h (iblk m c 0 t) (iblk m c 1 t) (iblk m c 2 t) (iblk m c 3 t) (iblk m c 4 t) (iblk m c 5 t) (iblk m c 6 t) (iblk m c 7 t) (iblk m c 8 t) j).trans ((Finset.sum_congr rfl fun r _ => H.actBlock t r (j 1)).trans (zero_add _).symm))
    (fun t h j => by
      rw [outsAt0_B m c t h]
      dsimp only
      exact (point_14_B c t h (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 j).trans (congrArg (fun x : EReal => _ + x) (Finset.sum_congr rfl fun r _ => H.actBlock t r (j 1))))
    (le_of_eq N_0) t0_10 rfl j, zero_add]
  exact (sum_rows _).trans ((gradOffs_at V0 (j 1)).symm.trans key)

end Cert.KernelIdeal.Value
end
-- ==== Proof.Preconditions.lean ====
/- What each precondition says of each argument: every entry is a real number. -/
module

public import proofs.«01_k».proof.Pre_all_finite
public import proofs.«01_k».proof.Pre_all_finite2
public import proofs.«01_k».proof.Pre_all_finite3
public import proofs.«01_k».proof.Pre_all_finite6
public import proofs.«01_k».proof.Proof.Finite

@[expose] public section

namespace Cert.Preconditions

open Idealize.ShloMosaic Cert.Finite

/-- `all_finite` of the arguments is one only where every entry of every argument is a real number. -/
theorem all_finite [Cert.Pre_all_finite.Facts]
    {a0 : FVec Ideal Cert.Pre_all_finite.S4224x1024 .f32}
    {a1 : FVec Ideal Cert.Pre_all_finite.S4224x1024 .f32}
    {a2 : FVec Ideal Cert.Pre_all_finite.S31x512 .f32}
    {a3 : FVec Ideal Cert.Pre_all_finite.S1x512 .f32}
    {a4 : FVec Ideal Cert.Pre_all_finite.S1x512 .f32}
    {a5 : FVec Ideal Cert.Pre_all_finite.S1x512 .f32}
    (h : Cert.Pre_all_finite.fn (F := Ideal) a0 a1 a2 a3 a4 a5 = fun _ => 1#1) :
    AllReal a0 ∧ AllReal a1 ∧ AllReal a2 ∧ AllReal a3 ∧ AllReal a4 ∧ AllReal a5 := by
  have e := congrFun h fun d => d.elim0
  dsimp only [Cert.Pre_all_finite.fn, Cert.Pre_all_finite.fn_part1] at e
  obtain ⟨e, h5⟩ := and_one e
  obtain ⟨e, h4⟩ := and_one e
  obtain ⟨e, h3⟩ := and_one e
  obtain ⟨e, h2⟩ := and_one e
  obtain ⟨e, h1⟩ := and_one e
  obtain ⟨e, h0⟩ := and_one e
  exact ⟨allReal_of_all a0 _ _ _ _ h0, allReal_of_all a1 _ _ _ _ h1, allReal_of_all a2 _ _ _ _ h2, allReal_of_all a3 _ _ _ _ h3, allReal_of_all a4 _ _ _ _ h4, allReal_of_all a5 _ _ _ _ h5⟩

/-- `all_finite2` of the arguments is one only where every entry of every argument is a real number. -/
theorem all_finite2 [Cert.Pre_all_finite2.Facts]
    {a0 : FVec Ideal Cert.Pre_all_finite2.S4224x1024 .f32}
    {a1 : FVec Ideal Cert.Pre_all_finite2.S1x2816x1024 .bf16}
    {a2 : FVec Ideal Cert.Pre_all_finite2.S4224x2816 .bf16}
    {a3 : FVec Ideal Cert.Pre_all_finite2.S4224x2816 .bf16}
    (h : Cert.Pre_all_finite2.fn (F := Ideal) a0 a1 a2 a3 = fun _ => 1#1) :
    AllReal a0 ∧ AllReal a1 ∧ AllReal a2 ∧ AllReal a3 := by
  have e := congrFun h fun d => d.elim0
  dsimp only [Cert.Pre_all_finite2.fn, Cert.Pre_all_finite2.fn_part1] at e
  obtain ⟨e, h3⟩ := and_one e
  obtain ⟨e, h2⟩ := and_one e
  obtain ⟨e, h1⟩ := and_one e
  obtain ⟨e, h0⟩ := and_one e
  exact ⟨allReal_of_all a0 _ _ _ _ h0, allReal_of_all_extf a1 _ _ _ _ _ h1, allReal_of_all_extf a2 _ _ _ _ _ h2, allReal_of_all_extf a3 _ _ _ _ _ h3⟩

/-- `all_finite3` of the arguments is one only where every entry of every argument is a real number. -/
theorem all_finite3 [Cert.Pre_all_finite3.Facts]
    {a0 : FVec Ideal Cert.Pre_all_finite3.S4224x2816 .bf16}
    {a1 : FVec Ideal Cert.Pre_all_finite3.S4224x2816 .bf16}
    {a2 : FVec Ideal Cert.Pre_all_finite3.S1x2816x1024 .bf16}
    {a3 : FVec Ideal Cert.Pre_all_finite3.S1x2816x1024 .bf16}
    {a4 : FVec Ideal Cert.Pre_all_finite3.S4224x1024 .f32}
    {a5 : FVec Ideal Cert.Pre_all_finite3.S1x1024 .f32}
    {a6 : FVec Ideal Cert.Pre_all_finite3.S4224x1024 .f32}
    (h : Cert.Pre_all_finite3.fn (F := Ideal) a0 a1 a2 a3 a4 a5 a6 = fun _ => 1#1) :
    AllReal a0 ∧ AllReal a1 ∧ AllReal a2 ∧ AllReal a3 ∧ AllReal a4 ∧ AllReal a5 ∧ AllReal a6 := by
  have e := congrFun h fun d => d.elim0
  dsimp only [Cert.Pre_all_finite3.fn, Cert.Pre_all_finite3.fn_part1, Cert.Pre_all_finite3.fn_part2] at e
  obtain ⟨e, h6⟩ := and_one e
  obtain ⟨e, h5⟩ := and_one e
  obtain ⟨e, h4⟩ := and_one e
  obtain ⟨e, h3⟩ := and_one e
  obtain ⟨e, h2⟩ := and_one e
  obtain ⟨e, h1⟩ := and_one e
  obtain ⟨e, h0⟩ := and_one e
  exact ⟨allReal_of_all_extf a0 _ _ _ _ _ h0, allReal_of_all_extf a1 _ _ _ _ _ h1, allReal_of_all_extf a2 _ _ _ _ _ h2, allReal_of_all_extf a3 _ _ _ _ _ h3, allReal_of_all a4 _ _ _ _ h4, allReal_of_all a5 _ _ _ _ h5, allReal_of_all a6 _ _ _ _ h6⟩

/-- `all_finite6` of the arguments is one only where every entry of every argument is a real number. -/
theorem all_finite6 [Cert.Pre_all_finite6.Facts]
    {a0 : FVec Ideal Cert.Pre_all_finite6.S4224x2560 .bf16}
    {a1 : FVec Ideal Cert.Pre_all_finite6.S1x1024x2560 .bf16}
    {a2 : FVec Ideal Cert.Pre_all_finite6.S4224x1024 .f32}
    {a3 : FVec Ideal Cert.Pre_all_finite6.S1x1024 .f32}
    {a4 : FVec Ideal Cert.Pre_all_finite6.S4224x1024 .f32}
    (h : Cert.Pre_all_finite6.fn (F := Ideal) a0 a1 a2 a3 a4 = fun _ => 1#1) :
    AllReal a0 ∧ AllReal a1 ∧ AllReal a2 ∧ AllReal a3 ∧ AllReal a4 := by
  have e := congrFun h fun d => d.elim0
  dsimp only [Cert.Pre_all_finite6.fn, Cert.Pre_all_finite6.fn_part1] at e
  obtain ⟨e, h4⟩ := and_one e
  obtain ⟨e, h3⟩ := and_one e
  obtain ⟨e, h2⟩ := and_one e
  obtain ⟨e, h1⟩ := and_one e
  obtain ⟨e, h0⟩ := and_one e
  exact ⟨allReal_of_all_extf a0 _ _ _ _ _ h0, allReal_of_all_extf a1 _ _ _ _ _ h1, allReal_of_all a2 _ _ _ _ h2, allReal_of_all a3 _ _ _ _ h3, allReal_of_all a4 _ _ _ _ h4⟩

end Cert.Preconditions
-- ==== Proof.Claims1.lean ====
/- The claims about `Kernel` and `Reference`: they run and leave their arguments, and their results are equal. -/
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Value1
public import proofs.«01_k».proof.Proof.Preconditions
public import Idealize.ShloMosaic.Lib.Claim

@[expose] public section

-- The printed signatures and arrays are long and are compared one by one.
set_option maxHeartbeats 10000000

noncomputable section

namespace Cert.Claims1

open Idealize.ShloMosaic Idealize.SL.Sem

/-- The two programs have the same text, so the same bodies. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) bodies_eq

theorem frame_ideal : Cert.quiescent_KernelIdeal := fun m ρ _ => Cert.KernelIdeal.Gen.frame m ρ

theorem frame_kernel : Cert.quiescent_Kernel := fun m ρ _ =>
  (congrArg (fun d => θ_run d (onTc Cert.Kernel.main) ⟨m, fun _ => 0, ρ⟩ _) defs_eq).mpr
    (Cert.KernelIdeal.Gen.frame (F := Bits) m ρ)

theorem frame_reference : Cert.quiescent_ReferenceIdeal := by
  intro m ρ _
  hlo_run
  · simp
  · exact sem_eq_zero_of_no_sems rfl _

theorem frame_ideal_pre [Cert.Pre_all_finite.Facts] : Cert.quiescent_KernelIdeal_pre_all_finite := fun m ρ _ => frame_ideal m ρ trivial

theorem frame_reference_pre [Cert.Pre_all_finite.Facts] : Cert.quiescent_ReferenceIdeal_pre_all_finite := fun m ρ _ => frame_reference m ρ trivial

/-- What the launch leaves in its six outputs, and the arguments as they were. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v82_0) = (Cert.KernelIdeal.Gen.dats m 0 c).arrAt 9 (Cert.KernelIdeal.cfgs 0).N
        ∧ r.2.mem ((c.tc : Thread Cert.KernelIdeal.nD Cert.KernelIdeal.τ).loc Cert.KernelIdeal.main_v82_1) = (Cert.KernelIdeal.Gen.dats m 0 c).arrAt 10 (Cert.KernelIdeal.cfgs 0).N
        ∧ r.2.mem ((c.tc : Thread Cert.KernelIdeal.nD Cert.KernelIdeal.τ).loc Cert.KernelIdeal.main_v82_2) = (Cert.KernelIdeal.Gen.dats m 0 c).arrAt 11 (Cert.KernelIdeal.cfgs 0).N
        ∧ r.2.mem ((c.tc : Thread Cert.KernelIdeal.nD Cert.KernelIdeal.τ).loc Cert.KernelIdeal.main_v82_3) = (Cert.KernelIdeal.Gen.dats m 0 c).arrAt 12 (Cert.KernelIdeal.cfgs 0).N
        ∧ r.2.mem ((c.tc : Thread Cert.KernelIdeal.nD Cert.KernelIdeal.τ).loc Cert.KernelIdeal.main_v82_4) = (Cert.KernelIdeal.Gen.dats m 0 c).arrAt 13 (Cert.KernelIdeal.cfgs 0).N
        ∧ r.2.mem ((c.tc : Thread Cert.KernelIdeal.nD Cert.KernelIdeal.τ).loc Cert.KernelIdeal.main_v82_5) = (Cert.KernelIdeal.Gen.dats m 0 c).arrAt 14 (Cert.KernelIdeal.cfgs 0).N
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  θ_run_mono (θ_run_and (Cert.KernelIdeal.Gen.run_main m g) (Cert.KernelIdeal.Gen.unchanged m g)) fun r h c =>
    ⟨(h.1 c).1 9, (h.1 c).1 10, (h.1 c).1 11, (h.1 c).1 12, (h.1 c).1 13, (h.1 c).1 14, h.2 c⟩

theorem algebraic [Cert.Pre_all_finite.Facts] : Cert.algebraic_KernelIdeal_ReferenceIdeal_pre_all_finite := by
  intro m g m' g' hpre hagree
  refine ⟨_, _, _, _, _, _, run_kernel m g, ?_⟩
  refine θ_run_mono (Cert.ReferenceIdeal.Value.run m' g') fun r hr c => ?_
  obtain ⟨r0, r1, r2, r3, r4, r5⟩ := Cert.Preconditions.all_finite (hpre c)
  obtain ⟨h0, h1, h2, h3, h4, h5⟩ := hagree c
  obtain ⟨e0, e1, e2, e3, e4, e5, he⟩ := hr c
  have H : Cert.KernelIdeal.Value.Args m c (StableHlo.launchContents m' c) :=
    { same0 := h0, same1 := h1, same2 := h2, same3 := h3, same4 := h4, same5 := h5
      real0 := fun i => (r0 i).imp fun x hx => (congrFun h0 i).trans hx
      real1 := fun i => (r1 i).imp fun x hx => (congrFun h1 i).trans hx
      real2 := fun i => (r2 i).imp fun x hx => (congrFun h2 i).trans hx
      real3 := fun i => (r3 i).imp fun x hx => (congrFun h3 i).trans hx
      real4 := fun i => (r4 i).imp fun x hx => (congrFun h4 i).trans hx
      real5 := fun i => (r5 i).imp fun x hx => (congrFun h5 i).trans hx }
  exact ⟨e0.trans (Cert.KernelIdeal.Value.final_9 H).symm, e1.trans (Cert.KernelIdeal.Value.final_10 H).symm,
    e2.trans (Cert.KernelIdeal.Value.final_11 H).symm, e3.trans (Cert.KernelIdeal.Value.final_12 H).symm,
    e4.trans (Cert.KernelIdeal.Value.final_13 H).symm, e5.trans (Cert.KernelIdeal.Value.final_14 H).symm, he⟩

end Cert.Claims1

end
-- ==== Proof.Value2.lean ====
/- The values of `Kernel2Ideal`'s launch over the extended reals: the arrays it leaves are the reference's formulas of the arguments. -/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Proof.Finite

@[expose] public section

set_option maxRecDepth 16384

noncomputable section

open Idealize.ShloMosaic Idealize.ShloMosaic.TcCoe Idealize.SL.Sem
open Idealize.ShloMosaic.Pipeline (Dat)
open scoped BigOperators

namespace Cert.Formula2

open Cert.Reference2Ideal Cert.Reference2Ideal.Gen

/-- The reference's result `main_v11`, of its arguments. -/
def REF_v11 (a0 : FVec Ideal Cert.Reference2Ideal.S4224x1024 .f32) (a1 : FVec Ideal Cert.Reference2Ideal.S1x2816x1024 .bf16) (a2 : FVec Ideal Cert.Reference2Ideal.S4224x2816 .bf16) (a3 : FVec Ideal Cert.Reference2Ideal.S4224x2816 .bf16) : FVec Ideal Cert.Reference2Ideal.S4224x2816 .bf16 :=
  truncf .bf16 (addf (mulf (mulf (Host.dotGeneral dot_S4224x1024_S2816x1024_S4224x2816_1_1_0_0_n_n none a0 (extf .f32 (shapeCast _ a1 shapeCasts_S1x2816x1024_S2816x1024) bitsLt_bf16_f32)) (extf .f32 a3 bitsLt_bf16_f32)) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extf .f32 a2 bitsLt_bf16_f32)))))) (mulf (mulf (extf .f32 a2 bitsLt_bf16_f32) (mulf (Host.dotGeneral dot_S4224x1024_S2816x1024_S4224x2816_1_1_0_0_n_n none a0 (extf .f32 (shapeCast _ a1 shapeCasts_S1x2816x1024_S2816x1024) bitsLt_bf16_f32)) (extf .f32 a3 bitsLt_bf16_f32))) (mulf (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extf .f32 a2 bitsLt_bf16_f32))))) (subf (broadcastInDim S4224x2816 ![] bcast_S_S4224x2816 (constant S_ .f32 0x3F800000#32)) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extf .f32 a2 bitsLt_bf16_f32))))))))) bitsLt_bf16_f32

/-- The reference's result `main_v12`, of its arguments. -/
def REF_v12 (a0 : FVec Ideal Cert.Reference2Ideal.S4224x1024 .f32) (a1 : FVec Ideal Cert.Reference2Ideal.S1x2816x1024 .bf16) (a2 : FVec Ideal Cert.Reference2Ideal.S4224x2816 .bf16) (a3 : FVec Ideal Cert.Reference2Ideal.S4224x2816 .bf16) : FVec Ideal Cert.Reference2Ideal.S4224x2816 .bf16 :=
  truncf .bf16 (mulf (mulf (extf .f32 a2 bitsLt_bf16_f32) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extf .f32 a2 bitsLt_bf16_f32)))))) (Host.dotGeneral dot_S4224x1024_S2816x1024_S4224x2816_1_1_0_0_n_n none a0 (extf .f32 (shapeCast _ a1 shapeCasts_S1x2816x1024_S2816x1024) bitsLt_bf16_f32))) bitsLt_bf16_f32

end Cert.Formula2

namespace Cert.Kernel2Ideal.Value

open Cert.Kernel2Ideal Cert.Kernel2Ideal.Gen Cert.Formula2 Cert.Finite

variable (m : (ℓ : Loc nD τ sig) → Buf (Elt Ideal) ℓ)

/-- The block that each window has at a grid point, by the grid's coordinates. -/
theorem idx : ∀ t : Fin cfg0.N, win0_0.index t = ![(grid0.coords t 0).val, 0]
    ∧ win0_1.index t = ![0, 0, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0] :=
  (by decide +kernel : ∀ t : Fin grid0.N, _)

/-- The block that each window has at a grid point, by the point's number. -/
theorem idx_val : ∀ t : Fin cfg0.N, win0_0.index t = ![t.val, 0]
    ∧ win0_1.index t = ![0, 0, 0]
    ∧ win0_2.index t = ![t.val, 0]
    ∧ win0_3.index t = ![t.val, 0]
    ∧ win0_4.index t = ![t.val, 0]
    ∧ win0_5.index t = ![t.val, 0] :=
  (by decide +kernel : ∀ t : Fin grid0.N, _)

set_option maxHeartbeats 1600000 in
/-- What a grid point stores, in 2 pieces, is the reference at the place in the array. -/
theorem point_4 (c : Dev nD)
    (r0 : AllReal (m ((c : Thread nD τ).loc main_arg0))) (r1 : AllReal (m ((c : Thread nD τ).loc main_arg1)))
    (r2 : AllReal (m ((c : Thread nD τ).loc main_arg2))) (r3 : AllReal (m ((c : Thread nD τ).loc main_arg3)))
    (t : Fin cfg0.N) (y) :
    out0_4 (iblk m c 0 t) (iblk m c 1 t) (iblk m c 2 t) (iblk m c 3 t) y
      = REF_v11 (m ((c : Thread nD τ).loc main_arg0)) (m ((c : Thread nD τ).loc main_arg1)) (m ((c : Thread nD τ).loc
        main_arg2)) (m ((c : Thread nD τ).loc main_arg3)) (((cfg0.win 4).blk t).view.emb y) := by
  canon_tiles x h; all_goals (open_payloads; pointwise [REF_v11]; refine (silu_gradient (real_sum fun k => real_mul (r0 _) (r1 _)) (r3 _) (r2 _)).trans ?_; blk_point [iblk, V, idx_val t])

theorem final_4 (c : Dev nD)
    (r0 : AllReal (m ((c : Thread nD τ).loc main_arg0))) (r1 : AllReal (m ((c : Thread nD τ).loc main_arg1)))
    (r2 : AllReal (m ((c : Thread nD τ).loc main_arg2))) (r3 : AllReal (m ((c : Thread nD τ).loc main_arg3))) :
    (dats m 0 c).arrAt 4 (cfgs 0).N = REF_v11 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point_4 m c r0 r1 r2 r3 t y

set_option maxHeartbeats 1600000 in
/-- What a grid point stores, in 2 pieces, is the reference at the place in the array. -/
theorem point_5 (c : Dev nD) (t : Fin cfg0.N) (y) :
    out0_5 (iblk m c 0 t) (iblk m c 1 t) (iblk m c 2 t) (iblk m c 3 t) y
      = REF_v12 (m ((c : Thread nD τ).loc main_arg0)) (m ((c : Thread nD τ).loc main_arg1)) (m ((c : Thread nD τ).loc
        main_arg2)) (m ((c : Thread nD τ).loc main_arg3)) (((cfg0.win 5).blk t).view.emb y) := by
  canon_tiles x h; all_goals (open_payloads; pointwise [REF_v12]; simp only [zero_sub]; blk_point [iblk, V, idx_val t])

theorem final_5 (c : Dev nD) : (dats m 0 c).arrAt 5 (cfgs 0).N = REF_v12 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point_5 m c t y

end Cert.Kernel2Ideal.Value

end
-- ==== Proof.Claims2.lean ====
/- The claims about `Kernel2` and `Reference2`: they run and leave their arguments, and their results are equal. -/
module

public import proofs.«01_k».proof.Defs
public import proofs.«01_k».proof.Proof.Gen.Kernel2
public import proofs.«01_k».proof.Proof.Gen.Kernel2Ideal.Frame
public import proofs.«01_k».proof.Proof.Gen.Reference2Ideal.Run
public import proofs.«01_k».proof.Proof.Value2
public import proofs.«01_k».proof.Proof.Preconditions
public import Idealize.ShloMosaic.Lib.Claim

@[expose] public section

noncomputable section

namespace Cert.Claims2

open Idealize.ShloMosaic Idealize.SL.Sem

/-- The two programs have the same text, so the same bodies. -/
theorem bodies_eq : Cert.Kernel2.defs₀ (F := Bits) = Cert.Kernel2Ideal.defs₀ (F := Bits) := by
  unfold Cert.Kernel2.defs₀ Cert.Kernel2Ideal.defs₀
  congr 1
  funext l a
  match l, a with
  | 0, (t, s) => rfl
  | ⟨_ + 1, h⟩, _ => exact absurd h (Nat.not_lt.2 (Nat.le_add_left _ _))

theorem defs_eq : Cert.Kernel2.defs (F := Bits) = Cert.Kernel2Ideal.defs (F := Bits) :=
  congrArg (Pipeline.defs Cert.Kernel2Ideal.pcfgs) bodies_eq

theorem frame_ideal : Cert.quiescent_Kernel2Ideal := fun m ρ _ => Cert.Kernel2Ideal.Gen.frame m ρ

theorem frame_kernel : Cert.quiescent_Kernel2 := fun m ρ _ =>
  (congrArg (fun d => θ_run d (onTc Cert.Kernel2.main) ⟨m, fun _ => 0, ρ⟩ _) defs_eq).mpr
    (Cert.Kernel2Ideal.Gen.frame (F := Bits) m ρ)

theorem frame_reference : Cert.quiescent_Reference2Ideal := by
  intro m ρ _
  hlo_run
  · simp
  · exact sem_eq_zero_of_no_sems rfl _

theorem frame_ideal_pre [Cert.Pre_all_finite2.Facts] : Cert.quiescent_Kernel2Ideal_pre_all_finite2 := fun m ρ _ => frame_ideal m ρ trivial

theorem frame_reference_pre [Cert.Pre_all_finite2.Facts] : Cert.quiescent_Reference2Ideal_pre_all_finite2 := fun m ρ _ => frame_reference m ρ trivial

theorem algebraic [Cert.Pre_all_finite2.Facts] : Cert.algebraic_Kernel2Ideal_Reference2Ideal_pre_all_finite2 := by
  pair_intro
  · run_from Cert.Kernel2Ideal.Gen.run_main m g
  · run_from Cert.Reference2Ideal.Value.run m' g'
    · obtain ⟨r0, r1, r2, r3⟩ := Cert.Preconditions.all_finite2 (hpre c)
      exact (Cert.Kernel2Ideal.Value.final_4 m c r0 r1 r2 r3).symm
    · exact (Cert.Kernel2Ideal.Value.final_5 m c).symm

end Cert.Claims2

end
-- ==== Proof.Value3.lean ====
/- The values of `Kernel3Ideal`'s launch over the extended reals: the arrays it leaves are the reference's formulas of the arguments. -/
module

public import proofs.«01_k».proof.Proof.Gen.Kernel3Ideal.Frame
public import proofs.«01_k».proof.Proof.Gen.Reference3Ideal.Run
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula3

open Cert.Reference3Ideal Cert.Reference3Ideal.Gen

/-- The reference's value `main_v47`, of its arguments. -/
def res_main_v47 (a0 : FVec Ideal Cert.Reference3Ideal.S4224x2816 .bf16) (a1 : FVec Ideal Cert.Reference3Ideal.S4224x2816 .bf16) (a2 : FVec Ideal Cert.Reference3Ideal.S1x2816x1024 .bf16) (a3 : FVec Ideal Cert.Reference3Ideal.S1x2816x1024 .bf16) (a4 : FVec Ideal Cert.Reference3Ideal.S4224x1024 .f32) (a5 : FVec Ideal Cert.Reference3Ideal.S1x1024 .f32) (a6 : FVec Ideal Cert.Reference3Ideal.S4224x1024 .f32) : FVec Ideal Cert.Reference3Ideal.S4224x1024 .f32 :=
  addf (addf (addf a6 (mulf (mulf (addf (Host.dotGeneral dot_S4224x2816_S1024x2816_S4224x1024_1_1_0_0_n_n none (extf .f32 a1 bitsLt_bf16_f32) (transpose S1024x2816 [1, 0] (extf .f32 (shapeCast _ a3 shapeCasts_S1x2816x1024_S2816x1024) bitsLt_bf16_f32) transposes_S2816x1024_S1024x2816_1_0)) (Host.dotGeneral dot_S4224x2816_S1024x2816_S4224x1024_1_1_0_0_n_n none (extf .f32 a0 bitsLt_bf16_f32) (transpose S1024x2816 [1, 0] (extf .f32 (shapeCast _ a2 shapeCasts_S1x2816x1024_S2816x1024) bitsLt_bf16_f32) transposes_S2816x1024_S1024x2816_1_0))) (broadcastInDim S4224x1024 ![0, 1] bcast_S1x1024_S4224x1024_0_1 a5)) (broadcastInDim S4224x1024 ![0, 1] bcast_S4224x1_S4224x1024_0_1 (Host.rsqrt (addf (Host.divf (broadcastInDim S4224x1 ![0] bcast_S4224_S4224x1_0 (Host.reduceAdd (mulf a4 a4) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))))))) (mulf a4 (broadcastInDim S4224x1024 ![0] bcast_S4224_S4224x1024_0 (Host.reduceAdd (Host.divf (mulf (shapeCast _ (Host.reduceAdd (mulf a4 (mulf (addf (Host.dotGeneral dot_S4224x2816_S1024x2816_S4224x1024_1_1_0_0_n_n none (extf .f32 a1 bitsLt_bf16_f32) (transpose S1024x2816 [1, 0] (extf .f32 (shapeCast _ a3 shapeCasts_S1x2816x1024_S2816x1024) bitsLt_bf16_f32) transposes_S2816x1024_S1024x2816_1_0)) (Host.dotGeneral dot_S4224x2816_S1024x2816_S4224x1024_1_1_0_0_n_n none (extf .f32 a0 bitsLt_bf16_f32) (transpose S1024x2816 [1, 0] (extf .f32 (shapeCast _ a2 shapeCasts_S1x2816x1024_S2816x1024) bitsLt_bf16_f32) transposes_S2816x1024_S1024x2816_1_0))) (broadcastInDim S4224x1024 ![0, 1] bcast_S1x1024_S4224x1024_0_1 a5))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a4 a4) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf a4 a4) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)))) (mulf (broadcastInDim S4224x1024 ![0] bcast_S4224_S4224x1024_0 (Host.reduceAdd (Host.divf (mulf (shapeCast _ (Host.reduceAdd (mulf a4 (mulf (addf (Host.dotGeneral dot_S4224x2816_S1024x2816_S4224x1024_1_1_0_0_n_n none (extf .f32 a1 bitsLt_bf16_f32) (transpose S1024x2816 [1, 0] (extf .f32 (shapeCast _ a3 shapeCasts_S1x2816x1024_S2816x1024) bitsLt_bf16_f32) transposes_S2816x1024_S1024x2816_1_0)) (Host.dotGeneral dot_S4224x2816_S1024x2816_S4224x1024_1_1_0_0_n_n none (extf .f32 a0 bitsLt_bf16_f32) (transpose S1024x2816 [1, 0] (extf .f32 (shapeCast _ a2 shapeCasts_S1x2816x1024_S2816x1024) bitsLt_bf16_f32) transposes_S2816x1024_S1024x2816_1_0))) (broadcastInDim S4224x1024 ![0, 1] bcast_S1x1024_S4224x1024_0_1 a5))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a4 a4) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf a4 a4) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)) a4)

/-- The reference's result `main_v47`, of its arguments. -/
def REF_v47 (a0 : FVec Ideal Cert.Reference3Ideal.S4224x2816 .bf16) (a1 : FVec Ideal Cert.Reference3Ideal.S4224x2816 .bf16) (a2 : FVec Ideal Cert.Reference3Ideal.S1x2816x1024 .bf16) (a3 : FVec Ideal Cert.Reference3Ideal.S1x2816x1024 .bf16) (a4 : FVec Ideal Cert.Reference3Ideal.S4224x1024 .f32) (a5 : FVec Ideal Cert.Reference3Ideal.S1x1024 .f32) (a6 : FVec Ideal Cert.Reference3Ideal.S4224x1024 .f32) : FVec Ideal Cert.Reference3Ideal.S4224x1024 .f32 :=
  (res_main_v47 a0 a1 a2 a3 a4 a5 a6)

/-- The reference's result `main_v30`, of its arguments. -/
def REF_v30 (a0 : FVec Ideal Cert.Reference3Ideal.S4224x2816 .bf16) (a1 : FVec Ideal Cert.Reference3Ideal.S4224x2816 .bf16) (a2 : FVec Ideal Cert.Reference3Ideal.S1x2816x1024 .bf16) (a3 : FVec Ideal Cert.Reference3Ideal.S1x2816x1024 .bf16) (a4 : FVec Ideal Cert.Reference3Ideal.S4224x1024 .f32) : FVec Ideal Cert.Reference3Ideal.S1x1024 .f32 :=
  shapeCast _ (Host.reduceAdd (mulf (mulf a4 (broadcastInDim S4224x1024 ![0, 1] bcast_S4224x1_S4224x1024_0_1 (Host.rsqrt (addf (Host.divf (broadcastInDim S4224x1 ![0] bcast_S4224_S4224x1_0 (Host.reduceAdd (mulf a4 a4) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (addf (Host.dotGeneral dot_S4224x2816_S1024x2816_S4224x1024_1_1_0_0_n_n none (extf .f32 a1 bitsLt_bf16_f32) (transpose S1024x2816 [1, 0] (extf .f32 (shapeCast _ a3 shapeCasts_S1x2816x1024_S2816x1024) bitsLt_bf16_f32) transposes_S2816x1024_S1024x2816_1_0)) (Host.dotGeneral dot_S4224x2816_S1024x2816_S4224x1024_1_1_0_0_n_n none (extf .f32 a0 bitsLt_bf16_f32) (transpose S1024x2816 [1, 0] (extf .f32 (shapeCast _ a2 shapeCasts_S1x2816x1024_S2816x1024) bitsLt_bf16_f32) transposes_S2816x1024_S1024x2816_1_0)))) (constant S_ .f32 0x00000000#32) reducesTo_S4224x1024_S1024_d0 h_S_) shapeCasts_S1024_S1x1024

end Cert.Formula3

namespace Cert.Kernel3Ideal.Value

open Cert.Kernel3Ideal Cert.Kernel3Ideal.Gen Cert.Formula3 Cert.Finite

variable (m : (ℓ : Loc nD τ sig) → Buf (Elt Ideal) ℓ)

/-- The block that each window has at a grid point. -/
theorem idx_val : ∀ t : Fin cfg0.N, win0_0.index t = ![t.val, 0]
    ∧ win0_1.index t = ![t.val, 0]
    ∧ win0_2.index t = ![0, 0, 0]
    ∧ win0_3.index t = ![0, 0, 0]
    ∧ win0_4.index t = ![t.val, 0]
    ∧ win0_5.index t = ![0, 0]
    ∧ win0_6.index t = ![t.val, 0]
    ∧ win0_7.index t = ![t.val, 0]
    ∧ win0_8.index t = ![0, 0] :=
  (by decide +kernel : ∀ t : Fin grid0.N, _)

/-- The sum of the two products that a point leaves in the scratch array. -/
def product (A B : FVec Ideal S352x2816 .bf16) (W V : FVec Ideal S1x2816x1024 .bf16) : FVec Ideal S352x1024 .f32 :=
  fun y => (∑ k : Fin 2816, B (ix2 (y 0) k) * V (ix3 0 k (y 1))) + ∑ k : Fin 2816, A (ix2 (y 0) k) * W (ix3 0 k (y 1))

/-- The scratch array as it is stored, in two column tiles. -/
def tiles (A B : FVec Ideal S352x2816 .bf16) (W V : FVec Ideal S1x2816x1024 .bf16) : List (View.Piece (Elt Ideal) S352x1024 .f32) :=
  [⟨Rect.unit (s := S352x1024) ![0, 512] ![352, 512] inb_S352x1024_S352x512_0_512,
        k0_pay7 (F := Ideal) A B (View.ld (Val := Elt Ideal) (e' := .bf16) W (Rect.unit (s := S1x2816x1024) ![0, 0, 512] ![1, 2816, 512] inb_S1x2816x1024_S1x2816x512_0_0_512))
          (View.ld (Val := Elt Ideal) (e' := .bf16) V (Rect.unit (s := S1x2816x1024) ![0, 0, 512] ![1, 2816, 512] inb_S1x2816x1024_S1x2816x512_0_0_512))⟩,
      ⟨Rect.unit (s := S352x1024) ![0, 0] ![352, 512] inb_S352x1024_S352x512_0_0,
        k0_pay6 (F := Ideal) A B (View.ld (Val := Elt Ideal) (e' := .bf16) W (Rect.unit (s := S1x2816x1024) ![0, 0, 0] ![1, 2816, 512] inb_S1x2816x1024_S1x2816x512_0_0_0))
          (View.ld (Val := Elt Ideal) (e' := .bf16) V (Rect.unit (s := S1x2816x1024) ![0, 0, 0] ![1, 2816, 512] inb_S1x2816x1024_S1x2816x512_0_0_0))⟩]

theorem tiles_eq (A B : FVec Ideal S352x2816 .bf16) (W V : FVec Ideal S1x2816x1024 .bf16) (y : S352x1024.Idx) :
    View.canon (Val := Elt Ideal) (tiles A B W V) y = product A B W V y := by
  unfold tiles
  canon_tiles x h
  all_goals (open_payloads; pointwise [product]; refine (add_comm (_ : EReal) _).trans ?_; blk_point [])

/-- The scratch array, stored in two column tiles, reads back as the sum of the products. -/
theorem product_readback {sp : Space} (v : View sig .tc sp S352x1024 .f32) (A B : FVec Ideal S352x2816 .bf16) (W V : FVec Ideal S1x2816x1024 .bf16) :
    v.readCov (Val := Elt Ideal)
      [⟨Rect.unit (s := S352x1024) ![0, 512] ![352, 512] inb_S352x1024_S352x512_0_512,
        k0_pay7 (F := Ideal) A B (View.ld (Val := Elt Ideal) (e' := .bf16) W (Rect.unit (s := S1x2816x1024) ![0, 0, 512] ![1, 2816, 512] inb_S1x2816x1024_S1x2816x512_0_0_512))
          (View.ld (Val := Elt Ideal) (e' := .bf16) V (Rect.unit (s := S1x2816x1024) ![0, 0, 512] ![1, 2816, 512] inb_S1x2816x1024_S1x2816x512_0_0_512))⟩,
      ⟨Rect.unit (s := S352x1024) ![0, 0] ![352, 512] inb_S352x1024_S352x512_0_0,
        k0_pay6 (F := Ideal) A B (View.ld (Val := Elt Ideal) (e' := .bf16) W (Rect.unit (s := S1x2816x1024) ![0, 0, 0] ![1, 2816, 512] inb_S1x2816x1024_S1x2816x512_0_0_0))
          (View.ld (Val := Elt Ideal) (e' := .bf16) V (Rect.unit (s := S1x2816x1024) ![0, 0, 0] ![1, 2816, 512] inb_S1x2816x1024_S1x2816x512_0_0_0))⟩]
      (Rect.unit (s := S352x1024) ![0, 0] ![352, 1024] inb_S352x1024_S352x1024_0_0).toLoadRect = product A B W V := by
  rw [View.readCov_eq_canon']
  funext y
  exact (tiles_eq A B W V _).trans (congrArg (product A B W V) (by
    funext k
    match k with
    | 0 => exact Fin.ext (by simp [LoadRect.idx, Rect.unit])
    | 1 => exact Fin.ext (by simp [LoadRect.idx, Rect.unit])))

/-- The stored row, as a formula of the blocks of the point. -/
def row (A B : FVec Ideal S352x2816 .bf16) (W V : FVec Ideal S1x2816x1024 .bf16) (X : FVec Ideal S352x1024 .f32) (G : FVec Ideal S1x1024 .f32) (H : FVec Ideal S352x1024 .f32) :
    FVec Ideal S352x1024 .f32 :=
  k0_pay3 X (product A B W V) (k0_pay8 X) (Scalar.ofBits .f32 0x44800000#32) G H

theorem row_apply {A B : FVec Ideal S352x2816 .bf16} {W V : FVec Ideal S1x2816x1024 .bf16} {X : FVec Ideal S352x1024 .f32}
    {G : FVec Ideal S1x1024 .f32} {H : FVec Ideal S352x1024 .f32} (hA : AllReal A) (hB : AllReal B) (hW : AllReal W) (hV : AllReal V)
    (hX : AllReal X) (hG : AllReal G) (hH : AllReal H) (a : Fin 352) (b : Fin 1024) :
    row A B W V X G H (ix2 a b) = normBack (fun k => X (ix2 a k))
      (fun k => (∑ l, B (ix2 a l) * V (ix3 0 l k)) + ∑ l, A (ix2 a l) * W (ix3 0 l k)) (fun k => G (ix2 0 k)) (H (ix2 a b)) b := by
  pointwise [row, k0_pay1, k0_pay2, k0_pay3, k0_pay8, product]
  exact norm_gradient (x := fun k => X (ix2 a k))
    (d := fun k => (∑ l, B (ix2 a l) * V (ix3 0 l k)) + ∑ l, A (ix2 a l) * W (ix3 0 l k)) (g := fun k => G (ix2 0 k))
    (fun _ => hX _)
    (fun _ => real_add (real_sum fun _ => real_mul (hB _) (hV _)) (real_sum fun _ => real_mul (hA _) (hW _))) (fun _ => hG _) (hH _) b

/-- The stored row is the reference's, of real arguments. -/
theorem row_eq (c : Dev nD)
    (r0 : AllReal (m ((c : Thread nD τ).loc main_arg0))) (r1 : AllReal (m ((c : Thread nD τ).loc main_arg1)))
    (r2 : AllReal (m ((c : Thread nD τ).loc main_arg2))) (r3 : AllReal (m ((c : Thread nD τ).loc main_arg3)))
    (r4 : AllReal (m ((c : Thread nD τ).loc main_arg4))) (r5 : AllReal (m ((c : Thread nD τ).loc main_arg5)))
    (r6 : AllReal (m ((c : Thread nD τ).loc main_arg6)))
    (t : Fin cfg0.N) (y : S352x1024.Idx) :
    row (iblk m c 0 t) (iblk m c 1 t) (iblk m c 2 t) (iblk m c 3 t) (iblk m c 4 t) (iblk m c 5 t) (iblk m c 6 t) y
      = REF_v47 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  have hr : row (iblk m c 0 t) (iblk m c 1 t) (iblk m c 2 t) (iblk m c 3 t) (iblk m c 4 t) (iblk m c 5 t) (iblk m c 6 t) y = _ :=
    (congrArg _ (eq_ix2 y)).trans (row_apply (fun _ => r0 _) (fun _ => r1 _) (fun _ => r2 _) (fun _ => r3 _) (fun _ => r4 _) (fun _ => r5 _)
      (fun _ => r6 _) (y 0) (y 1))
  rw [hr]
  pointwise [REF_v47, res_main_v47, normBack]
  blk_point [iblk, V, idx_val t]

/-- The first output at the first grid point. -/
theorem point_7_A (c : Dev nD) (t : Fin cfg0.N) (h0 : t.val % 12 = 0) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0
      (Memref.isWhole_whole _) ((hcond0_0 t).mpr h0) (iblk m c 0 t) (iblk m c 1 t) (iblk m c 2 t) (iblk m c 3 t) (iblk m c 4 t) (iblk m c 5 t) (iblk m c 6 t)
      = row (iblk m c 0 t) (iblk m c 1 t) (iblk m c 2 t) (iblk m c 3 t) (iblk m c 4 t) (iblk m c 5 t) (iblk m c 6 t) := by
  frame_out
  rw [product_readback]
  rfl

/-- The first output at a later grid point. -/
theorem point_7_B (c : Dev nD) (t : Fin cfg0.N) (h0 : ¬t.val % 12 = 0) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0
      (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2
      = row (iblk m c 0 t) (iblk m c 1 t) (iblk m c 2 t) (iblk m c 3 t) (iblk m c 4 t) (iblk m c 5 t) (iblk m c 6 t) := by
  frame_out
  rw [product_readback]
  rfl

theorem final_7 (c : Dev nD)
    (r0 : AllReal (m ((c : Thread nD τ).loc main_arg0))) (r1 : AllReal (m ((c : Thread nD τ).loc main_arg1)))
    (r2 : AllReal (m ((c : Thread nD τ).loc main_arg2))) (r3 : AllReal (m ((c : Thread nD τ).loc main_arg3)))
    (r4 : AllReal (m ((c : Thread nD τ).loc main_arg4))) (r5 : AllReal (m ((c : Thread nD τ).loc main_arg5)))
    (r6 : AllReal (m ((c : Thread nD τ).loc main_arg6))) :
    (dats m 0 c).arrAt 7 (cfgs 0).N = REF_v47 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp; rw [after0_7]
  by_cases h : t.val % 12 = 0
  · rw [outsAt0_A m c t h]; dsimp only; rw [point_7_A m c t h]; exact row_eq m c r0 r1 r2 r3 r4 r5 r6 t y
  · rw [outsAt0_B m c t h]; dsimp only; rw [point_7_B m c t h]; exact row_eq m c r0 r1 r2 r3 r4 r5 r6 t y

/-- The gain's sum starts at zero. -/
theorem hzero_8 (j : S1x1024.Idx) : k0_pay4 (F := Ideal) j = 0 := by
  pointwise! [k0_pay4]

/-- A point adds its rows' part to what the gain's block holds. -/
theorem hpay_8 (v22 v23 : Vec Ideal S352x1024 .f32) (v26 : FVec Ideal S352x1 .f32) (w : Ideal .f32) (v53 : Vec Ideal S1x1024 .f32) (j : S1x1024.Idx) :
    k0_pay5 v22 v23 v26 w v53 j = v53 j + k0_pay5 v22 v23 v26 w (fun _ => 0) j := by
  pointwise [k0_pay5]

theorem final_8 (c : Dev nD) :
    (dats m 0 c).arrAt 8 (cfgs 0).N = REF_v30 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_11 (by decide +kernel) _ fun j => ?_
  blk_simp
  rw [after0_8, Pipeline.eq_sum_fin_of_reset_step_apply_last (fun n h => (outsAt0 m c n h).2) 12 (fun _ => 0)
    (fun t j => k0_pay5 (F := Ideal) (iblk m c 4 t) (product (iblk m c 0 t) (iblk m c 1 t) (iblk m c 2 t) (iblk m c 3 t))
      (k0_pay8 (iblk m c 4 t)) (Scalar.ofBits .f32 0x44800000#32) (fun _ => 0) j)
    (fun t h j => by rw [outsAt0_A m c t h]; frame_out; rw [product_readback, hpay_8, hzero_8])
    (fun t h j => by rw [outsAt0_B m c t h]; frame_out; rw [product_readback, hpay_8])
    (le_of_eq N_0) t0_11 rfl j, zero_add]
  pointwise [k0_pay1, k0_pay2, k0_pay5, k0_pay8, REF_v30, product]
  refine Fin.sum_mul_add_congr fun s k hl => ?_
  blk_point [iblk, V, idx_val s]

end Cert.Kernel3Ideal.Value

end
-- ==== Proof.Claims3.lean ====
/- The claims about `Kernel3` and `Reference3`: they run and leave their arguments, and their results are equal. -/
module

public import proofs.«01_k».proof.Defs
public import proofs.«01_k».proof.Proof.Gen.Kernel3
public import proofs.«01_k».proof.Proof.Gen.Kernel3Ideal.Frame
public import proofs.«01_k».proof.Proof.Gen.Reference3Ideal.Run
public import proofs.«01_k».proof.Proof.Value3
public import proofs.«01_k».proof.Proof.Preconditions
public import Idealize.ShloMosaic.Lib.Claim

@[expose] public section

-- The printed arrays are long and are compared one by one.
set_option maxHeartbeats 10000000

noncomputable section

namespace Cert.Claims3

open Idealize.ShloMosaic Idealize.SL.Sem

/-- The two programs have the same text, so the same bodies. -/
theorem bodies_eq : Cert.Kernel3.defs₀ (F := Bits) = Cert.Kernel3Ideal.defs₀ (F := Bits) := by
  unfold Cert.Kernel3.defs₀ Cert.Kernel3Ideal.defs₀
  congr 1
  funext l a
  match l, a with
  | 0, (t, s) => rfl
  | ⟨_ + 1, h⟩, _ => exact absurd h (Nat.not_lt.2 (Nat.le_add_left _ _))

theorem defs_eq : Cert.Kernel3.defs (F := Bits) = Cert.Kernel3Ideal.defs (F := Bits) :=
  congrArg (Pipeline.defs Cert.Kernel3Ideal.pcfgs) bodies_eq

theorem frame_ideal : Cert.quiescent_Kernel3Ideal := fun m ρ _ => Cert.Kernel3Ideal.Gen.frame m ρ

theorem frame_kernel : Cert.quiescent_Kernel3 := fun m ρ _ =>
  (congrArg (fun d => θ_run d (onTc Cert.Kernel3.main) ⟨m, fun _ => 0, ρ⟩ _) defs_eq).mpr
    (Cert.Kernel3Ideal.Gen.frame (F := Bits) m ρ)

theorem frame_reference : Cert.quiescent_Reference3Ideal := by
  intro m ρ _
  hlo_run
  · simp
  · exact sem_eq_zero_of_no_sems rfl _

theorem frame_ideal_pre [Cert.Pre_all_finite3.Facts] : Cert.quiescent_Kernel3Ideal_pre_all_finite3 := fun m ρ _ => frame_ideal m ρ trivial

theorem frame_reference_pre [Cert.Pre_all_finite3.Facts] : Cert.quiescent_Reference3Ideal_pre_all_finite3 := fun m ρ _ => frame_reference m ρ trivial

theorem algebraic [Cert.Pre_all_finite3.Facts] : Cert.algebraic_Kernel3Ideal_Reference3Ideal_pre_all_finite3 := by
  pair_intro
  · run_from Cert.Kernel3Ideal.Gen.run_main m g
  · refine θ_run_mono (Cert.Reference3Ideal.Value.run m' g') fun r hr c => ?_
    obtain ⟨r0, r1, r2, r3, r4, r5, r6⟩ := Cert.Preconditions.all_finite3 (hpre c)
    obtain ⟨h0, h1, h2, h3, h4, h5, h6⟩ := hagree c
    obtain ⟨e0, e1, he⟩ := hr c
    refine ⟨e0.trans ?_, e1.trans ?_, he⟩
    · refine Eq.trans ?_ (Cert.Kernel3Ideal.Value.final_7 m c r0 r1 r2 r3 r4 r5 r6).symm
      rw [← h0, ← h1, ← h2, ← h3, ← h4, ← h5, ← h6]
      rfl
    · refine Eq.trans ?_ (Cert.Kernel3Ideal.Value.final_8 m c).symm
      rw [← h0, ← h1, ← h2, ← h3, ← h4]
      rfl

end Cert.Claims3

end
-- ==== Proof.Value4.lean ====
/- The values of `Kernel4Ideal`'s launch over the extended reals: the arrays it leaves are the reference's formulas of the arguments. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula4

open Cert.Reference4Ideal Cert.Reference4Ideal.Gen

/-- The reference's result `main_v7`, of its arguments. -/
def REF (a0 : FVec Ideal Cert.Reference4Ideal.S4224x2816 .bf16) (a1 : FVec Ideal Cert.Reference4Ideal.S4224x1024 .bf16) : FVec Ideal Cert.Reference4Ideal.S2816x1024 .f32 :=
  transpose S2816x1024 [1, 0] (transpose S1024x2816 [1, 0] (Host.dotGeneral dot_S4224x2816_S4224x1024_S2816x1024_0_0_1_1_n_n none (extf .f32 a0 bitsLt_bf16_f32) (extf .f32 a1 bitsLt_bf16_f32)) transposes_S2816x1024_S1024x2816_1_0) transposes_S1024x2816_S2816x1024_1_0

end Cert.Formula4

namespace Cert.Kernel4Ideal.Value

open Cert.Kernel4Ideal Cert.Kernel4Ideal.Gen Cert.Formula4

variable (m : (ℓ : Loc nD τ sig) → Buf (Elt Ideal) ℓ)

/-- The block that each window has at a grid point, by the grid's coordinates. -/
theorem idx : ∀ t : Fin cfg0.N, win0_0.index t = ![(grid0.coords t 2).val, (grid0.coords t 0).val]
    ∧ win0_1.index t = ![(grid0.coords t 2).val, 0]
    ∧ win0_2.index t = ![(grid0.coords t 0).val, 0] :=
  (by decide +kernel : ∀ t : Fin grid0.N, _)

/-- The block that each window has at a grid point, by the point's number. -/
theorem idx_val : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The sum starts at zero. -/
theorem hzero (j : S1408x1024.Idx) : k0_pay1 (F := Ideal) j = 0 := by
  pointwise! [k0_pay1]

/-- What is stored is what the block held and a part added to it. -/
theorem hpay (v3 : Vec Ideal S1408x1024 .f32) (v5 : Vec Ideal S1056x1408 .bf16) (v6 : Vec Ideal S1056x1024 .bf16) (j : S1408x1024.Idx) :
    k0_pay2 v3 v5 v6 j = v3 j + k0_pay2 (fun _ => 0) v5 v6 j := by
  pointwise [k0_pay2]

/-- The result array after the run: the sum of the parts of the grid points. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF]; refine Fin.sum_mul_add_congr fun s k hl => ?_; blk_point [iblk, V, idx_val t, idx_val ⟨_, Pipeline.run_point_lt_of_flush t ((flush0_2 t).mp hf) s⟩]

end Cert.Kernel4Ideal.Value

end
-- ==== Proof.Claims4.lean ====
/- The claims about `Kernel4` and `Reference4`: they run and leave their arguments, and their results are equal. -/
module

public import proofs.«01_k».proof.Defs
public import proofs.«01_k».proof.Proof.Gen.Kernel4
public import proofs.«01_k».proof.Proof.Gen.Kernel4Ideal.Frame
public import proofs.«01_k».proof.Proof.Gen.Reference4Ideal.Run
public import proofs.«01_k».proof.Proof.Value4
public import Idealize.ShloMosaic.Lib.Claim

@[expose] public section

noncomputable section

namespace Cert.Claims4

open Idealize.ShloMosaic Idealize.SL.Sem

/-- The two programs have the same text, so the same bodies. -/
theorem bodies_eq : Cert.Kernel4.defs₀ (F := Bits) = Cert.Kernel4Ideal.defs₀ (F := Bits) := by
  unfold Cert.Kernel4.defs₀ Cert.Kernel4Ideal.defs₀
  congr 1
  funext l a
  match l, a with
  | 0, (t, s) => rfl
  | ⟨_ + 1, h⟩, _ => exact absurd h (Nat.not_lt.2 (Nat.le_add_left _ _))

theorem defs_eq : Cert.Kernel4.defs (F := Bits) = Cert.Kernel4Ideal.defs (F := Bits) :=
  congrArg (Pipeline.defs Cert.Kernel4Ideal.pcfgs) bodies_eq

theorem frame_ideal : Cert.quiescent_Kernel4Ideal := fun m ρ _ => Cert.Kernel4Ideal.Gen.frame m ρ

theorem frame_kernel : Cert.quiescent_Kernel4 := fun m ρ _ =>
  (congrArg (fun d => θ_run d (onTc Cert.Kernel4.main) ⟨m, fun _ => 0, ρ⟩ _) defs_eq).mpr
    (Cert.Kernel4Ideal.Gen.frame (F := Bits) m ρ)

theorem frame_reference : Cert.quiescent_Reference4Ideal := by
  intro m ρ _
  hlo_run
  · simp
  · exact sem_eq_zero_of_no_sems rfl _

theorem algebraic : Cert.algebraic_Kernel4Ideal_Reference4Ideal := by
  pair_intro
  · run_from Cert.Kernel4Ideal.Gen.run_main m g
  · run_from Cert.Reference4Ideal.Value.run m' g'
    · exact (Cert.Kernel4Ideal.Value.final m c).symm

end Cert.Claims4

end
-- ==== Proof.Value5.lean ====
/- The values of `Kernel5Ideal`'s launch over the extended reals: the arrays it leaves are the reference's formulas of the arguments. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula5

open Cert.Reference5Ideal Cert.Reference5Ideal.Gen

/-- The reference's result `main_v4`, of its arguments. -/
def REF (a0 : FVec Ideal Cert.Reference5Ideal.S4224x2816 .bf16) (a1 : FVec Ideal Cert.Reference5Ideal.S4224x1024 .f32) : FVec Ideal Cert.Reference5Ideal.S2816x1024 .f32 :=
  transpose S2816x1024 [1, 0] (Host.dotGeneral dot_S4224x1024_S4224x2816_S1024x2816_0_0_1_1_n_n none a1 (extf .f32 a0 bitsLt_bf16_f32)) transposes_S1024x2816_S2816x1024_1_0

end Cert.Formula5

namespace Cert.Kernel5Ideal.Value

open Cert.Kernel5Ideal Cert.Kernel5Ideal.Gen Cert.Formula5

variable (m : (ℓ : Loc nD τ sig) → Buf (Elt Ideal) ℓ)

/-- The block that each window has at a grid point, by the grid's coordinates. -/
theorem idx : ∀ t : Fin cfg0.N, win0_0.index t = ![(grid0.coords t 2).val, (grid0.coords t 0).val]
    ∧ win0_1.index t = ![(grid0.coords t 2).val, 0]
    ∧ win0_2.index t = ![(grid0.coords t 0).val, 0] :=
  (by decide +kernel : ∀ t : Fin grid0.N, _)

/-- The block that each window has at a grid point, by the point's number. -/
theorem idx_val : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The sum starts at zero. -/
theorem hzero (j : S1408x1024.Idx) : k0_pay1 (F := Ideal) j = 0 := by
  pointwise! [k0_pay1]

/-- What is stored is what the block held and a part added to it. -/
theorem hpay (v3 : Vec Ideal S1408x1024 .f32) (v5 : Vec Ideal S1056x1408 .bf16) (v6 : Vec Ideal S1056x1024 .f32) (j : S1408x1024.Idx) :
    k0_pay2 v3 v5 v6 j = v3 j + k0_pay2 (fun _ => 0) v5 v6 j := by
  pointwise [k0_pay2]

/-- The result array after the run: the sum of the parts of the grid points. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF]; refine Fin.sum_mul_add_congr fun s k hl => (mul_comm (_ : EReal) _).trans ?_; blk_point [iblk, V, idx_val t, idx_val ⟨_, Pipeline.run_point_lt_of_flush t ((flush0_2 t).mp hf) s⟩]

end Cert.Kernel5Ideal.Value

end
-- ==== Proof.Claims5.lean ====
/- The claims about `Kernel5` and `Reference5`: they run and leave their arguments, and their results are equal. -/
module

public import proofs.«01_k».proof.Defs
public import proofs.«01_k».proof.Proof.Gen.Kernel5
public import proofs.«01_k».proof.Proof.Gen.Kernel5Ideal.Frame
public import proofs.«01_k».proof.Proof.Gen.Reference5Ideal.Run
public import proofs.«01_k».proof.Proof.Value5
public import Idealize.ShloMosaic.Lib.Claim

@[expose] public section

noncomputable section

namespace Cert.Claims5

open Idealize.ShloMosaic Idealize.SL.Sem

/-- The two programs have the same text, so the same bodies. -/
theorem bodies_eq : Cert.Kernel5.defs₀ (F := Bits) = Cert.Kernel5Ideal.defs₀ (F := Bits) := by
  unfold Cert.Kernel5.defs₀ Cert.Kernel5Ideal.defs₀
  congr 1
  funext l a
  match l, a with
  | 0, (t, s) => rfl
  | ⟨_ + 1, h⟩, _ => exact absurd h (Nat.not_lt.2 (Nat.le_add_left _ _))

theorem defs_eq : Cert.Kernel5.defs (F := Bits) = Cert.Kernel5Ideal.defs (F := Bits) :=
  congrArg (Pipeline.defs Cert.Kernel5Ideal.pcfgs) bodies_eq

theorem frame_ideal : Cert.quiescent_Kernel5Ideal := fun m ρ _ => Cert.Kernel5Ideal.Gen.frame m ρ

theorem frame_kernel : Cert.quiescent_Kernel5 := fun m ρ _ =>
  (congrArg (fun d => θ_run d (onTc Cert.Kernel5.main) ⟨m, fun _ => 0, ρ⟩ _) defs_eq).mpr
    (Cert.Kernel5Ideal.Gen.frame (F := Bits) m ρ)

theorem frame_reference : Cert.quiescent_Reference5Ideal := by
  intro m ρ _
  hlo_run
  · simp
  · exact sem_eq_zero_of_no_sems rfl _

theorem algebraic : Cert.algebraic_Kernel5Ideal_Reference5Ideal := by
  pair_intro
  · run_from Cert.Kernel5Ideal.Gen.run_main m g
  · run_from Cert.Reference5Ideal.Value.run m' g'
    · exact (Cert.Kernel5Ideal.Value.final m c).symm

end Cert.Claims5

end
-- ==== Proof.Value6.lean ====
/- The values of `Kernel6Ideal`'s launch over the extended reals: the arrays it leaves are the reference's formulas of the arguments. -/
module

public import proofs.«01_k».proof.Proof.Gen.Kernel6Ideal.Frame
public import proofs.«01_k».proof.Proof.Gen.Reference6Ideal.Run
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula6

open Cert.Reference6Ideal Cert.Reference6Ideal.Gen

/-- The reference's value `main_v39`, of its arguments. -/
def res_main_v39 (a0 : FVec Ideal Cert.Reference6Ideal.S4224x2560 .bf16) (a1 : FVec Ideal Cert.Reference6Ideal.S1x1024x2560 .bf16) (a2 : FVec Ideal Cert.Reference6Ideal.S4224x1024 .f32) (a3 : FVec Ideal Cert.Reference6Ideal.S1x1024 .f32) (a4 : FVec Ideal Cert.Reference6Ideal.S4224x1024 .f32) : FVec Ideal Cert.Reference6Ideal.S4224x1024 .f32 :=
  addf (addf (addf a4 (mulf (mulf (Host.dotGeneral dot_S4224x2560_S1024x2560_S4224x1024_1_1_0_0_n_n none (extf .f32 a0 bitsLt_bf16_f32) (extf .f32 (shapeCast _ a1 shapeCasts_S1x1024x2560_S1024x2560) bitsLt_bf16_f32)) (broadcastInDim S4224x1024 ![0, 1] bcast_S1x1024_S4224x1024_0_1 a3)) (broadcastInDim S4224x1024 ![0, 1] bcast_S4224x1_S4224x1024_0_1 (Host.rsqrt (addf (Host.divf (broadcastInDim S4224x1 ![0] bcast_S4224_S4224x1_0 (Host.reduceAdd (mulf a2 a2) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))))))) (mulf a2 (broadcastInDim S4224x1024 ![0] bcast_S4224_S4224x1024_0 (Host.reduceAdd (Host.divf (mulf (shapeCast _ (Host.reduceAdd (mulf a2 (mulf (Host.dotGeneral dot_S4224x2560_S1024x2560_S4224x1024_1_1_0_0_n_n none (extf .f32 a0 bitsLt_bf16_f32) (extf .f32 (shapeCast _ a1 shapeCasts_S1x1024x2560_S1024x2560) bitsLt_bf16_f32)) (broadcastInDim S4224x1024 ![0, 1] bcast_S1x1024_S4224x1024_0_1 a3))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a2 a2) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf a2 a2) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)))) (mulf (broadcastInDim S4224x1024 ![0] bcast_S4224_S4224x1024_0 (Host.reduceAdd (Host.divf (mulf (shapeCast _ (Host.reduceAdd (mulf a2 (mulf (Host.dotGeneral dot_S4224x2560_S1024x2560_S4224x1024_1_1_0_0_n_n none (extf .f32 a0 bitsLt_bf16_f32) (extf .f32 (shapeCast _ a1 shapeCasts_S1x1024x2560_S1024x2560) bitsLt_bf16_f32)) (broadcastInDim S4224x1024 ![0, 1] bcast_S1x1024_S4224x1024_0_1 a3))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a2 a2) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf a2 a2) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)) a2)

/-- The reference's result `main_v39`, of its arguments. -/
def REF_v39 (a0 : FVec Ideal Cert.Reference6Ideal.S4224x2560 .bf16) (a1 : FVec Ideal Cert.Reference6Ideal.S1x1024x2560 .bf16) (a2 : FVec Ideal Cert.Reference6Ideal.S4224x1024 .f32) (a3 : FVec Ideal Cert.Reference6Ideal.S1x1024 .f32) (a4 : FVec Ideal Cert.Reference6Ideal.S4224x1024 .f32) : FVec Ideal Cert.Reference6Ideal.S4224x1024 .f32 :=
  (res_main_v39 a0 a1 a2 a3 a4)

/-- The reference's result `main_v22`, of its arguments. -/
def REF_v22 (a0 : FVec Ideal Cert.Reference6Ideal.S4224x2560 .bf16) (a1 : FVec Ideal Cert.Reference6Ideal.S1x1024x2560 .bf16) (a2 : FVec Ideal Cert.Reference6Ideal.S4224x1024 .f32) : FVec Ideal Cert.Reference6Ideal.S1x1024 .f32 :=
  shapeCast _ (Host.reduceAdd (mulf (mulf a2 (broadcastInDim S4224x1024 ![0, 1] bcast_S4224x1_S4224x1024_0_1 (Host.rsqrt (addf (Host.divf (broadcastInDim S4224x1 ![0] bcast_S4224_S4224x1_0 (Host.reduceAdd (mulf a2 a2) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (Host.dotGeneral dot_S4224x2560_S1024x2560_S4224x1024_1_1_0_0_n_n none (extf .f32 a0 bitsLt_bf16_f32) (extf .f32 (shapeCast _ a1 shapeCasts_S1x1024x2560_S1024x2560) bitsLt_bf16_f32))) (constant S_ .f32 0x00000000#32) reducesTo_S4224x1024_S1024_d0 h_S_) shapeCasts_S1024_S1x1024

end Cert.Formula6

namespace Cert.Kernel6Ideal.Value

open Cert.Kernel6Ideal Cert.Kernel6Ideal.Gen Cert.Formula6 Cert.Finite

variable (m : (ℓ : Loc nD τ sig) → Buf (Elt Ideal) ℓ)

/-- The block that each window has at a grid point, by the grid's coordinates. -/
theorem idx : ∀ t : Fin cfg0.N, win0_0.index t = ![(grid0.coords t 0).val, 0]
    ∧ win0_1.index t = ![0, 0, 0]
    ∧ win0_2.index t = ![(grid0.coords t 0).val, 0]
    ∧ win0_3.index t = ![0, 0]
    ∧ win0_4.index t = ![(grid0.coords t 0).val, 0]
    ∧ win0_5.index t = ![(grid0.coords t 0).val, 0]
    ∧ win0_6.index t = ![0, 0] :=
  (by decide +kernel : ∀ t : Fin grid0.N, _)

/-- The block that each window has at a grid point, by the point's number. -/
theorem idx_val : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- What the product leaves in the scratch array, as one formula of its two arguments. -/
def product (A : FVec Ideal S352x2560 .bf16) (W : FVec Ideal S1x1024x2560 .bf16) : FVec Ideal S352x1024 .f32 :=
  fun y => ∑ k : Fin 2560, A (ix2 (y 0) k) * W (ix3 0 (y 1) k)

/-- The scratch array, stored in two column tiles, reads back as the product. -/
theorem product_readback {sp : Space} (v : View sig .tc sp S352x1024 .f32) (A : FVec Ideal S352x2560 .bf16) (W : FVec Ideal S1x1024x2560 .bf16) :
    v.readCov (Val := Elt Ideal)
      [⟨Rect.unit (s := S352x1024) ![0, 512] ![352, 512] inb_S352x1024_S352x512_0_512,
          k0_pay5 (F := Ideal) A (View.ld (Val := Elt Ideal) (e' := .bf16) W (Rect.unit (s := S1x1024x2560) ![0, 512, 0] ![1, 512, 2560] inb_S1x1024x2560_S1x512x2560_0_512_0))⟩,
        ⟨Rect.unit (s := S352x1024) ![0, 0] ![352, 512] inb_S352x1024_S352x512_0_0,
          k0_pay4 (F := Ideal) A (View.ld (Val := Elt Ideal) (e' := .bf16) W (Rect.unit (s := S1x1024x2560) ![0, 0, 0] ![1, 512, 2560] inb_S1x1024x2560_S1x512x2560_0_0_0))⟩]
      (Rect.unit (s := S352x1024) ![0, 0] ![352, 1024] inb_S352x1024_S352x1024_0_0).toLoadRect = product A W := by
  rw [View.readCov_eq_canon']
  have e : ∀ y, View.canon (Val := Elt Ideal) ([⟨Rect.unit (s := S352x1024) ![0, 512] ![352, 512] inb_S352x1024_S352x512_0_512,
                k0_pay5 (F := Ideal) A (View.ld (Val := Elt Ideal) (e' := .bf16) W (Rect.unit (s := S1x1024x2560) ![0, 512, 0] ![1, 512, 2560] inb_S1x1024x2560_S1x512x2560_0_512_0))⟩,
              ⟨Rect.unit (s := S352x1024) ![0, 0] ![352, 512] inb_S352x1024_S352x512_0_0,
                k0_pay4 (F := Ideal) A (View.ld (Val := Elt Ideal) (e' := .bf16) W (Rect.unit (s := S1x1024x2560) ![0, 0, 0] ![1, 512, 2560] inb_S1x1024x2560_S1x512x2560_0_0_0))⟩] : List (View.Piece (Elt Ideal) S352x1024 .f32)) y = product A W y := by
    intro y
    canon_tiles x h
    all_goals (open_payloads; pointwise [product]; blk_point [])
  funext y
  exact (e _).trans (congrArg (product A W) (by
    funext k
    match k with
    | 0 => exact Fin.ext (by simp [LoadRect.idx, Rect.unit])
    | 1 => exact Fin.ext (by simp [LoadRect.idx, Rect.unit])))

/-- The stored row, as a formula of the blocks of the point. -/
def row (A : FVec Ideal S352x2560 .bf16) (W : FVec Ideal S1x1024x2560 .bf16) (X : FVec Ideal S352x1024 .f32) (G : FVec Ideal S1x1024 .f32)
    (H : FVec Ideal S352x1024 .f32) : FVec Ideal S352x1024 .f32 :=
  k0_pay1 (k0_pay6 X) (k0_pay7 X) (k0_pay8 (product A W) G) H (k0_pay9 X (product A W) G)

theorem row_apply {A : FVec Ideal S352x2560 .bf16} {W : FVec Ideal S1x1024x2560 .bf16} {X : FVec Ideal S352x1024 .f32} {G : FVec Ideal S1x1024 .f32}
    {H : FVec Ideal S352x1024 .f32} (hA : AllReal A) (hW : AllReal W) (hX : AllReal X) (hG : AllReal G) (hH : AllReal H) (a : Fin 352) (b : Fin 1024) :
    row A W X G H (ix2 a b) = normBack (fun k => X (ix2 a k)) (fun k => ∑ l, A (ix2 a l) * W (ix3 0 k l)) (fun k => G (ix2 0 k)) (H (ix2 a b)) b := by
  pointwise [row, k0_pay1, k0_pay6, k0_pay7, k0_pay8, k0_pay9, product]
  exact norm_gradient (x := fun k => X (ix2 a k)) (d := fun k => ∑ l, A (ix2 a l) * W (ix3 0 k l)) (g := fun k => G (ix2 0 k))
    (fun _ => hX _) (fun _ => real_sum fun _ => real_mul (hA _) (hW _)) (fun _ => hG _) (hH _) b

/-- The stored row is the reference's, of real arguments. -/
theorem row_eq (c : Dev nD)
    (r0 : AllReal (m ((c : Thread nD τ).loc main_arg0))) (r1 : AllReal (m ((c : Thread nD τ).loc main_arg1)))
    (r2 : AllReal (m ((c : Thread nD τ).loc main_arg2))) (r3 : AllReal (m ((c : Thread nD τ).loc main_arg3)))
    (r4 : AllReal (m ((c : Thread nD τ).loc main_arg4)))
    (t : Fin cfg0.N) (y : S352x1024.Idx) :
    row (iblk m c 0 t) (iblk m c 1 t) (iblk m c 2 t) (iblk m c 3 t) (iblk m c 4 t) y
      = REF_v39 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hr : row (iblk m c 0 t) (iblk m c 1 t) (iblk m c 2 t) (iblk m c 3 t) (iblk m c 4 t) y = _ :=
    (congrArg _ (eq_ix2 y)).trans (row_apply (fun _ => r0 _) (fun _ => r1 _) (fun _ => r2 _) (fun _ => r3 _) (fun _ => r4 _) (y 0) (y 1))
  rw [hr]
  pointwise [REF_v39, res_main_v39, normBack]
  blk_point [iblk, V, idx_val t]

/-- The first output at the first grid point. -/
theorem point_5_A (c : Dev nD) (t : Fin cfg0.N) (h0 : t.val % 12 = 0) :
    out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) ((hcond0_0 t).mpr h0)
      (iblk m c 0 t) (iblk m c 1 t) (iblk m c 2 t) (iblk m c 3 t) (iblk m c 4 t)
      = row (iblk m c 0 t) (iblk m c 1 t) (iblk m c 2 t) (iblk m c 3 t) (iblk m c 4 t) := by
  frame_out
  rw [product_readback]
  rfl

/-- The first output at a later grid point. -/
theorem point_5_B (c : Dev nD) (t : Fin cfg0.N) (h0 : ¬t.val % 12 = 0) :
    out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (fun h => h0
      ((hcond0_0 t).mp h)) (iblk m c 0 t) (iblk m c 1 t) (iblk m c 2 t) (iblk m c 3 t) (iblk m c 4 t) (outsAt0 m c
      (t.val - 1) (Nat.lt_of_le_of_lt (Nat.sub_le _ _) t.isLt)).2
      = row (iblk m c 0 t) (iblk m c 1 t) (iblk m c 2 t) (iblk m c 3 t) (iblk m c 4 t) := by
  frame_out
  rw [product_readback]
  rfl

theorem final_5 (c : Dev nD)
    (r0 : AllReal (m ((c : Thread nD τ).loc main_arg0))) (r1 : AllReal (m ((c : Thread nD τ).loc main_arg1)))
    (r2 : AllReal (m ((c : Thread nD τ).loc main_arg2))) (r3 : AllReal (m ((c : Thread nD τ).loc main_arg3)))
    (r4 : AllReal (m ((c : Thread nD τ).loc main_arg4))) :
    (dats m 0 c).arrAt 5 (cfgs 0).N = REF_v39 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 12 = 0
  · rw [outsAt0_A m c t h]; dsimp only; rw [point_5_A m c t h]; exact row_eq m c r0 r1 r2 r3 r4 t y
  · rw [outsAt0_B m c t h]; dsimp only; rw [point_5_B m c t h]; exact row_eq m c r0 r1 r2 r3 r4 t y

/-- The gain's sum starts at zero. -/
theorem hzero_6 (j : S1x1024.Idx) : k0_pay2 (F := Ideal) j = 0 := by
  pointwise! [k0_pay2]

/-- A point adds its rows' part to what the gain's block holds. -/
theorem hpay_6 (v14 : Vec Ideal S352x1024 .f32) (v24 : FVec Ideal S352x1024 .f32) (v44 : Vec Ideal S1x1024 .f32) (j : S1x1024.Idx) :
    k0_pay3 v14 v24 v44 j = v44 j + k0_pay3 v14 v24 (fun _ => 0) j := by
  pointwise [k0_pay3]

theorem final_6 (c : Dev nD) :
    (dats m 0 c).arrAt 6 (cfgs 0).N = REF_v22 (m ((c : Thread nD τ).loc main_arg0)) (m ((c : Thread nD τ).loc main_arg1)) (m ((c : Thread nD τ).loc main_arg2)) := by
  refine (dats m 0 c).arrAt_eq_of_after_last 6 t0_11 (by decide +kernel) _ fun j => ?_
  blk_simp
  rw [after0_6, Pipeline.eq_sum_fin_of_reset_step_apply_last (fun n h => (outsAt0 m c n h).2) 12 (fun _ => 0)
    (fun t j => k0_pay3 (F := Ideal) (product (iblk m c 0 t) (iblk m c 1 t)) (k0_pay7 (iblk m c 2 t)) (fun _ => 0) j)
    (fun t h j => by rw [outsAt0_A m c t h]; frame_out; rw [product_readback, hpay_6, hzero_6])
    (fun t h j => by rw [outsAt0_B m c t h]; frame_out; rw [product_readback, hpay_6])
    (le_of_eq N_0) t0_11 rfl j, zero_add]
  pointwise [k0_pay3, k0_pay6, k0_pay7, k0_pay8, k0_pay9, REF_v22, product]
  refine Fin.sum_mul_add_congr fun s k hl => ?_
  blk_point [iblk, V, idx_val s]

end Cert.Kernel6Ideal.Value

end
-- ==== Proof.Claims6.lean ====
/- The claims about `Kernel6` and `Reference6`: they run and leave their arguments, and their results are equal. -/
module

public import proofs.«01_k».proof.Defs
public import proofs.«01_k».proof.Proof.Gen.Kernel6
public import proofs.«01_k».proof.Proof.Gen.Kernel6Ideal.Frame
public import proofs.«01_k».proof.Proof.Gen.Reference6Ideal.Run
public import proofs.«01_k».proof.Proof.Value6
public import proofs.«01_k».proof.Proof.Preconditions
public import Idealize.ShloMosaic.Lib.Claim

@[expose] public section

-- The printed arrays are long and are compared one by one.
set_option maxHeartbeats 10000000

noncomputable section

namespace Cert.Claims6

open Idealize.ShloMosaic Idealize.SL.Sem

/-- The two programs have the same text, so the same bodies. -/
theorem bodies_eq : Cert.Kernel6.defs₀ (F := Bits) = Cert.Kernel6Ideal.defs₀ (F := Bits) := by
  unfold Cert.Kernel6.defs₀ Cert.Kernel6Ideal.defs₀
  congr 1
  funext l a
  match l, a with
  | 0, (t, s) => rfl
  | ⟨_ + 1, h⟩, _ => exact absurd h (Nat.not_lt.2 (Nat.le_add_left _ _))

theorem defs_eq : Cert.Kernel6.defs (F := Bits) = Cert.Kernel6Ideal.defs (F := Bits) :=
  congrArg (Pipeline.defs Cert.Kernel6Ideal.pcfgs) bodies_eq

theorem frame_ideal : Cert.quiescent_Kernel6Ideal := fun m ρ _ => Cert.Kernel6Ideal.Gen.frame m ρ

theorem frame_kernel : Cert.quiescent_Kernel6 := fun m ρ _ =>
  (congrArg (fun d => θ_run d (onTc Cert.Kernel6.main) ⟨m, fun _ => 0, ρ⟩ _) defs_eq).mpr
    (Cert.Kernel6Ideal.Gen.frame (F := Bits) m ρ)

theorem frame_reference : Cert.quiescent_Reference6Ideal := by
  intro m ρ _
  hlo_run
  · simp
  · exact sem_eq_zero_of_no_sems rfl _

theorem frame_ideal_pre [Cert.Pre_all_finite6.Facts] : Cert.quiescent_Kernel6Ideal_pre_all_finite6 := fun m ρ _ => frame_ideal m ρ trivial

theorem frame_reference_pre [Cert.Pre_all_finite6.Facts] : Cert.quiescent_Reference6Ideal_pre_all_finite6 := fun m ρ _ => frame_reference m ρ trivial

theorem algebraic [Cert.Pre_all_finite6.Facts] : Cert.algebraic_Kernel6Ideal_Reference6Ideal_pre_all_finite6 := by
  pair_intro
  · run_from Cert.Kernel6Ideal.Gen.run_main m g
  · refine θ_run_mono (Cert.Reference6Ideal.Value.run m' g') fun r hr c => ?_
    obtain ⟨r0, r1, r2, r3, r4⟩ := Cert.Preconditions.all_finite6 (hpre c)
    obtain ⟨h0, h1, h2, h3, h4⟩ := hagree c
    obtain ⟨e0, e1, he⟩ := hr c
    refine ⟨e0.trans ?_, e1.trans ?_, he⟩
    · refine Eq.trans ?_ (Cert.Kernel6Ideal.Value.final_5 m c r0 r1 r2 r3 r4).symm
      rw [← h0, ← h1, ← h2, ← h3, ← h4]
      rfl
    · refine Eq.trans ?_ (Cert.Kernel6Ideal.Value.final_6 m c).symm
      rw [← h0, ← h1, ← h2]
      rfl

end Cert.Claims6

end
-- ==== Proof.Value7.lean ====
/- The values of `Kernel7Ideal`'s launch over the extended reals: the arrays it leaves are the reference's formulas of the arguments. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula7

open Cert.Reference7Ideal Cert.Reference7Ideal.Gen

/-- The reference's result `main_v7`, of its arguments. -/
def REF (a0 : FVec Ideal Cert.Reference7Ideal.S4224x1024 .bf16) (a1 : FVec Ideal Cert.Reference7Ideal.S4224x2560 .bf16) : FVec Ideal Cert.Reference7Ideal.S4x1024x640 .f32 :=
  transpose S4x1024x640 [1, 0, 2] (shapeCast _ (transpose S1024x2560 [1, 0] (Host.dotGeneral dot_S4224x2560_S4224x1024_S2560x1024_0_0_1_1_n_n none (extf .f32 a1 bitsLt_bf16_f32) (extf .f32 a0 bitsLt_bf16_f32)) transposes_S2560x1024_S1024x2560_1_0) shapeCasts_S1024x2560_S1024x4x640) transposes_S1024x4x640_S4x1024x640_1_0_2

end Cert.Formula7

namespace Cert.Kernel7Ideal.Value

open Cert.Kernel7Ideal Cert.Kernel7Ideal.Gen Cert.Formula7

variable (m : (ℓ : Loc nD τ sig) → Buf (Elt Ideal) ℓ)

/-- The block that each window has at a grid point, by the grid's coordinates. -/
theorem idx : ∀ t : Fin cfg0.N, win0_0.index t = ![(grid0.coords t 2).val, 0]
    ∧ win0_1.index t = ![(grid0.coords t 2).val, (grid0.coords t 1).val]
    ∧ win0_2.index t = ![(grid0.coords t 1).val, 0, 0] :=
  (by decide +kernel : ∀ t : Fin grid0.N, _)

/-- The block that each window has at a grid point, by the point's number. -/
theorem idx_val : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- The sum starts at zero. -/
theorem hzero (j : S1x1024x640.Idx) : k0_pay1 (F := Ideal) j = 0 := by
  pointwise! [k0_pay1]

/-- What is stored is what the block held and a part added to it. -/
theorem hpay (v3 : Vec Ideal S1x1024x640 .f32) (v5 : Vec Ideal S1056x1024 .bf16) (v6 : Vec Ideal S1056x640 .bf16) (j : S1x1024x640.Idx) :
    k0_pay2 v3 v5 v6 j = v3 j + k0_pay2 (fun _ => 0) v5 v6 j := by
  pointwise [k0_pay2]

/-- The result array after the run: the sum of the parts of the grid points. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF]; refine Fin.sum_mul_add_congr fun s k hl => (mul_comm (_ : EReal) _).trans ?_; blk_point [iblk, V, idx_val t, idx_val ⟨_, Pipeline.run_point_lt_of_flush t ((flush0_2 t).mp hf) s⟩]

end Cert.Kernel7Ideal.Value

end
-- ==== Proof.Claims7.lean ====
/- The claims about `Kernel7` and `Reference7`: they run and leave their arguments, and their results are equal. -/
module

public import proofs.«01_k».proof.Defs
public import proofs.«01_k».proof.Proof.Gen.Kernel7
public import proofs.«01_k».proof.Proof.Gen.Kernel7Ideal.Frame
public import proofs.«01_k».proof.Proof.Gen.Reference7Ideal.Run
public import proofs.«01_k».proof.Proof.Value7
public import Idealize.ShloMosaic.Lib.Claim

@[expose] public section

noncomputable section

namespace Cert.Claims7

open Idealize.ShloMosaic Idealize.SL.Sem

/-- The two programs have the same text, so the same bodies. -/
theorem bodies_eq : Cert.Kernel7.defs₀ (F := Bits) = Cert.Kernel7Ideal.defs₀ (F := Bits) := by
  unfold Cert.Kernel7.defs₀ Cert.Kernel7Ideal.defs₀
  congr 1
  funext l a
  match l, a with
  | 0, (t, s) => rfl
  | ⟨_ + 1, h⟩, _ => exact absurd h (Nat.not_lt.2 (Nat.le_add_left _ _))

theorem defs_eq : Cert.Kernel7.defs (F := Bits) = Cert.Kernel7Ideal.defs (F := Bits) :=
  congrArg (Pipeline.defs Cert.Kernel7Ideal.pcfgs) bodies_eq

theorem frame_ideal : Cert.quiescent_Kernel7Ideal := fun m ρ _ => Cert.Kernel7Ideal.Gen.frame m ρ

theorem frame_kernel : Cert.quiescent_Kernel7 := fun m ρ _ =>
  (congrArg (fun d => θ_run d (onTc Cert.Kernel7.main) ⟨m, fun _ => 0, ρ⟩ _) defs_eq).mpr
    (Cert.Kernel7Ideal.Gen.frame (F := Bits) m ρ)

theorem frame_reference : Cert.quiescent_Reference7Ideal := by
  intro m ρ _
  hlo_run
  · simp
  · exact sem_eq_zero_of_no_sems rfl _

theorem algebraic : Cert.algebraic_Kernel7Ideal_Reference7Ideal := by
  pair_intro
  · run_from Cert.Kernel7Ideal.Gen.run_main m g
  · run_from Cert.Reference7Ideal.Value.run m' g'
    · exact (Cert.Kernel7Ideal.Value.final m c).symm

end Cert.Claims7

end
-- ==== Proof.Value8.lean ====
/- The values of `Kernel8Ideal`'s launch over the extended reals: the arrays it leaves are the reference's formulas of the arguments. -/
module

public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula8

open Cert.Reference8Ideal Cert.Reference8Ideal.Gen

/-- The reference's result `main_v4`, of its arguments. -/
def REF (a0 : FVec Ideal Cert.Reference8Ideal.S4224x1024 .f32) (a1 : FVec Ideal Cert.Reference8Ideal.S1x1024x1024 .bf16) : FVec Ideal Cert.Reference8Ideal.S4224x1024 .f32 :=
  Host.dotGeneral dot_S4224x1024_S1024x1024_S4224x1024_1_1_0_0_n_n none a0 (extf .f32 (shapeCast _ a1 shapeCasts_S1x1024x1024_S1024x1024) bitsLt_bf16_f32)

end Cert.Formula8

namespace Cert.Kernel8Ideal.Value

open Cert.Kernel8Ideal Cert.Kernel8Ideal.Gen Cert.Formula8

variable (m : (ℓ : Loc nD τ sig) → Buf (Elt Ideal) ℓ)

/-- The block that each window has at a grid point, by the grid's coordinates. -/
theorem idx : ∀ t : Fin cfg0.N, win0_0.index t = ![(grid0.coords t 0).val, 0]
    ∧ win0_1.index t = ![0, 0, 0]
    ∧ win0_2.index t = ![(grid0.coords t 0).val, 0] :=
  (by decide +kernel : ∀ t : Fin grid0.N, _)

/-- The block that each window has at a grid point, by the point's number. -/
theorem idx_val : ∀ t : Fin cfg0.N, win0_0.index t = ![t.val, 0]
    ∧ win0_1.index t = ![0, 0, 0]
    ∧ win0_2.index t = ![t.val, 0] :=
  (by decide +kernel : ∀ t : Fin grid0.N, _)

set_option maxHeartbeats 1600000 in
/-- What a grid point stores, in 2 pieces, is the reference at the place in the array. -/
theorem point (c : Dev nD) (t : Fin cfg0.N) (y) :
    out0_2 (iblk m c 0 t) (iblk m c 1 t) y
      = REF (m ((c : Thread nD τ).loc main_arg0)) (m ((c : Thread nD τ).loc main_arg1)) (((cfg0.win 2).blk t).view.emb
        y) := by
  canon_tiles x h; all_goals (open_payloads; pointwise [REF]; blk_point [iblk, V, idx_val t])

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]
  exact point m c t y

end Cert.Kernel8Ideal.Value

end
-- ==== Proof.Claims8.lean ====
/- The claims about `Kernel8` and `Reference8`: they run and leave their arguments, and their results are equal. -/
module

public import proofs.«01_k».proof.Defs
public import proofs.«01_k».proof.Proof.Gen.Kernel8
public import proofs.«01_k».proof.Proof.Gen.Kernel8Ideal.Frame
public import proofs.«01_k».proof.Proof.Gen.Reference8Ideal.Run
public import proofs.«01_k».proof.Proof.Value8
public import Idealize.ShloMosaic.Lib.Claim

@[expose] public section

noncomputable section

namespace Cert.Claims8

open Idealize.ShloMosaic Idealize.SL.Sem

/-- The two programs have the same text, so the same bodies. -/
theorem bodies_eq : Cert.Kernel8.defs₀ (F := Bits) = Cert.Kernel8Ideal.defs₀ (F := Bits) := by
  unfold Cert.Kernel8.defs₀ Cert.Kernel8Ideal.defs₀
  congr 1
  funext l a
  match l, a with
  | 0, (t, s) => rfl
  | ⟨_ + 1, h⟩, _ => exact absurd h (Nat.not_lt.2 (Nat.le_add_left _ _))

theorem defs_eq : Cert.Kernel8.defs (F := Bits) = Cert.Kernel8Ideal.defs (F := Bits) :=
  congrArg (Pipeline.defs Cert.Kernel8Ideal.pcfgs) bodies_eq

theorem frame_ideal : Cert.quiescent_Kernel8Ideal := fun m ρ _ => Cert.Kernel8Ideal.Gen.frame m ρ

theorem frame_kernel : Cert.quiescent_Kernel8 := fun m ρ _ =>
  (congrArg (fun d => θ_run d (onTc Cert.Kernel8.main) ⟨m, fun _ => 0, ρ⟩ _) defs_eq).mpr
    (Cert.Kernel8Ideal.Gen.frame (F := Bits) m ρ)

theorem frame_reference : Cert.quiescent_Reference8Ideal := by
  intro m ρ _
  hlo_run
  · simp
  · exact sem_eq_zero_of_no_sems rfl _

theorem algebraic : Cert.algebraic_Kernel8Ideal_Reference8Ideal := by
  pair_intro
  · run_from Cert.Kernel8Ideal.Gen.run_main m g
  · run_from Cert.Reference8Ideal.Value.run m' g'
    · exact (Cert.Kernel8Ideal.Value.final m c).symm

end Cert.Claims8

end
-- ==== Proof.Value9.lean ====
/- The values of `Kernel9Ideal`'s launch over the extended reals: the arrays it leaves are the reference's formulas of the arguments. -/
module

public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula9

open Cert.Reference9Ideal Cert.Reference9Ideal.Gen

/-- The reference's result `main_v5`, of its arguments. -/
def REF (a0 : FVec Ideal Cert.Reference9Ideal.S4224x512 .bf16) (a1 : FVec Ideal Cert.Reference9Ideal.S4224x512 .bf16) (a2 : FVec Ideal Cert.Reference9Ideal.S4224x1024 .f32) : FVec Ideal Cert.Reference9Ideal.S1024x1024 .f32 :=
  transpose S1024x1024 [1, 0] (Host.dotGeneral dot_S4224x1024_S4224x1024_S1024x1024_0_0_1_1_n_n none a2 (extf .f32 (concatenate S4224x1024 1 [⟨S4224x512, a0⟩, ⟨S4224x512, a1⟩] concatenates_S4224x512_S4224x512_S4224x1024_d1) bitsLt_bf16_f32)) transposes_S1024x1024_S1024x1024_1_0

end Cert.Formula9

namespace Cert.Kernel9Ideal.Value

open Cert.Kernel9Ideal Cert.Kernel9Ideal.Gen Cert.Formula9

variable (m : (ℓ : Loc nD τ sig) → Buf (Elt Ideal) ℓ)

/-- The block that each window has at a grid point, by the grid's coordinates. -/
theorem idx : ∀ t : Fin cfg0.N, win0_0.index t = ![(grid0.coords t 2).val, 0]
    ∧ win0_1.index t = ![(grid0.coords t 2).val, 0]
    ∧ win0_2.index t = ![(grid0.coords t 2).val, 0]
    ∧ win0_3.index t = ![(grid0.coords t 0).val, 0] :=
  (by decide +kernel : ∀ t : Fin grid0.N, _)

/-- The block that each window has at a grid point, by the point's number. -/
theorem idx_val : ∀ t : Fin cfg0.N, win0_0.index t = ![t.val % 4, 0]
    ∧ win0_1.index t = ![t.val % 4, 0]
    ∧ win0_2.index t = ![t.val % 4, 0]
    ∧ win0_3.index t = ![t.val / 4, 0] :=
  (by decide +kernel : ∀ t : Fin grid0.N, _)

/-- The zero the sums start from. -/
theorem hzero (j : S512x1024.Idx) : k0_pay1 (F := Ideal) j = 0 := by
  pointwise! [k0_pay1]

theorem hpay3 (v3 : Vec Ideal S1056x1024 .f32) (v11 : Vec Ideal S512x1024 .f32) (v13 : Vec Ideal S1056x512 .bf16) (j : S512x1024.Idx) :
    k0_pay3 v3 v11 v13 j = v11 j + k0_pay3 v3 (fun _ => 0) v13 j := by
  pointwise [k0_pay3]

theorem hpay4 (v3 : Vec Ideal S1056x1024 .f32) (v11 : Vec Ideal S512x1024 .f32) (v13 : Vec Ideal S1056x512 .bf16) (j : S512x1024.Idx) :
    k0_pay4 v3 v11 v13 j = v11 j + k0_pay4 v3 (fun _ => 0) v13 j := by
  pointwise [k0_pay4]

/-- What grid point `t` adds: the first four points take their rows from the first operand, the last four from the second. -/
def part (c : Dev nD) (t : Fin cfg0.N) : S512x1024.Idx → EReal :=
  if t.val < 4 then k0_pay3 (F := Ideal) (iblk m c 2 t) (fun _ => 0) (iblk m c 0 t)
  else k0_pay4 (F := Ideal) (iblk m c 2 t) (fun _ => 0) (iblk m c 1 t)

theorem start (c : Dev nD) (t : Fin cfg0.N) (h : t.val % 4 = 0) (j) :
    outsAt0 m c t.val t.isLt j = (fun _ => 0 : S512x1024.Idx → EReal) j + part m c t j := by
  by_cases h1 : t.val < 4
  · rw [outsAt0_A m c t h h1 (by omega), part, if_pos h1]; frame_out; rw [hpay3, hzero]
  · rw [outsAt0_C m c t h h1 (by omega), part, if_neg h1]; frame_out; rw [hpay4, hzero]

theorem step (c : Dev nD) (t : Fin cfg0.N) (h : ¬t.val % 4 = 0) (j) :
    outsAt0 m c t.val t.isLt j = outsAt0 m c (t.val - 1) (Nat.lt_of_le_of_lt (Nat.sub_le _ _) t.isLt) j + part m c t j := by
  by_cases h1 : t.val < 4
  · rw [outsAt0_B m c t h h1 (by omega), part, if_pos h1]; frame_out; rw [hpay3]
  · rw [outsAt0_D m c t h h1 (by omega), part, if_neg h1]; frame_out; rw [hpay4]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hr := (flush0_3 t).mp hf
  rw [after0_3, Pipeline.eq_sum_fin_of_reset_step_apply_of_flush (fun n h => (outsAt0 m c n h)) 4 (fun _ => 0) (part m c)
    (start m c) (step m c) t hr _, zero_add]
  have hrow : (((View.whole main_v0).slice (win0_3.rect t)).emb y 0).val = t.val / 4 * 512 + (y 0).val := by
    blk_simp [idx_val t]
  have hy : (y 0).val < 512 := (y 0).isLt
  have ht : t.val < 8 := t.isLt
  by_cases h1 : t.val < 4
  · have hp : ∀ s : Fin 4, part m c ⟨4 * (t.val / 4) + s.val, Pipeline.run_point_lt_of_flush t hr s⟩ y
        = k0_pay3 (F := Ideal) (iblk m c 2 ⟨4 * (t.val / 4) + s.val, Pipeline.run_point_lt_of_flush t hr s⟩) (fun _ => 0)
          (iblk m c 0 ⟨4 * (t.val / 4) + s.val, Pipeline.run_point_lt_of_flush t hr s⟩) y := fun s => by
      rw [part, if_pos (by have := s.isLt; show 4 * (t.val / 4) + s.val < 4; omega)]
    simp only [hp]
    pointwise [k0_pay3, k0_pay2, REF]
    refine Fin.sum_mul_add_congr fun s k hl => ?_
    refine (mul_comm (_ : EReal) _).trans ?_
    rw [dif_pos (by omega)]
    blk_point [iblk, V, idx_val t, idx_val ⟨_, Pipeline.run_point_lt_of_flush t hr s⟩]
  · have hp : ∀ s : Fin 4, part m c ⟨4 * (t.val / 4) + s.val, Pipeline.run_point_lt_of_flush t hr s⟩ y
        = k0_pay4 (F := Ideal) (iblk m c 2 ⟨4 * (t.val / 4) + s.val, Pipeline.run_point_lt_of_flush t hr s⟩) (fun _ => 0)
          (iblk m c 1 ⟨4 * (t.val / 4) + s.val, Pipeline.run_point_lt_of_flush t hr s⟩) y := fun s => by
      rw [part, if_neg (by show ¬4 * (t.val / 4) + s.val < 4; omega)]
    simp only [hp]
    pointwise [k0_pay4, k0_pay2, REF]
    refine Fin.sum_mul_add_congr fun s k hl => ?_
    refine (mul_comm (_ : EReal) _).trans ?_
    rw [dif_neg (by omega)]
    blk_point [iblk, V, idx_val t, idx_val ⟨_, Pipeline.run_point_lt_of_flush t hr s⟩]

end Cert.Kernel9Ideal.Value

end
-- ==== Proof.Claims9.lean ====
/- The claims about `Kernel9` and `Reference9`: they run and leave their arguments, and their results are equal. -/
module

public import proofs.«01_k».proof.Defs
public import proofs.«01_k».proof.Proof.Gen.Kernel9
public import proofs.«01_k».proof.Proof.Gen.Kernel9Ideal.Frame
public import proofs.«01_k».proof.Proof.Gen.Reference9Ideal.Run
public import proofs.«01_k».proof.Proof.Value9
public import Idealize.ShloMosaic.Lib.Claim

@[expose] public section

noncomputable section

namespace Cert.Claims9

open Idealize.ShloMosaic Idealize.SL.Sem

/-- The two programs have the same text, so the same bodies. -/
theorem bodies_eq : Cert.Kernel9.defs₀ (F := Bits) = Cert.Kernel9Ideal.defs₀ (F := Bits) := by
  unfold Cert.Kernel9.defs₀ Cert.Kernel9Ideal.defs₀
  congr 1
  funext l a
  match l, a with
  | 0, (t, s) => rfl
  | ⟨_ + 1, h⟩, _ => exact absurd h (Nat.not_lt.2 (Nat.le_add_left _ _))

theorem defs_eq : Cert.Kernel9.defs (F := Bits) = Cert.Kernel9Ideal.defs (F := Bits) :=
  congrArg (Pipeline.defs Cert.Kernel9Ideal.pcfgs) bodies_eq

theorem frame_ideal : Cert.quiescent_Kernel9Ideal := fun m ρ _ => Cert.Kernel9Ideal.Gen.frame m ρ

theorem frame_kernel : Cert.quiescent_Kernel9 := fun m ρ _ =>
  (congrArg (fun d => θ_run d (onTc Cert.Kernel9.main) ⟨m, fun _ => 0, ρ⟩ _) defs_eq).mpr
    (Cert.Kernel9Ideal.Gen.frame (F := Bits) m ρ)

theorem frame_reference : Cert.quiescent_Reference9Ideal := by
  intro m ρ _
  hlo_run
  · simp
  · exact sem_eq_zero_of_no_sems rfl _

theorem algebraic : Cert.algebraic_Kernel9Ideal_Reference9Ideal := by
  pair_intro
  · run_from Cert.Kernel9Ideal.Gen.run_main m g
  · run_from Cert.Reference9Ideal.Value.run m' g'
    · exact (Cert.Kernel9Ideal.Value.final m c).symm

end Cert.Claims9

end
-- ==== Proof.Value10.lean ====
/- The values of `Kernel10Ideal`'s launch over the extended reals: the arrays it leaves are the reference's formulas of the arguments. -/
module

public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula10

open Cert.Reference10Ideal Cert.Reference10Ideal.Gen

/-- The reference's result `main_v22`, of its arguments. -/
def REF_v22 (a0 : FVec Ideal Cert.Reference10Ideal.S4224x1024 .f32) (a1 : FVec Ideal Cert.Reference10Ideal.S1x1024 .f32) (a2 : FVec Ideal Cert.Reference10Ideal.S1x2816x1024 .bf16) (a3 : FVec Ideal Cert.Reference10Ideal.S1x2816x1024 .bf16) : FVec Ideal Cert.Reference10Ideal.S4224x1024 .bf16 :=
  truncf .bf16 (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) bitsLt_bf16_f32

/-- The reference's result `main_v23`, of its arguments. -/
def REF_v23 (a0 : FVec Ideal Cert.Reference10Ideal.S4224x1024 .f32) (a1 : FVec Ideal Cert.Reference10Ideal.S1x1024 .f32) (a2 : FVec Ideal Cert.Reference10Ideal.S1x2816x1024 .bf16) (a3 : FVec Ideal Cert.Reference10Ideal.S1x2816x1024 .bf16) : FVec Ideal Cert.Reference10Ideal.S4224x2816 .bf16 :=
  truncf .bf16 (Host.dotGeneral dot_S4224x1024_S1024x2816_S4224x2816_1_0_0_1_n_n none (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) (transpose S1024x2816 [1, 0] (extf .f32 (shapeCast _ a2 shapeCasts_S1x2816x1024_S2816x1024) bitsLt_bf16_f32) transposes_S2816x1024_S1024x2816_1_0)) bitsLt_bf16_f32

/-- The reference's result `main_v24`, of its arguments. -/
def REF_v24 (a0 : FVec Ideal Cert.Reference10Ideal.S4224x1024 .f32) (a1 : FVec Ideal Cert.Reference10Ideal.S1x1024 .f32) (a2 : FVec Ideal Cert.Reference10Ideal.S1x2816x1024 .bf16) (a3 : FVec Ideal Cert.Reference10Ideal.S1x2816x1024 .bf16) : FVec Ideal Cert.Reference10Ideal.S4224x2816 .bf16 :=
  truncf .bf16 (Host.dotGeneral dot_S4224x1024_S1024x2816_S4224x2816_1_0_0_1_n_n none (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) (transpose S1024x2816 [1, 0] (extf .f32 (shapeCast _ a3 shapeCasts_S1x2816x1024_S2816x1024) bitsLt_bf16_f32) transposes_S2816x1024_S1024x2816_1_0)) bitsLt_bf16_f32

/-- The reference's result `main_v25`, of its arguments. -/
def REF_v25 (a0 : FVec Ideal Cert.Reference10Ideal.S4224x1024 .f32) (a1 : FVec Ideal Cert.Reference10Ideal.S1x1024 .f32) (a2 : FVec Ideal Cert.Reference10Ideal.S1x2816x1024 .bf16) (a3 : FVec Ideal Cert.Reference10Ideal.S1x2816x1024 .bf16) : FVec Ideal Cert.Reference10Ideal.S4224x2816 .bf16 :=
  truncf .bf16 (mulf (mulf (Host.dotGeneral dot_S4224x1024_S1024x2816_S4224x2816_1_0_0_1_n_n none (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) (transpose S1024x2816 [1, 0] (extf .f32 (shapeCast _ a2 shapeCasts_S1x2816x1024_S2816x1024) bitsLt_bf16_f32) transposes_S2816x1024_S1024x2816_1_0)) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (Host.dotGeneral dot_S4224x1024_S1024x2816_S4224x2816_1_0_0_1_n_n none (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) (transpose S1024x2816 [1, 0] (extf .f32 (shapeCast _ a2 shapeCasts_S1x2816x1024_S2816x1024) bitsLt_bf16_f32) transposes_S2816x1024_S1024x2816_1_0))))))) (Host.dotGeneral dot_S4224x1024_S1024x2816_S4224x2816_1_0_0_1_n_n none (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) (transpose S1024x2816 [1, 0] (extf .f32 (shapeCast _ a3 shapeCasts_S1x2816x1024_S2816x1024) bitsLt_bf16_f32) transposes_S2816x1024_S1024x2816_1_0))) bitsLt_bf16_f32

end Cert.Formula10

namespace Cert.Kernel10Ideal.Value

open Cert.Kernel10Ideal Cert.Kernel10Ideal.Gen Cert.Formula10

variable (m : (ℓ : Loc nD τ sig) → Buf (Elt Ideal) ℓ)

/-- The block that each window has at a grid point, by the grid's coordinates. -/
theorem idx : ∀ t : Fin cfg0.N, win0_0.index t = ![(grid0.coords t 0).val, 0]
    ∧ win0_1.index t = ![0, 0]
    ∧ win0_2.index t = ![0, 0, 0]
    ∧ win0_3.index t = ![0, 0, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

/-- The block that each window has at a grid point, by the point's number. -/
theorem idx_val : ∀ t : Fin cfg0.N, win0_0.index t = ![t.val, 0]
    ∧ win0_1.index t = ![0, 0]
    ∧ win0_2.index t = ![0, 0, 0]
    ∧ win0_3.index t = ![0, 0, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- What a grid point stores is the reference at the place in the array. -/
theorem point_4 (c : Dev nD) (t : Fin cfg0.N) (y) :
    k0_pay7 (iblk m c 0 t) (iblk m c 1 t) y
      = REF_v22 (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay7, REF_v22]; blk_point [iblk, V, idx_val t]

/-- The result array after the run: its blocks tile the array. -/
theorem final_4 (c : Dev nD) : (dats m 0 c).arrAt 4 (cfgs 0).N = REF_v22 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

set_option maxHeartbeats 1600000 in
/-- What a grid point stores, in 2 pieces, is the reference at the place in the array. -/
theorem point_5 (c : Dev nD) (t : Fin cfg0.N) (y) :
    out0_5 (iblk m c 0 t) (iblk m c 1 t) (iblk m c 2 t) (iblk m c 3 t) y
      = REF_v23 (m ((c : Thread nD τ).loc main_arg0)) (m ((c : Thread nD τ).loc main_arg1)) (m ((c : Thread nD τ).loc
        main_arg2)) (m ((c : Thread nD τ).loc main_arg3)) (((cfg0.win 5).blk t).view.emb y) := by
  canon_tiles x h; all_goals (open_payloads; pointwise [REF_v23]; blk_point [iblk, V, idx_val t])

theorem final_5 (c : Dev nD) : (dats m 0 c).arrAt 5 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point_5 m c t y

set_option maxHeartbeats 1600000 in
/-- What a grid point stores, in 2 pieces, is the reference at the place in the array. -/
theorem point_6 (c : Dev nD) (t : Fin cfg0.N) (y) :
    out0_6 (iblk m c 0 t) (iblk m c 1 t) (iblk m c 2 t) (iblk m c 3 t) y
      = REF_v24 (m ((c : Thread nD τ).loc main_arg0)) (m ((c : Thread nD τ).loc main_arg1)) (m ((c : Thread nD τ).loc
        main_arg2)) (m ((c : Thread nD τ).loc main_arg3)) (((cfg0.win 6).blk t).view.emb y) := by
  canon_tiles x h; all_goals (open_payloads; pointwise [REF_v24]; blk_point [iblk, V, idx_val t])

theorem final_6 (c : Dev nD) : (dats m 0 c).arrAt 6 (cfgs 0).N = REF_v24 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]
  exact point_6 m c t y

set_option maxHeartbeats 1600000 in
/-- What a grid point stores, in 2 pieces, is the reference at the place in the array. -/
theorem point_7 (c : Dev nD) (t : Fin cfg0.N) (y) :
    out0_7 (iblk m c 0 t) (iblk m c 1 t) (iblk m c 2 t) (iblk m c 3 t) y
      = REF_v25 (m ((c : Thread nD τ).loc main_arg0)) (m ((c : Thread nD τ).loc main_arg1)) (m ((c : Thread nD τ).loc
        main_arg2)) (m ((c : Thread nD τ).loc main_arg3)) (((cfg0.win 7).blk t).view.emb y) := by
  canon_tiles x h; all_goals (open_payloads; pointwise [REF_v25]; simp only [zero_sub]; blk_point [iblk, V, idx_val t])

theorem final_7 (c : Dev nD) : (dats m 0 c).arrAt 7 (cfgs 0).N = REF_v25 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]
  exact point_7 m c t y

end Cert.Kernel10Ideal.Value

end
-- ==== Proof.Claims10.lean ====
/- The claims about `Kernel10` and `Reference10`: they run and leave their arguments, and their results are equal. -/
module

public import proofs.«01_k».proof.Defs
public import proofs.«01_k».proof.Proof.Gen.Kernel10
public import proofs.«01_k».proof.Proof.Gen.Kernel10Ideal.Frame
public import proofs.«01_k».proof.Proof.Gen.Reference10Ideal.Run
public import proofs.«01_k».proof.Proof.Value10
public import Idealize.ShloMosaic.Lib.Claim

@[expose] public section

noncomputable section

namespace Cert.Claims10

open Idealize.ShloMosaic Idealize.SL.Sem

/-- The two programs have the same text, so the same bodies. -/
theorem bodies_eq : Cert.Kernel10.defs₀ (F := Bits) = Cert.Kernel10Ideal.defs₀ (F := Bits) := by
  unfold Cert.Kernel10.defs₀ Cert.Kernel10Ideal.defs₀
  congr 1
  funext l a
  match l, a with
  | 0, (t, s) => rfl
  | ⟨_ + 1, h⟩, _ => exact absurd h (Nat.not_lt.2 (Nat.le_add_left _ _))

theorem defs_eq : Cert.Kernel10.defs (F := Bits) = Cert.Kernel10Ideal.defs (F := Bits) :=
  congrArg (Pipeline.defs Cert.Kernel10Ideal.pcfgs) bodies_eq

theorem frame_ideal : Cert.quiescent_Kernel10Ideal := fun m ρ _ => Cert.Kernel10Ideal.Gen.frame m ρ

theorem frame_kernel : Cert.quiescent_Kernel10 := fun m ρ _ =>
  (congrArg (fun d => θ_run d (onTc Cert.Kernel10.main) ⟨m, fun _ => 0, ρ⟩ _) defs_eq).mpr
    (Cert.Kernel10Ideal.Gen.frame (F := Bits) m ρ)

theorem frame_reference : Cert.quiescent_Reference10Ideal := by
  intro m ρ _
  hlo_run
  · simp
  · exact sem_eq_zero_of_no_sems rfl _

theorem algebraic : Cert.algebraic_Kernel10Ideal_Reference10Ideal := by
  pair_intro
  · run_from Cert.Kernel10Ideal.Gen.run_main m g
  · run_from Cert.Reference10Ideal.Value.run m' g'
    · exact (Cert.Kernel10Ideal.Value.final_4 m c).symm
    · exact (Cert.Kernel10Ideal.Value.final_5 m c).symm
    · exact (Cert.Kernel10Ideal.Value.final_6 m c).symm
    · exact (Cert.Kernel10Ideal.Value.final_7 m c).symm

end Cert.Claims10

end
-- ==== Proof.Value11.lean ====
/- The values of `Kernel11Ideal`'s launch over the extended reals: the arrays it leaves are the reference's formulas of the arguments. -/
module

public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula11

open Cert.Reference11Ideal Cert.Reference11Ideal.Gen

/-- The reference's result `main_v4`, of its arguments. -/
def REF (a0 : FVec Ideal Cert.Reference11Ideal.S4224x2816 .bf16) (a1 : FVec Ideal Cert.Reference11Ideal.S1x2816x1024 .bf16) (a2 : FVec Ideal Cert.Reference11Ideal.S4224x1024 .f32) : FVec Ideal Cert.Reference11Ideal.S4224x1024 .f32 :=
  addf a2 (Host.dotGeneral dot_S4224x2816_S2816x1024_S4224x1024_1_0_0_1_n_n none (extf .f32 a0 bitsLt_bf16_f32) (extf .f32 (shapeCast _ a1 shapeCasts_S1x2816x1024_S2816x1024) bitsLt_bf16_f32))

end Cert.Formula11

namespace Cert.Kernel11Ideal.Value

open Cert.Kernel11Ideal Cert.Kernel11Ideal.Gen Cert.Formula11

variable (m : (ℓ : Loc nD τ sig) → Buf (Elt Ideal) ℓ)

/-- The block that each window has at a grid point, by the grid's coordinates. -/
theorem idx : ∀ t : Fin cfg0.N, win0_0.index t = ![(grid0.coords t 0).val, 0]
    ∧ win0_1.index t = ![0, 0, 0]
    ∧ win0_2.index t = ![(grid0.coords t 0).val, 0]
    ∧ win0_3.index t = ![(grid0.coords t 0).val, 0] :=
  (by decide +kernel : ∀ t : Fin grid0.N, _)

/-- The block that each window has at a grid point, by the point's number. -/
theorem idx_val : ∀ t : Fin cfg0.N, win0_0.index t = ![t.val, 0]
    ∧ win0_1.index t = ![0, 0, 0]
    ∧ win0_2.index t = ![t.val, 0]
    ∧ win0_3.index t = ![t.val, 0] :=
  (by decide +kernel : ∀ t : Fin grid0.N, _)

set_option maxHeartbeats 1600000 in
/-- What a grid point stores, in 2 pieces, is the reference at the place in the array. -/
theorem point (c : Dev nD) (t : Fin cfg0.N) (y) :
    out0_3 (iblk m c 0 t) (iblk m c 1 t) (iblk m c 2 t) y
      = REF (m ((c : Thread nD τ).loc main_arg0)) (m ((c : Thread nD τ).loc main_arg1)) (m ((c : Thread nD τ).loc
        main_arg2)) (((cfg0.win 3).blk t).view.emb y) := by
  canon_tiles x h; all_goals (open_payloads; pointwise [REF]; blk_point [iblk, V, idx_val t])

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Cert.Kernel11Ideal.Value

end
-- ==== Proof.Claims11.lean ====
/- The claims about `Kernel11` and `Reference11`: they run and leave their arguments, and their results are equal. -/
module

public import proofs.«01_k».proof.Defs
public import proofs.«01_k».proof.Proof.Gen.Kernel11
public import proofs.«01_k».proof.Proof.Gen.Kernel11Ideal.Frame
public import proofs.«01_k».proof.Proof.Gen.Reference11Ideal.Run
public import proofs.«01_k».proof.Proof.Value11
public import Idealize.ShloMosaic.Lib.Claim

@[expose] public section

noncomputable section

namespace Cert.Claims11

open Idealize.ShloMosaic Idealize.SL.Sem

/-- The two programs have the same text, so the same bodies. -/
theorem bodies_eq : Cert.Kernel11.defs₀ (F := Bits) = Cert.Kernel11Ideal.defs₀ (F := Bits) := by
  unfold Cert.Kernel11.defs₀ Cert.Kernel11Ideal.defs₀
  congr 1
  funext l a
  match l, a with
  | 0, (t, s) => rfl
  | ⟨_ + 1, h⟩, _ => exact absurd h (Nat.not_lt.2 (Nat.le_add_left _ _))

theorem defs_eq : Cert.Kernel11.defs (F := Bits) = Cert.Kernel11Ideal.defs (F := Bits) :=
  congrArg (Pipeline.defs Cert.Kernel11Ideal.pcfgs) bodies_eq

theorem frame_ideal : Cert.quiescent_Kernel11Ideal := fun m ρ _ => Cert.Kernel11Ideal.Gen.frame m ρ

theorem frame_kernel : Cert.quiescent_Kernel11 := fun m ρ _ =>
  (congrArg (fun d => θ_run d (onTc Cert.Kernel11.main) ⟨m, fun _ => 0, ρ⟩ _) defs_eq).mpr
    (Cert.Kernel11Ideal.Gen.frame (F := Bits) m ρ)

theorem frame_reference : Cert.quiescent_Reference11Ideal := by
  intro m ρ _
  hlo_run
  · simp
  · exact sem_eq_zero_of_no_sems rfl _

theorem algebraic : Cert.algebraic_Kernel11Ideal_Reference11Ideal := by
  pair_intro
  · run_from Cert.Kernel11Ideal.Gen.run_main m g
  · run_from Cert.Reference11Ideal.Value.run m' g'
    · exact (Cert.Kernel11Ideal.Value.final m c).symm

end Cert.Claims11

end
-- ==== Proof.Value12.lean ====
/- The values of `Kernel12Ideal`'s launch over the extended reals: the arrays it leaves are the reference's formulas of the arguments. -/
module

public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula12

open Cert.Reference12Ideal Cert.Reference12Ideal.Gen

/-- The reference's result `main_v15`, of its arguments. -/
def REF_v15 (a0 : FVec Ideal Cert.Reference12Ideal.S4224x1024 .f32) (a1 : FVec Ideal Cert.Reference12Ideal.S1x1024 .f32) : FVec Ideal Cert.Reference12Ideal.S4224x1024 .bf16 :=
  truncf .bf16 (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) bitsLt_bf16_f32

/-- The reference's result `main_v17`, of its arguments. -/
def REF_v17 (a0 : FVec Ideal Cert.Reference12Ideal.S4224x1024 .f32) (a1 : FVec Ideal Cert.Reference12Ideal.S1x1024 .f32) (a2 : FVec Ideal Cert.Reference12Ideal.S1x1024x2560 .bf16) : FVec Ideal Cert.Reference12Ideal.S4224x1536 .bf16 :=
  truncf .bf16 (extractStridedSlice S4224x1536 ![0, 0] (Host.dotGeneral dot_S4224x1024_S1024x2560_S4224x2560_1_0_0_1_n_n none (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) (extf .f32 (shapeCast _ a2 shapeCasts_S1x1024x2560_S1024x2560) bitsLt_bf16_f32)) slices_S4224x2560_S4224x1536_0_0) bitsLt_bf16_f32

/-- The reference's result `main_v18`, of its arguments. -/
def REF_v18 (a0 : FVec Ideal Cert.Reference12Ideal.S4224x1024 .f32) (a1 : FVec Ideal Cert.Reference12Ideal.S1x1024 .f32) (a2 : FVec Ideal Cert.Reference12Ideal.S1x1024x2560 .bf16) : FVec Ideal Cert.Reference12Ideal.S4224x1024 .f32 :=
  extractStridedSlice S4224x1024 ![0, 1536] (Host.dotGeneral dot_S4224x1024_S1024x2560_S4224x2560_1_0_0_1_n_n none (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 a1)) (extf .f32 (shapeCast _ a2 shapeCasts_S1x1024x2560_S1024x2560) bitsLt_bf16_f32)) slices_S4224x2560_S4224x1024_0_1536

end Cert.Formula12

namespace Cert.Kernel12Ideal.Value

open Cert.Kernel12Ideal Cert.Kernel12Ideal.Gen Cert.Formula12

variable (m : (ℓ : Loc nD τ sig) → Buf (Elt Ideal) ℓ)

/-- The block that each window has at a grid point, by the grid's coordinates. -/
theorem idx : ∀ t : Fin cfg0.N, win0_0.index t = ![(grid0.coords t 0).val, 0]
    ∧ win0_1.index t = ![0, 0]
    ∧ win0_2.index t = ![0, 0, 0]
    ∧ win0_3.index t = ![(grid0.coords t 0).val, 0]
    ∧ win0_4.index t = ![(grid0.coords t 0).val, 0]
    ∧ win0_5.index t = ![(grid0.coords t 0).val, 0] :=
  (by decide +kernel : ∀ t : Fin grid0.N, _)

/-- The block that each window has at a grid point, by the point's number. -/
theorem idx_val : ∀ t : Fin cfg0.N, win0_0.index t = ![t.val, 0]
    ∧ win0_1.index t = ![0, 0]
    ∧ win0_2.index t = ![0, 0, 0]
    ∧ win0_3.index t = ![t.val, 0]
    ∧ win0_4.index t = ![t.val, 0]
    ∧ win0_5.index t = ![t.val, 0] :=
  (by decide +kernel : ∀ t : Fin grid0.N, _)

/-- What a grid point stores is the reference at the place in the array. -/
theorem point_3 (c : Dev nD) (t : Fin cfg0.N) (y) :
    k0_pay3 (iblk m c 0 t) (iblk m c 1 t) y
      = REF_v15 (m ((c : Thread nD τ).loc main_arg0)) (m ((c : Thread nD τ).loc main_arg1)) (((cfg0.win 3).blk
        t).view.emb y) := by
  pointwise [k0_pay3, REF_v15]; blk_point [iblk, V, idx_val t]

/-- The result array after the run: its blocks tile the array. -/
theorem final_3 (c : Dev nD) : (dats m 0 c).arrAt 3 (cfgs 0).N = REF_v15 (m ((c : Thread nD τ).loc main_arg0)) (m ((c : Thread nD τ).loc main_arg1)) := by
  refine (dats m 0 c).arrAt_eq_of_covers 3 _ (by decide +kernel) fun t hf y => ?_
  blk_simp; rw [after0_3]; frame_out
  exact point_3 m c t y

set_option maxHeartbeats 1600000 in
/-- What a grid point stores, in 3 pieces, is the reference at the place in the array. -/
theorem point_4 (c : Dev nD) (t : Fin cfg0.N) (y) :
    out0_4 (iblk m c 0 t) (iblk m c 1 t) (iblk m c 2 t) y
      = REF_v17 (m ((c : Thread nD τ).loc main_arg0)) (m ((c : Thread nD τ).loc main_arg1)) (m ((c : Thread nD τ).loc
        main_arg2)) (((cfg0.win 4).blk t).view.emb y) := by
  canon_tiles x h; all_goals (open_payloads; pointwise [REF_v17]; blk_point [iblk, V, idx_val t])

theorem final_4 (c : Dev nD) : (dats m 0 c).arrAt 4 (cfgs 0).N = REF_v17 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  exact point_4 m c t y

set_option maxHeartbeats 1600000 in
/-- What a grid point stores, in 2 pieces, is the reference at the place in the array. -/
theorem point_5 (c : Dev nD) (t : Fin cfg0.N) (y) :
    out0_5 (iblk m c 0 t) (iblk m c 1 t) (iblk m c 2 t) y
      = REF_v18 (m ((c : Thread nD τ).loc main_arg0)) (m ((c : Thread nD τ).loc main_arg1)) (m ((c : Thread nD τ).loc
        main_arg2)) (((cfg0.win 5).blk t).view.emb y) := by
  canon_tiles x h; all_goals (open_payloads; pointwise [REF_v18]; blk_point [iblk, V, idx_val t])

theorem final_5 (c : Dev nD) : (dats m 0 c).arrAt 5 (cfgs 0).N = REF_v18 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  exact point_5 m c t y

end Cert.Kernel12Ideal.Value

end
-- ==== Proof.Claims12.lean ====
/- The claims about `Kernel12` and `Reference12`: they run and leave their arguments, and their results are equal. -/
module

public import proofs.«01_k».proof.Defs
public import proofs.«01_k».proof.Proof.Gen.Kernel12
public import proofs.«01_k».proof.Proof.Gen.Kernel12Ideal.Frame
public import proofs.«01_k».proof.Proof.Gen.Reference12Ideal.Run
public import proofs.«01_k».proof.Proof.Value12
public import Idealize.ShloMosaic.Lib.Claim

@[expose] public section

noncomputable section

namespace Cert.Claims12

open Idealize.ShloMosaic Idealize.SL.Sem

/-- The two programs have the same text, so the same bodies. -/
theorem bodies_eq : Cert.Kernel12.defs₀ (F := Bits) = Cert.Kernel12Ideal.defs₀ (F := Bits) := by
  unfold Cert.Kernel12.defs₀ Cert.Kernel12Ideal.defs₀
  congr 1
  funext l a
  match l, a with
  | 0, (t, s) => rfl
  | ⟨_ + 1, h⟩, _ => exact absurd h (Nat.not_lt.2 (Nat.le_add_left _ _))

theorem defs_eq : Cert.Kernel12.defs (F := Bits) = Cert.Kernel12Ideal.defs (F := Bits) :=
  congrArg (Pipeline.defs Cert.Kernel12Ideal.pcfgs) bodies_eq

theorem frame_ideal : Cert.quiescent_Kernel12Ideal := fun m ρ _ => Cert.Kernel12Ideal.Gen.frame m ρ

theorem frame_kernel : Cert.quiescent_Kernel12 := fun m ρ _ =>
  (congrArg (fun d => θ_run d (onTc Cert.Kernel12.main) ⟨m, fun _ => 0, ρ⟩ _) defs_eq).mpr
    (Cert.Kernel12Ideal.Gen.frame (F := Bits) m ρ)

theorem frame_reference : Cert.quiescent_Reference12Ideal := by
  intro m ρ _
  hlo_run
  · simp
  · exact sem_eq_zero_of_no_sems rfl _

theorem algebraic : Cert.algebraic_Kernel12Ideal_Reference12Ideal := by
  pair_intro
  · run_from Cert.Kernel12Ideal.Gen.run_main m g
  · run_from Cert.Reference12Ideal.Value.run m' g'
    · exact (Cert.Kernel12Ideal.Value.final_3 m c).symm
    · exact (Cert.Kernel12Ideal.Value.final_4 m c).symm
    · exact (Cert.Kernel12Ideal.Value.final_5 m c).symm

end Cert.Claims12

end
-- ==== Proof.Value13.lean ====
/- The values of `Kernel13Ideal`'s launch over the extended reals: the arrays it leaves are the reference's formulas of the arguments. -/
module

public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula13

open Cert.Reference13Ideal Cert.Reference13Ideal.Gen

/-- The reference's result `main_v5`, of its arguments. -/
def REF (a0 : FVec Ideal Cert.Reference13Ideal.S4224x512 .bf16) (a1 : FVec Ideal Cert.Reference13Ideal.S4224x512 .bf16) (a2 : FVec Ideal Cert.Reference13Ideal.S1x1024x1024 .bf16) (a3 : FVec Ideal Cert.Reference13Ideal.S4224x1024 .f32) : FVec Ideal Cert.Reference13Ideal.S4224x1024 .f32 :=
  addf a3 (Host.dotGeneral dot_S4224x1024_S1024x1024_S4224x1024_1_0_0_1_n_n none (extf .f32 (concatenate S4224x1024 1 [⟨S4224x512, a0⟩, ⟨S4224x512, a1⟩] concatenates_S4224x512_S4224x512_S4224x1024_d1) bitsLt_bf16_f32) (extf .f32 (shapeCast _ a2 shapeCasts_S1x1024x1024_S1024x1024) bitsLt_bf16_f32))

end Cert.Formula13

namespace Cert.Kernel13Ideal.Value

open Cert.Kernel13Ideal Cert.Kernel13Ideal.Gen Cert.Formula13

variable (m : (ℓ : Loc nD τ sig) → Buf (Elt Ideal) ℓ)

/-- The block that each window has at a grid point, by the grid's coordinates. -/
theorem idx : ∀ t : Fin cfg0.N, win0_0.index t = ![(grid0.coords t 0).val, 0]
    ∧ win0_1.index t = ![(grid0.coords t 0).val, 0]
    ∧ win0_2.index t = ![0, 0, 0]
    ∧ win0_3.index t = ![0, 0, 0]
    ∧ win0_4.index t = ![(grid0.coords t 0).val, 0]
    ∧ win0_5.index t = ![(grid0.coords t 0).val, 0] :=
  (by decide +kernel : ∀ t : Fin grid0.N, _)

/-- The block that each window has at a grid point, by the point's number. -/
theorem idx_val : ∀ t : Fin cfg0.N, win0_0.index t = ![t.val, 0]
    ∧ win0_1.index t = ![t.val, 0]
    ∧ win0_2.index t = ![0, 0, 0]
    ∧ win0_3.index t = ![0, 0, 0]
    ∧ win0_4.index t = ![t.val, 0]
    ∧ win0_5.index t = ![t.val, 0] :=
  (by decide +kernel : ∀ t : Fin grid0.N, _)

set_option maxHeartbeats 1600000 in
/-- What a grid point stores, in 2 pieces, is the reference at the place in the array. -/
theorem point (c : Dev nD) (t : Fin cfg0.N) (y) :
    out0_5 (iblk m c 0 t) (iblk m c 1 t) (iblk m c 2 t) (iblk m c 3 t) (iblk m c 4 t) y
      = REF (m ((c : Thread nD τ).loc main_arg0)) (m ((c : Thread nD τ).loc main_arg1)) (m ((c : Thread nD τ).loc
        main_arg2)) (m ((c : Thread nD τ).loc main_arg3)) (((cfg0.win 5).blk t).view.emb y) := by
  canon_tiles x h; all_goals (open_payloads; pointwise [REF]; blk_point [iblk, V, idx_val t])

theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point m c t y

end Cert.Kernel13Ideal.Value

end
-- ==== Proof.Claims13.lean ====
/- The claims about `Kernel13` and `Reference13`: they run and leave their arguments, and their results are equal. -/
module

public import proofs.«01_k».proof.Defs
public import proofs.«01_k».proof.Proof.Gen.Kernel13
public import proofs.«01_k».proof.Proof.Gen.Kernel13Ideal.Frame
public import proofs.«01_k».proof.Proof.Gen.Reference13Ideal.Run
public import proofs.«01_k».proof.Proof.Value13
public import Idealize.ShloMosaic.Lib.Claim

@[expose] public section

noncomputable section

namespace Cert.Claims13

open Idealize.ShloMosaic Idealize.SL.Sem

/-- The two programs have the same text, so the same bodies. -/
theorem bodies_eq : Cert.Kernel13.defs₀ (F := Bits) = Cert.Kernel13Ideal.defs₀ (F := Bits) := by
  unfold Cert.Kernel13.defs₀ Cert.Kernel13Ideal.defs₀
  congr 1
  funext l a
  match l, a with
  | 0, (t, s) => rfl
  | ⟨_ + 1, h⟩, _ => exact absurd h (Nat.not_lt.2 (Nat.le_add_left _ _))

theorem defs_eq : Cert.Kernel13.defs (F := Bits) = Cert.Kernel13Ideal.defs (F := Bits) :=
  congrArg (Pipeline.defs Cert.Kernel13Ideal.pcfgs) bodies_eq

theorem frame_ideal : Cert.quiescent_Kernel13Ideal := fun m ρ _ => Cert.Kernel13Ideal.Gen.frame m ρ

theorem frame_kernel : Cert.quiescent_Kernel13 := fun m ρ _ =>
  (congrArg (fun d => θ_run d (onTc Cert.Kernel13.main) ⟨m, fun _ => 0, ρ⟩ _) defs_eq).mpr
    (Cert.Kernel13Ideal.Gen.frame (F := Bits) m ρ)

theorem frame_reference : Cert.quiescent_Reference13Ideal := by
  intro m ρ _
  hlo_run
  · simp
  · exact sem_eq_zero_of_no_sems rfl _

theorem algebraic : Cert.algebraic_Kernel13Ideal_Reference13Ideal := by
  pair_intro
  · run_from Cert.Kernel13Ideal.Gen.run_main m g
  · run_from Cert.Reference13Ideal.Value.run m' g'
    · exact (Cert.Kernel13Ideal.Value.final m c).symm

end Cert.Claims13

end
-- ==== Proof.Value14.lean ====
/- The values of `Kernel14Ideal`'s launch over the extended reals: the arrays it leaves are the reference's formulas of the arguments. -/
module

public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula14

open Cert.Reference14Ideal Cert.Reference14Ideal.Gen

/-- The reference's result `main_v23`, of its arguments. -/
def REF_v23 (a0 : FVec Ideal Cert.Reference14Ideal.S2x1024x640 .f32) (a1 : FVec Ideal Cert.Reference14Ideal.S2x1024x640 .f32) (a2 : FVec Ideal Cert.Reference14Ideal.S2x1024x640 .f32) (a3 : FVec Ideal Cert.Reference14Ideal.S2x1024x640 .f32) : FVec Ideal Cert.Reference14Ideal.S2x1024x640 .f32 :=
  mulf (broadcastInDim S2x1024x640 ![] bcast_S_S2x1024x640 (constant S_ .f32 0xBA83126F#32)) (addf (Host.divf (Host.divf (addf (mulf (broadcastInDim S2x1024x640 ![] bcast_S_S2x1024x640 (constant S_ .f32 0x3F666666#32)) a2) (mulf (broadcastInDim S2x1024x640 ![] bcast_S_S2x1024x640 (constant S_ .f32 0x3DCCCCCD#32)) a1)) (broadcastInDim S2x1024x640 ![] bcast_S_S2x1024x640 (constant S_ .f32 0x3F26BD02#32))) (addf (Host.sqrt (Host.divf (addf (mulf (broadcastInDim S2x1024x640 ![] bcast_S_S2x1024x640 (constant S_ .f32 0x3F7FBE77#32)) a3) (mulf (broadcastInDim S2x1024x640 ![] bcast_S_S2x1024x640 (constant S_ .f32 0x3A83126F#32)) (mulf a1 a1))) (broadcastInDim S2x1024x640 ![] bcast_S_S2x1024x640 (constant S_ .f32 0x3C231ACC#32)))) (broadcastInDim S2x1024x640 ![] bcast_S_S2x1024x640 (constant S_ .f32 0x322BCC77#32)))) (mulf (broadcastInDim S2x1024x640 ![] bcast_S_S2x1024x640 (constant S_ .f32 0x3C23D70A#32)) a0))

/-- The reference's result `main_v4`, of its arguments. -/
def REF_v4 (a1 : FVec Ideal Cert.Reference14Ideal.S2x1024x640 .f32) (a2 : FVec Ideal Cert.Reference14Ideal.S2x1024x640 .f32) : FVec Ideal Cert.Reference14Ideal.S2x1024x640 .f32 :=
  addf (mulf (broadcastInDim S2x1024x640 ![] bcast_S_S2x1024x640 (constant S_ .f32 0x3F666666#32)) a2) (mulf (broadcastInDim S2x1024x640 ![] bcast_S_S2x1024x640 (constant S_ .f32 0x3DCCCCCD#32)) a1)

/-- The reference's result `main_v10`, of its arguments. -/
def REF_v10 (a1 : FVec Ideal Cert.Reference14Ideal.S2x1024x640 .f32) (a3 : FVec Ideal Cert.Reference14Ideal.S2x1024x640 .f32) : FVec Ideal Cert.Reference14Ideal.S2x1024x640 .f32 :=
  addf (mulf (broadcastInDim S2x1024x640 ![] bcast_S_S2x1024x640 (constant S_ .f32 0x3F7FBE77#32)) a3) (mulf (broadcastInDim S2x1024x640 ![] bcast_S_S2x1024x640 (constant S_ .f32 0x3A83126F#32)) (mulf a1 a1))

end Cert.Formula14

namespace Cert.Kernel14Ideal.Value

open Cert.Kernel14Ideal Cert.Kernel14Ideal.Gen Cert.Formula14

variable (m : (ℓ : Loc nD τ sig) → Buf (Elt Ideal) ℓ)

/-- The block that each window has at a grid point, by the grid's coordinates. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0] :=
  (by decide +kernel : ∀ t : Fin grid0.N, _)

/-- The block that each window has at a grid point, by the point's number. -/
theorem idx_val : ∀ t : Fin cfg0.N, win0_0.index t = ![t.val / 2, t.val % 2, 0]
    ∧ win0_1.index t = ![t.val / 2, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0] :=
  (by decide +kernel : ∀ t : Fin grid0.N, _)

/-- What a grid point stores is the reference at the place in the array. -/
theorem point_4 (c : Dev nD) (t : Fin cfg0.N) (y) :
    k0_pay1 (k0_pay7 (iblk m c 0 t) (iblk m c 1 t) (iblk m c 2 t) (iblk m c 3 t)) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, k0_pay5, k0_pay6, k0_pay7, REF_v23]; blk_point [iblk, V, idx_val t]

/-- The result array after the run: its blocks tile the array. -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- What a grid point stores is the reference at the place in the array. -/
theorem point_5 (c : Dev nD) (t : Fin cfg0.N) (y) :
    k0_pay2 (k0_pay5 (iblk m c 1 t) (iblk m c 2 t)) y
      = REF_v4 (m ((c : Thread nD τ).loc main_arg1)) (m ((c : Thread nD τ).loc main_arg2)) (((cfg0.win 5).blk
        t).view.emb y) := by
  pointwise [k0_pay2, k0_pay5, REF_v4]; blk_point [iblk, V, idx_val t]

/-- The result array after the run: its blocks tile the array. -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- What a grid point stores is the reference at the place in the array. -/
theorem point_6 (c : Dev nD) (t : Fin cfg0.N) (y) :
    k0_pay3 (k0_pay6 (iblk m c 1 t) (iblk m c 3 t)) y
      = REF_v10 (m ((c : Thread nD τ).loc main_arg1)) (m ((c : Thread nD τ).loc main_arg3)) (((cfg0.win 6).blk
        t).view.emb y) := by
  pointwise [k0_pay3, k0_pay6, REF_v10]; blk_point [iblk, V, idx_val t]

/-- The result array after the run: its blocks tile the array. -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.Kernel14Ideal.Value

end
-- ==== Proof.Claims14.lean ====
/- The claims about `Kernel14` and `Reference14`: they run and leave their arguments, and their results are equal. -/
module

public import proofs.«01_k».proof.Defs
public import proofs.«01_k».proof.Proof.Gen.Kernel14
public import proofs.«01_k».proof.Proof.Gen.Kernel14Ideal.Frame
public import proofs.«01_k».proof.Proof.Gen.Reference14Ideal.Run
public import proofs.«01_k».proof.Proof.Value14
public import Idealize.ShloMosaic.Lib.Claim

@[expose] public section

noncomputable section

namespace Cert.Claims14

open Idealize.ShloMosaic Idealize.SL.Sem

/-- The two programs have the same text, so the same bodies. -/
theorem bodies_eq : Cert.Kernel14.defs₀ (F := Bits) = Cert.Kernel14Ideal.defs₀ (F := Bits) := by
  unfold Cert.Kernel14.defs₀ Cert.Kernel14Ideal.defs₀
  congr 1
  funext l a
  match l, a with
  | 0, (t, s) => rfl
  | ⟨_ + 1, h⟩, _ => exact absurd h (Nat.not_lt.2 (Nat.le_add_left _ _))

theorem defs_eq : Cert.Kernel14.defs (F := Bits) = Cert.Kernel14Ideal.defs (F := Bits) :=
  congrArg (Pipeline.defs Cert.Kernel14Ideal.pcfgs) bodies_eq

theorem frame_ideal : Cert.quiescent_Kernel14Ideal := fun m ρ _ => Cert.Kernel14Ideal.Gen.frame m ρ

theorem frame_kernel : Cert.quiescent_Kernel14 := fun m ρ _ =>
  (congrArg (fun d => θ_run d (onTc Cert.Kernel14.main) ⟨m, fun _ => 0, ρ⟩ _) defs_eq).mpr
    (Cert.Kernel14Ideal.Gen.frame (F := Bits) m ρ)

theorem frame_reference : Cert.quiescent_Reference14Ideal := by
  intro m ρ _
  hlo_run
  · simp
  · exact sem_eq_zero_of_no_sems rfl _

theorem algebraic : Cert.algebraic_Kernel14Ideal_Reference14Ideal := by
  pair_intro
  · run_from Cert.Kernel14Ideal.Gen.run_main m g
  · run_from Cert.Reference14Ideal.Value.run m' g'
    · exact (Cert.Kernel14Ideal.Value.final_4 m c).symm
    · exact (Cert.Kernel14Ideal.Value.final_5 m c).symm
    · exact (Cert.Kernel14Ideal.Value.final_6 m c).symm

end Cert.Claims14

end
-- ==== Proof.Value15.lean ====
/- The values of `Kernel15Ideal`'s launch over the extended reals: the arrays it leaves are the reference's formulas of the arguments. -/
module

public import proofs.«01_k».proof.Proof.Gen.Kernel15Ideal.Frame
public import proofs.«01_k».proof.Proof.Gen.Reference15Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula15

open Cert.Reference15Ideal Cert.Reference15Ideal.Gen

/-- The reference's result `main_v23`, of its arguments. -/
def REF_v23 (a0 : FVec Ideal Cert.Reference15Ideal.S2x256x1024 .f32) (a1 : FVec Ideal Cert.Reference15Ideal.S2x256x1024 .f32) (a2 : FVec Ideal Cert.Reference15Ideal.S2x256x1024 .f32) (a3 : FVec Ideal Cert.Reference15Ideal.S2x256x1024 .f32) : FVec Ideal Cert.Reference15Ideal.S2x256x1024 .f32 :=
  mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) a2) (mulf (broadcastInDim S2x256x1024 ![] bcast_S_S2x256x1024 (constant S_ .f32 0x3DCCCCCD#32)) a1)) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) a3) (mulf (broadcastInDim S2x256x1024 ![] bcast_S_S2x256x1024 (constant S_ .f32 0x3A83126F#32)) (mulf a1 a1))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) a0))

/-- The reference's result `main_v4`, of its arguments. -/
def REF_v4 (a1 : FVec Ideal Cert.Reference15Ideal.S2x256x1024 .f32) (a2 : FVec Ideal Cert.Reference15Ideal.S2x256x1024 .f32) : FVec Ideal Cert.Reference15Ideal.S2x256x1024 .f32 :=
  addf (mulf (broadcastInDim S2x256x1024 ![] bcast_S_S2x256x1024 (constant S_ .f32 0x3F666666#32)) a2) (mulf (broadcastInDim S2x256x1024 ![] bcast_S_S2x256x1024 (constant S_ .f32 0x3DCCCCCD#32)) a1)

/-- The reference's result `main_v10`, of its arguments. -/
def REF_v10 (a1 : FVec Ideal Cert.Reference15Ideal.S2x256x1024 .f32) (a3 : FVec Ideal Cert.Reference15Ideal.S2x256x1024 .f32) : FVec Ideal Cert.Reference15Ideal.S2x256x1024 .f32 :=
  addf (mulf (broadcastInDim S2x256x1024 ![] bcast_S_S2x256x1024 (constant S_ .f32 0x3F7FBE77#32)) a3) (mulf (broadcastInDim S2x256x1024 ![] bcast_S_S2x256x1024 (constant S_ .f32 0x3A83126F#32)) (mulf a1 a1))

end Cert.Formula15

namespace Cert.Kernel15Ideal.Value

open Cert.Kernel15Ideal Cert.Kernel15Ideal.Gen Cert.Formula15

variable (m : (ℓ : Loc nD τ sig) → Buf (Elt Ideal) ℓ)

/-- The block that each window has at a grid point, by the grid's coordinates. -/
theorem idx : ∀ t : Fin cfg0.N, win0_0.index t = ![(grid0.coords t 0).val, 0, 0]
    ∧ win0_1.index t = ![(grid0.coords t 0).val, 0, 0]
    ∧ win0_2.index t = ![(grid0.coords t 0).val, 0, 0]
    ∧ win0_3.index t = ![(grid0.coords t 0).val, 0, 0]
    ∧ win0_4.index t = ![(grid0.coords t 0).val, 0, 0]
    ∧ win0_5.index t = ![(grid0.coords t 0).val, 0, 0]
    ∧ win0_6.index t = ![(grid0.coords t 0).val, 0, 0] :=
  (by decide +kernel : ∀ t : Fin grid0.N, _)

/-- The block that each window has at a grid point, by the point's number. -/
theorem idx_val : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0] :=
  (by decide +kernel : ∀ t : Fin grid0.N, _)

/-- What a grid point stores is the reference at the place in the array. -/
theorem point_4 (c : Dev nD) (t : Fin cfg0.N) (y) :
    k0_pay1 (k0_pay7 (iblk m c 0 t) (iblk m c 1 t) (iblk m c 2 t) (iblk m c 3 t)) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, k0_pay5, k0_pay6, k0_pay7, REF_v23]; blk_point [iblk, V, idx_val t]

/-- The result array after the run: its blocks tile the array. -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- What a grid point stores is the reference at the place in the array. -/
theorem point_5 (c : Dev nD) (t : Fin cfg0.N) (y) :
    k0_pay2 (k0_pay5 (iblk m c 1 t) (iblk m c 2 t)) y
      = REF_v4 (m ((c : Thread nD τ).loc main_arg1)) (m ((c : Thread nD τ).loc main_arg2)) (((cfg0.win 5).blk
        t).view.emb y) := by
  pointwise [k0_pay2, k0_pay5, REF_v4]; blk_point [iblk, V, idx_val t]

/-- The result array after the run: its blocks tile the array. -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- What a grid point stores is the reference at the place in the array. -/
theorem point_6 (c : Dev nD) (t : Fin cfg0.N) (y) :
    k0_pay3 (k0_pay6 (iblk m c 1 t) (iblk m c 3 t)) y
      = REF_v10 (m ((c : Thread nD τ).loc main_arg1)) (m ((c : Thread nD τ).loc main_arg3)) (((cfg0.win 6).blk
        t).view.emb y) := by
  pointwise [k0_pay3, k0_pay6, REF_v10]; blk_point [iblk, V, idx_val t]

/-- The result array after the run: its blocks tile the array. -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.Kernel15Ideal.Value

end
-- ==== Proof.Claims15.lean ====
/- The claims about `Kernel15` and `Reference15`: they run and leave their arguments, and their results are equal. -/
module

public import proofs.«01_k».proof.Defs
public import proofs.«01_k».proof.Proof.Gen.Kernel15
public import proofs.«01_k».proof.Proof.Gen.Kernel15Ideal.Frame
public import proofs.«01_k».proof.Proof.Gen.Reference15Ideal.Run
public import proofs.«01_k».proof.Proof.Value15
public import Idealize.ShloMosaic.Lib.Claim

@[expose] public section

noncomputable section

namespace Cert.Claims15

open Idealize.ShloMosaic Idealize.SL.Sem

/-- The two programs have the same text, so the same bodies. -/
theorem bodies_eq : Cert.Kernel15.defs₀ (F := Bits) = Cert.Kernel15Ideal.defs₀ (F := Bits) := by
  unfold Cert.Kernel15.defs₀ Cert.Kernel15Ideal.defs₀
  congr 1
  funext l a
  match l, a with
  | 0, (t, s) => rfl
  | ⟨_ + 1, h⟩, _ => exact absurd h (Nat.not_lt.2 (Nat.le_add_left _ _))

theorem defs_eq : Cert.Kernel15.defs (F := Bits) = Cert.Kernel15Ideal.defs (F := Bits) :=
  congrArg (Pipeline.defs Cert.Kernel15Ideal.pcfgs) bodies_eq

theorem frame_ideal : Cert.quiescent_Kernel15Ideal := fun m ρ _ => Cert.Kernel15Ideal.Gen.frame m ρ

theorem frame_kernel : Cert.quiescent_Kernel15 := fun m ρ _ =>
  (congrArg (fun d => θ_run d (onTc Cert.Kernel15.main) ⟨m, fun _ => 0, ρ⟩ _) defs_eq).mpr
    (Cert.Kernel15Ideal.Gen.frame (F := Bits) m ρ)

theorem frame_reference : Cert.quiescent_Reference15Ideal := by
  intro m ρ _
  hlo_run
  · simp
  · exact sem_eq_zero_of_no_sems rfl _

theorem algebraic : Cert.algebraic_Kernel15Ideal_Reference15Ideal := by
  pair_intro
  · run_from Cert.Kernel15Ideal.Gen.run_main m g
  · run_from Cert.Reference15Ideal.Value.run m' g'
    · exact (Cert.Kernel15Ideal.Value.final_4 m c).symm
    · exact (Cert.Kernel15Ideal.Value.final_5 m c).symm
    · exact (Cert.Kernel15Ideal.Value.final_6 m c).symm

end Cert.Claims15

end
-- ==== Proof.Value16.lean ====
/- The values of `Kernel16Ideal`'s launch over the extended reals: the arrays it leaves are the reference's formulas of the arguments. -/
module

public import proofs.«01_k».proof.Proof.Gen.Kernel16Ideal.Frame
public import proofs.«01_k».proof.Proof.Gen.Reference16Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Formula16

open Cert.Reference16Ideal Cert.Reference16Ideal.Gen

/-- The reference's result `main_v23`, of its arguments. -/
def REF_v23 (a0 : FVec Ideal Cert.Reference16Ideal.S2x704x1024 .f32) (a1 : FVec Ideal Cert.Reference16Ideal.S2x704x1024 .f32) (a2 : FVec Ideal Cert.Reference16Ideal.S2x704x1024 .f32) (a3 : FVec Ideal Cert.Reference16Ideal.S2x704x1024 .f32) : FVec Ideal Cert.Reference16Ideal.S2x704x1024 .f32 :=
  mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) a2) (mulf (broadcastInDim S2x704x1024 ![] bcast_S_S2x704x1024 (constant S_ .f32 0x3DCCCCCD#32)) a1)) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) a3) (mulf (broadcastInDim S2x704x1024 ![] bcast_S_S2x704x1024 (constant S_ .f32 0x3A83126F#32)) (mulf a1 a1))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) a0))

/-- The reference's result `main_v4`, of its arguments. -/
def REF_v4 (a1 : FVec Ideal Cert.Reference16Ideal.S2x704x1024 .f32) (a2 : FVec Ideal Cert.Reference16Ideal.S2x704x1024 .f32) : FVec Ideal Cert.Reference16Ideal.S2x704x1024 .f32 :=
  addf (mulf (broadcastInDim S2x704x1024 ![] bcast_S_S2x704x1024 (constant S_ .f32 0x3F666666#32)) a2) (mulf (broadcastInDim S2x704x1024 ![] bcast_S_S2x704x1024 (constant S_ .f32 0x3DCCCCCD#32)) a1)

/-- The reference's result `main_v10`, of its arguments. -/
def REF_v10 (a1 : FVec Ideal Cert.Reference16Ideal.S2x704x1024 .f32) (a3 : FVec Ideal Cert.Reference16Ideal.S2x704x1024 .f32) : FVec Ideal Cert.Reference16Ideal.S2x704x1024 .f32 :=
  addf (mulf (broadcastInDim S2x704x1024 ![] bcast_S_S2x704x1024 (constant S_ .f32 0x3F7FBE77#32)) a3) (mulf (broadcastInDim S2x704x1024 ![] bcast_S_S2x704x1024 (constant S_ .f32 0x3A83126F#32)) (mulf a1 a1))

end Cert.Formula16

namespace Cert.Kernel16Ideal.Value

open Cert.Kernel16Ideal Cert.Kernel16Ideal.Gen Cert.Formula16

variable (m : (ℓ : Loc nD τ sig) → Buf (Elt Ideal) ℓ)

/-- The block that each window has at a grid point, by the grid's coordinates. -/
theorem idx : ∀ t : Fin cfg0.N, win0_0.index t = ![(grid0.coords t 0).val, 0, 0]
    ∧ win0_1.index t = ![(grid0.coords t 0).val, 0, 0]
    ∧ win0_2.index t = ![(grid0.coords t 0).val, 0, 0]
    ∧ win0_3.index t = ![(grid0.coords t 0).val, 0, 0]
    ∧ win0_4.index t = ![(grid0.coords t 0).val, 0, 0]
    ∧ win0_5.index t = ![(grid0.coords t 0).val, 0, 0]
    ∧ win0_6.index t = ![(grid0.coords t 0).val, 0, 0] :=
  (by decide +kernel : ∀ t : Fin grid0.N, _)

/-- The block that each window has at a grid point, by the point's number. -/
theorem idx_val : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0] :=
  (by decide +kernel : ∀ t : Fin grid0.N, _)

/-- What a grid point stores is the reference at the place in the array. -/
theorem point_4 (c : Dev nD) (t : Fin cfg0.N) (y) :
    k0_pay1 (k0_pay7 (iblk m c 0 t) (iblk m c 1 t) (iblk m c 2 t) (iblk m c 3 t)) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, k0_pay5, k0_pay6, k0_pay7, REF_v23]; blk_point [iblk, V, idx_val t]

/-- The result array after the run: its blocks tile the array. -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- What a grid point stores is the reference at the place in the array. -/
theorem point_5 (c : Dev nD) (t : Fin cfg0.N) (y) :
    k0_pay2 (k0_pay5 (iblk m c 1 t) (iblk m c 2 t)) y
      = REF_v4 (m ((c : Thread nD τ).loc main_arg1)) (m ((c : Thread nD τ).loc main_arg2)) (((cfg0.win 5).blk
        t).view.emb y) := by
  pointwise [k0_pay2, k0_pay5, REF_v4]; blk_point [iblk, V, idx_val t]

/-- The result array after the run: its blocks tile the array. -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- What a grid point stores is the reference at the place in the array. -/
theorem point_6 (c : Dev nD) (t : Fin cfg0.N) (y) :
    k0_pay3 (k0_pay6 (iblk m c 1 t) (iblk m c 3 t)) y
      = REF_v10 (m ((c : Thread nD τ).loc main_arg1)) (m ((c : Thread nD τ).loc main_arg3)) (((cfg0.win 6).blk
        t).view.emb y) := by
  pointwise [k0_pay3, k0_pay6, REF_v10]; blk_point [iblk, V, idx_val t]

/-- The result array after the run: its blocks tile the array. -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.Kernel16Ideal.Value

end
-- ==== Proof.Claims16.lean ====
/- The claims about `Kernel16` and `Reference16`: they run and leave their arguments, and their results are equal. -/
module

public import proofs.«01_k».proof.Defs
public import proofs.«01_k».proof.Proof.Gen.Kernel16
public import proofs.«01_k».proof.Proof.Gen.Kernel16Ideal.Frame
public import proofs.«01_k».proof.Proof.Gen.Reference16Ideal.Run
public import proofs.«01_k».proof.Proof.Value16
public import Idealize.ShloMosaic.Lib.Claim

@[expose] public section

noncomputable section

namespace Cert.Claims16

open Idealize.ShloMosaic Idealize.SL.Sem

/-- The two programs have the same text, so the same bodies. -/
theorem bodies_eq : Cert.Kernel16.defs₀ (F := Bits) = Cert.Kernel16Ideal.defs₀ (F := Bits) := by
  unfold Cert.Kernel16.defs₀ Cert.Kernel16Ideal.defs₀
  congr 1
  funext l a
  match l, a with
  | 0, (t, s) => rfl
  | ⟨_ + 1, h⟩, _ => exact absurd h (Nat.not_lt.2 (Nat.le_add_left _ _))

theorem defs_eq : Cert.Kernel16.defs (F := Bits) = Cert.Kernel16Ideal.defs (F := Bits) :=
  congrArg (Pipeline.defs Cert.Kernel16Ideal.pcfgs) bodies_eq

theorem frame_ideal : Cert.quiescent_Kernel16Ideal := fun m ρ _ => Cert.Kernel16Ideal.Gen.frame m ρ

theorem frame_kernel : Cert.quiescent_Kernel16 := fun m ρ _ =>
  (congrArg (fun d => θ_run d (onTc Cert.Kernel16.main) ⟨m, fun _ => 0, ρ⟩ _) defs_eq).mpr
    (Cert.Kernel16Ideal.Gen.frame (F := Bits) m ρ)

theorem frame_reference : Cert.quiescent_Reference16Ideal := by
  intro m ρ _
  hlo_run
  · simp
  · exact sem_eq_zero_of_no_sems rfl _

theorem algebraic : Cert.algebraic_Kernel16Ideal_Reference16Ideal := by
  pair_intro
  · run_from Cert.Kernel16Ideal.Gen.run_main m g
  · run_from Cert.Reference16Ideal.Value.run m' g'
    · exact (Cert.Kernel16Ideal.Value.final_4 m c).symm
    · exact (Cert.Kernel16Ideal.Value.final_5 m c).symm
    · exact (Cert.Kernel16Ideal.Value.final_6 m c).symm

end Cert.Claims16

end
-- ==== Proof.lean ====
module

public import proofs.«01_k».proof.Defs
public import proofs.«01_k».proof.Proof.Claims1
public import proofs.«01_k».proof.Proof.Claims2
public import proofs.«01_k».proof.Proof.Claims3
public import proofs.«01_k».proof.Proof.Claims4
public import proofs.«01_k».proof.Proof.Claims5
public import proofs.«01_k».proof.Proof.Claims6
public import proofs.«01_k».proof.Proof.Claims7
public import proofs.«01_k».proof.Proof.Claims8
public import proofs.«01_k».proof.Proof.Claims9
public import proofs.«01_k».proof.Proof.Claims10
public import proofs.«01_k».proof.Proof.Claims11
public import proofs.«01_k».proof.Proof.Claims12
public import proofs.«01_k».proof.Proof.Claims13
public import proofs.«01_k».proof.Proof.Claims14
public import proofs.«01_k».proof.Proof.Claims15
public import proofs.«01_k».proof.Proof.Claims16
public import proofs.«01_k».proof.Proof.Gen.Pre_all_finite
public import proofs.«01_k».proof.Proof.Gen.Pre_all_finite2
public import proofs.«01_k».proof.Proof.Gen.Pre_all_finite3
public import proofs.«01_k».proof.Proof.Gen.Pre_all_finite6

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Pre_all_finite.Gen.facts, Cert.Pre_all_finite2.Gen.facts,
    Cert.Pre_all_finite3.Gen.facts, Cert.Pre_all_finite6.Gen.facts,
    Cert.Claims1.frame_kernel, Cert.Claims1.frame_ideal, Cert.Claims1.frame_ideal_pre, Cert.Claims1.frame_reference,
    Cert.Claims1.frame_reference_pre, Cert.Claims2.frame_kernel, Cert.Claims2.frame_ideal,
    Cert.Claims2.frame_ideal_pre, Cert.Claims2.frame_reference, Cert.Claims2.frame_reference_pre,
    Cert.Claims3.frame_kernel, Cert.Claims3.frame_ideal, Cert.Claims3.frame_ideal_pre, Cert.Claims3.frame_reference,
    Cert.Claims3.frame_reference_pre, Cert.Claims4.frame_kernel, Cert.Claims4.frame_ideal,
    Cert.Claims4.frame_reference, Cert.Claims5.frame_kernel, Cert.Claims5.frame_ideal, Cert.Claims5.frame_reference,
    Cert.Claims6.frame_kernel, Cert.Claims6.frame_ideal, Cert.Claims6.frame_ideal_pre, Cert.Claims6.frame_reference,
    Cert.Claims6.frame_reference_pre, Cert.Claims7.frame_kernel, Cert.Claims7.frame_ideal,
    Cert.Claims7.frame_reference, Cert.Claims8.frame_kernel, Cert.Claims8.frame_ideal, Cert.Claims8.frame_reference,
    Cert.Claims9.frame_kernel, Cert.Claims9.frame_ideal, Cert.Claims9.frame_reference, Cert.Claims10.frame_kernel,
    Cert.Claims10.frame_ideal, Cert.Claims10.frame_reference, Cert.Claims11.frame_kernel, Cert.Claims11.frame_ideal,
    Cert.Claims11.frame_reference, Cert.Claims12.frame_kernel, Cert.Claims12.frame_ideal,
    Cert.Claims12.frame_reference, Cert.Claims13.frame_kernel, Cert.Claims13.frame_ideal,
    Cert.Claims13.frame_reference, Cert.Claims14.frame_kernel, Cert.Claims14.frame_ideal,
    Cert.Claims14.frame_reference, Cert.Claims15.frame_kernel, Cert.Claims15.frame_ideal,
    Cert.Claims15.frame_reference, Cert.Claims16.frame_kernel, Cert.Claims16.frame_ideal,
    Cert.Claims16.frame_reference, trivial, Cert.Claims1.algebraic, trivial, Cert.Claims2.algebraic, trivial,
    Cert.Claims3.algebraic, trivial, Cert.Claims4.algebraic, trivial, Cert.Claims5.algebraic, trivial,
    Cert.Claims6.algebraic, trivial, Cert.Claims7.algebraic, trivial, Cert.Claims8.algebraic, trivial,
    Cert.Claims9.algebraic, trivial, Cert.Claims10.algebraic, trivial, Cert.Claims11.algebraic, trivial,
    Cert.Claims12.algebraic, trivial, Cert.Claims13.algebraic, trivial, Cert.Claims14.algebraic, trivial,
    Cert.Claims15.algebraic, trivial, Cert.Claims16.algebraic⟩

end Cert.Proof
